-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_inputs [hPre_fox_inputs : Cert.Pre_fox_inputs.Facts] (m : (ℓ : Loc Cert.FoxIdeal.nD Cert.FoxIdeal.τ Cert.FoxIdeal.sig) → Buf (Elt Ideal) ℓ) : Prop :=
  ∀ c : Dev Cert.FoxIdeal.nD,
    (Cert.Pre_fox_inputs.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_inputs [hPre_fox_inputs : Cert.Pre_fox_inputs.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_inputs.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_InProjLast (m : (ℓ : Loc Cert.InProjLast.nD Cert.InProjLast.τ Cert.InProjLast.sig) → Buf (Elt Bits) ℓ) : Prop :=
  True

def Pre_InProjLastIdeal (m : (ℓ : Loc Cert.InProjLastIdeal.nD Cert.InProjLastIdeal.τ Cert.InProjLastIdeal.sig) → Buf (Elt Ideal) ℓ) : Prop :=
  True

def Pre_InProjLastReferenceIdeal (m : (ℓ : Loc Cert.InProjLastReferenceIdeal.nD Cert.InProjLastReferenceIdeal.τ Cert.InProjLastReferenceIdeal.sig) → Buf (Elt Ideal) ℓ) : Prop :=
  True

def Pre_MergeFirst (m : (ℓ : Loc Cert.MergeFirst.nD Cert.MergeFirst.τ Cert.MergeFirst.sig) → Buf (Elt Bits) ℓ) : Prop :=
  True

def Pre_MergeFirstIdeal (m : (ℓ : Loc Cert.MergeFirstIdeal.nD Cert.MergeFirstIdeal.τ Cert.MergeFirstIdeal.sig) → Buf (Elt Ideal) ℓ) : Prop :=
  True

def Pre_MergeFirstReferenceIdeal (m : (ℓ : Loc Cert.MergeFirstReferenceIdeal.nD Cert.MergeFirstReferenceIdeal.τ Cert.MergeFirstReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_mem_inputs [hPre_mem_inputs : Cert.Pre_mem_inputs.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_mem_inputs.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1))) = (fun _ => 1#1)

def Pre_MemAttnReferenceIdeal (m : (ℓ : Loc Cert.MemAttnReferenceIdeal.nD Cert.MemAttnReferenceIdeal.τ Cert.MemAttnReferenceIdeal.sig) → Buf (Elt Ideal) ℓ) : Prop :=
  True

def Pre_MemAttnReferenceIdeal_mem_inputs [hPre_mem_inputs : Cert.Pre_mem_inputs.Facts] (m : (ℓ : Loc Cert.MemAttnReferenceIdeal.nD Cert.MemAttnReferenceIdeal.τ Cert.MemAttnReferenceIdeal.sig) → Buf (Elt Ideal) ℓ) : Prop :=
  ∀ c : Dev Cert.MemAttnReferenceIdeal.nD,
    (Cert.Pre_mem_inputs.fn (F := Ideal) (m ((c.tc : Thread Cert.MemAttnReferenceIdeal.nD Cert.MemAttnReferenceIdeal.τ).loc Cert.MemAttnReferenceIdeal.main_arg0)) (m ((c.tc : Thread Cert.MemAttnReferenceIdeal.nD Cert.MemAttnReferenceIdeal.τ).loc Cert.MemAttnReferenceIdeal.main_arg1))) = (fun _ => 1#1)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_fox_inputs [hFoxIdeal : Cert.FoxIdeal.Facts] [hPre_fox_inputs : Cert.Pre_fox_inputs.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_inputs m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def quiescent_FoxReferenceIdeal_pre_fox_inputs [hFoxReferenceIdeal : Cert.FoxReferenceIdeal.Facts] [hPre_fox_inputs : Cert.Pre_fox_inputs.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_inputs m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_InProjLast [hInProjLast : Cert.InProjLast.Facts] : Prop :=
  ∀ (m : (ℓ : Loc Cert.InProjLast.nD Cert.InProjLast.τ Cert.InProjLast.sig) → Buf (Elt Bits) ℓ) (g : Dev Cert.InProjLast.nD → PrngReg), Pre_InProjLast m →
    θ_run (Cert.InProjLast.defs (F := Bits)) (onTc (τ := Cert.InProjLast.τ) (Cert.InProjLast.main (F := Bits))) ⟨m, fun _ => 0, g⟩ (fun r => (∀ c : Dev Cert.InProjLast.nD,
      r.2.mem ((c.tc : Thread Cert.InProjLast.nD Cert.InProjLast.τ).loc Cert.InProjLast.main_arg0) = m ((c.tc : Thread Cert.InProjLast.nD Cert.InProjLast.τ).loc Cert.InProjLast.main_arg0)
      ∧ r.2.mem ((c.tc : Thread Cert.InProjLast.nD Cert.InProjLast.τ).loc Cert.InProjLast.main_arg1) = m ((c.tc : Thread Cert.InProjLast.nD Cert.InProjLast.τ).loc Cert.InProjLast.main_arg1)
      ∧ r.2.mem ((c.tc : Thread Cert.InProjLast.nD Cert.InProjLast.τ).loc Cert.InProjLast.main_arg2) = m ((c.tc : Thread Cert.InProjLast.nD Cert.InProjLast.τ).loc Cert.InProjLast.main_arg2)
      ∧ r.2.mem ((c.tc : Thread Cert.InProjLast.nD Cert.InProjLast.τ).loc Cert.InProjLast.main_arg3) = m ((c.tc : Thread Cert.InProjLast.nD Cert.InProjLast.τ).loc Cert.InProjLast.main_arg3))
      ∧ r.2.sem = fun _ => 0)

def quiescent_InProjLastIdeal [hInProjLastIdeal : Cert.InProjLastIdeal.Facts] : Prop :=
  ∀ (m : (ℓ : Loc Cert.InProjLastIdeal.nD Cert.InProjLastIdeal.τ Cert.InProjLastIdeal.sig) → Buf (Elt Ideal) ℓ) (g : Dev Cert.InProjLastIdeal.nD → PrngReg), Pre_InProjLastIdeal m →
    θ_run (Cert.InProjLastIdeal.defs (F := Ideal)) (onTc (τ := Cert.InProjLastIdeal.τ) (Cert.InProjLastIdeal.main (F := Ideal))) ⟨m, fun _ => 0, g⟩ (fun r => (∀ c : Dev Cert.InProjLastIdeal.nD,
      r.2.mem ((c.tc : Thread Cert.InProjLastIdeal.nD Cert.InProjLastIdeal.τ).loc Cert.InProjLastIdeal.main_arg0) = m ((c.tc : Thread Cert.InProjLastIdeal.nD Cert.InProjLastIdeal.τ).loc Cert.InProjLastIdeal.main_arg0)
      ∧ r.2.mem ((c.tc : Thread Cert.InProjLastIdeal.nD Cert.InProjLastIdeal.τ).loc Cert.InProjLastIdeal.main_arg1) = m ((c.tc : Thread Cert.InProjLastIdeal.nD Cert.InProjLastIdeal.τ).loc Cert.InProjLastIdeal.main_arg1)
      ∧ r.2.mem ((c.tc : Thread Cert.InProjLastIdeal.nD Cert.InProjLastIdeal.τ).loc Cert.InProjLastIdeal.main_arg2) = m ((c.tc : Thread Cert.InProjLastIdeal.nD Cert.InProjLastIdeal.τ).loc Cert.InProjLastIdeal.main_arg2)
      ∧ r.2.mem ((c.tc : Thread Cert.InProjLastIdeal.nD Cert.InProjLastIdeal.τ).loc Cert.InProjLastIdeal.main_arg3) = m ((c.tc : Thread Cert.InProjLastIdeal.nD Cert.InProjLastIdeal.τ).loc Cert.InProjLastIdeal.main_arg3))
      ∧ r.2.sem = fun _ => 0)

def quiescent_InProjLastReferenceIdeal [hInProjLastReferenceIdeal : Cert.InProjLastReferenceIdeal.Facts] : Prop :=
  ∀ (m : (ℓ : Loc Cert.InProjLastReferenceIdeal.nD Cert.InProjLastReferenceIdeal.τ Cert.InProjLastReferenceIdeal.sig) → Buf (Elt Ideal) ℓ) (g : Dev Cert.InProjLastReferenceIdeal.nD → PrngReg), Pre_InProjLastReferenceIdeal m →
    θ_run (Cert.InProjLastReferenceIdeal.defs (F := Ideal)) (onTc (τ := Cert.InProjLastReferenceIdeal.τ) (Cert.InProjLastReferenceIdeal.main (F := Ideal))) ⟨m, fun _ => 0, g⟩ (fun r => (∀ c : Dev Cert.InProjLastReferenceIdeal.nD,
      r.2.mem ((c.tc : Thread Cert.InProjLastReferenceIdeal.nD Cert.InProjLastReferenceIdeal.τ).loc Cert.InProjLastReferenceIdeal.main_arg0) = m ((c.tc : Thread Cert.InProjLastReferenceIdeal.nD Cert.InProjLastReferenceIdeal.τ).loc Cert.InProjLastReferenceIdeal.main_arg0)
      ∧ r.2.mem ((c.tc : Thread Cert.InProjLastReferenceIdeal.nD Cert.InProjLastReferenceIdeal.τ).loc Cert.InProjLastReferenceIdeal.main_arg1) = m ((c.tc : Thread Cert.InProjLastReferenceIdeal.nD Cert.InProjLastReferenceIdeal.τ).loc Cert.InProjLastReferenceIdeal.main_arg1)
      ∧ r.2.mem ((c.tc : Thread Cert.InProjLastReferenceIdeal.nD Cert.InProjLastReferenceIdeal.τ).loc Cert.InProjLastReferenceIdeal.main_arg2) = m ((c.tc : Thread Cert.InProjLastReferenceIdeal.nD Cert.InProjLastReferenceIdeal.τ).loc Cert.InProjLastReferenceIdeal.main_arg2)
      ∧ r.2.mem ((c.tc : Thread Cert.InProjLastReferenceIdeal.nD Cert.InProjLastReferenceIdeal.τ).loc Cert.InProjLastReferenceIdeal.main_arg3) = m ((c.tc : Thread Cert.InProjLastReferenceIdeal.nD Cert.InProjLastReferenceIdeal.τ).loc Cert.InProjLastReferenceIdeal.main_arg3))
      ∧ r.2.sem = fun _ => 0)

def quiescent_MergeFirst [hMergeFirst : Cert.MergeFirst.Facts] : Prop :=
  ∀ (m : (ℓ : Loc Cert.MergeFirst.nD Cert.MergeFirst.τ Cert.MergeFirst.sig) → Buf (Elt Bits) ℓ) (g : Dev Cert.MergeFirst.nD → PrngReg), Pre_MergeFirst m →
    θ_run (Cert.MergeFirst.defs (F := Bits)) (onTc (τ := Cert.MergeFirst.τ) (Cert.MergeFirst.main (F := Bits))) ⟨m, fun _ => 0, g⟩ (fun r => (∀ c : Dev Cert.MergeFirst.nD,
      r.2.mem ((c.tc : Thread Cert.MergeFirst.nD Cert.MergeFirst.τ).loc Cert.MergeFirst.main_arg0) = m ((c.tc : Thread Cert.MergeFirst.nD Cert.MergeFirst.τ).loc Cert.MergeFirst.main_arg0)
      ∧ r.2.mem ((c.tc : Thread Cert.MergeFirst.nD Cert.MergeFirst.τ).loc Cert.MergeFirst.main_arg1) = m ((c.tc : Thread Cert.MergeFirst.nD Cert.MergeFirst.τ).loc Cert.MergeFirst.main_arg1)
      ∧ r.2.mem ((c.tc : Thread Cert.MergeFirst.nD Cert.MergeFirst.τ).loc Cert.MergeFirst.main_arg2) = m ((c.tc : Thread Cert.MergeFirst.nD Cert.MergeFirst.τ).loc Cert.MergeFirst.main_arg2)
      ∧ r.2.mem ((c.tc : Thread Cert.MergeFirst.nD Cert.MergeFirst.τ).loc Cert.MergeFirst.main_arg3) = m ((c.tc : Thread Cert.MergeFirst.nD Cert.MergeFirst.τ).loc Cert.MergeFirst.main_arg3)
      ∧ r.2.mem ((c.tc : Thread Cert.MergeFirst.nD Cert.MergeFirst.τ).loc Cert.MergeFirst.main_arg4) = m ((c.tc : Thread Cert.MergeFirst.nD Cert.MergeFirst.τ).loc Cert.MergeFirst.main_arg4)
      ∧ r.2.mem ((c.tc : Thread Cert.MergeFirst.nD Cert.MergeFirst.τ).loc Cert.MergeFirst.main_arg5) = m ((c.tc : Thread Cert.MergeFirst.nD Cert.MergeFirst.τ).loc Cert.MergeFirst.main_arg5)
      ∧ r.2.mem ((c.tc : Thread Cert.MergeFirst.nD Cert.MergeFirst.τ).loc Cert.MergeFirst.main_arg6) = m ((c.tc : Thread Cert.MergeFirst.nD Cert.MergeFirst.τ).loc Cert.MergeFirst.main_arg6)
      ∧ r.2.mem ((c.tc : Thread Cert.MergeFirst.nD Cert.MergeFirst.τ).loc Cert.MergeFirst.main_arg7) = m ((c.tc : Thread Cert.MergeFirst.nD Cert.MergeFirst.τ).loc Cert.MergeFirst.main_arg7))
      ∧ r.2.sem = fun _ => 0)

def quiescent_MergeFirstIdeal [hMergeFirstIdeal : Cert.MergeFirstIdeal.Facts] : Prop :=
  ∀ (m : (ℓ : Loc Cert.MergeFirstIdeal.nD Cert.MergeFirstIdeal.τ Cert.MergeFirstIdeal.sig) → Buf (Elt Ideal) ℓ) (g : Dev Cert.MergeFirstIdeal.nD → PrngReg), Pre_MergeFirstIdeal m →
    θ_run (Cert.MergeFirstIdeal.defs (F := Ideal)) (onTc (τ := Cert.MergeFirstIdeal.τ) (Cert.MergeFirstIdeal.main (F := Ideal))) ⟨m, fun _ => 0, g⟩ (fun r => (∀ c : Dev Cert.MergeFirstIdeal.nD,
      r.2.mem ((c.tc : Thread Cert.MergeFirstIdeal.nD Cert.MergeFirstIdeal.τ).loc Cert.MergeFirstIdeal.main_arg0) = m ((c.tc : Thread Cert.MergeFirstIdeal.nD Cert.MergeFirstIdeal.τ).loc Cert.MergeFirstIdeal.main_arg0)
      ∧ r.2.mem ((c.tc : Thread Cert.MergeFirstIdeal.nD Cert.MergeFirstIdeal.τ).loc Cert.MergeFirstIdeal.main_arg1) = m ((c.tc : Thread Cert.MergeFirstIdeal.nD Cert.MergeFirstIdeal.τ).loc Cert.MergeFirstIdeal.main_arg1)
      ∧ r.2.mem ((c.tc : Thread Cert.MergeFirstIdeal.nD Cert.MergeFirstIdeal.τ).loc Cert.MergeFirstIdeal.main_arg2) = m ((c.tc : Thread Cert.MergeFirstIdeal.nD Cert.MergeFirstIdeal.τ).loc Cert.MergeFirstIdeal.main_arg2)
      ∧ r.2.mem ((c.tc : Thread Cert.MergeFirstIdeal.nD Cert.MergeFirstIdeal.τ).loc Cert.MergeFirstIdeal.main_arg3) = m ((c.tc : Thread Cert.MergeFirstIdeal.nD Cert.MergeFirstIdeal.τ).loc Cert.MergeFirstIdeal.main_arg3)
      ∧ r.2.mem ((c.tc : Thread Cert.MergeFirstIdeal.nD Cert.MergeFirstIdeal.τ).loc Cert.MergeFirstIdeal.main_arg4) = m ((c.tc : Thread Cert.MergeFirstIdeal.nD Cert.MergeFirstIdeal.τ).loc Cert.MergeFirstIdeal.main_arg4)
      ∧ r.2.mem ((c.tc : Thread Cert.MergeFirstIdeal.nD Cert.MergeFirstIdeal.τ).loc Cert.MergeFirstIdeal.main_arg5) = m ((c.tc : Thread Cert.MergeFirstIdeal.nD Cert.MergeFirstIdeal.τ).loc Cert.MergeFirstIdeal.main_arg5)
      ∧ r.2.mem ((c.tc : Thread Cert.MergeFirstIdeal.nD Cert.MergeFirstIdeal.τ).loc Cert.MergeFirstIdeal.main_arg6) = m ((c.tc : Thread Cert.MergeFirstIdeal.nD Cert.MergeFirstIdeal.τ).loc Cert.MergeFirstIdeal.main_arg6)
      ∧ r.2.mem ((c.tc : Thread Cert.MergeFirstIdeal.nD Cert.MergeFirstIdeal.τ).loc Cert.MergeFirstIdeal.main_arg7) = m ((c.tc : Thread Cert.MergeFirstIdeal.nD Cert.MergeFirstIdeal.τ).loc Cert.MergeFirstIdeal.main_arg7))
      ∧ r.2.sem = fun _ => 0)

def quiescent_MergeFirstReferenceIdeal [hMergeFirstReferenceIdeal : Cert.MergeFirstReferenceIdeal.Facts] : Prop :=
  ∀ (m : (ℓ : Loc Cert.MergeFirstReferenceIdeal.nD Cert.MergeFirstReferenceIdeal.τ Cert.MergeFirstReferenceIdeal.sig) → Buf (Elt Ideal) ℓ) (g : Dev Cert.MergeFirstReferenceIdeal.nD → PrngReg), Pre_MergeFirstReferenceIdeal m →
    θ_run (Cert.MergeFirstReferenceIdeal.defs (F := Ideal)) (onTc (τ := Cert.MergeFirstReferenceIdeal.τ) (Cert.MergeFirstReferenceIdeal.main (F := Ideal))) ⟨m, fun _ => 0, g⟩ (fun r => (∀ c : Dev Cert.MergeFirstReferenceIdeal.nD,
      r.2.mem ((c.tc : Thread Cert.MergeFirstReferenceIdeal.nD Cert.MergeFirstReferenceIdeal.τ).loc Cert.MergeFirstReferenceIdeal.main_arg0) = m ((c.tc : Thread Cert.MergeFirstReferenceIdeal.nD Cert.MergeFirstReferenceIdeal.τ).loc Cert.MergeFirstReferenceIdeal.main_arg0)
      ∧ r.2.mem ((c.tc : Thread Cert.MergeFirstReferenceIdeal.nD Cert.MergeFirstReferenceIdeal.τ).loc Cert.MergeFirstReferenceIdeal.main_arg1) = m ((c.tc : Thread Cert.MergeFirstReferenceIdeal.nD Cert.MergeFirstReferenceIdeal.τ).loc Cert.MergeFirstReferenceIdeal.main_arg1)
      ∧ r.2.mem ((c.tc : Thread Cert.MergeFirstReferenceIdeal.nD Cert.MergeFirstReferenceIdeal.τ).loc Cert.MergeFirstReferenceIdeal.main_arg2) = m ((c.tc : Thread Cert.MergeFirstReferenceIdeal.nD Cert.MergeFirstReferenceIdeal.τ).loc Cert.MergeFirstReferenceIdeal.main_arg2)
      ∧ r.2.mem ((c.tc : Thread Cert.MergeFirstReferenceIdeal.nD Cert.MergeFirstReferenceIdeal.τ).loc Cert.MergeFirstReferenceIdeal.main_arg3) = m ((c.tc : Thread Cert.MergeFirstReferenceIdeal.nD Cert.MergeFirstReferenceIdeal.τ).loc Cert.MergeFirstReferenceIdeal.main_arg3)
      ∧ r.2.mem ((c.tc : Thread Cert.MergeFirstReferenceIdeal.nD Cert.MergeFirstReferenceIdeal.τ).loc Cert.MergeFirstReferenceIdeal.main_arg4) = m ((c.tc : Thread Cert.MergeFirstReferenceIdeal.nD Cert.MergeFirstReferenceIdeal.τ).loc Cert.MergeFirstReferenceIdeal.main_arg4)
      ∧ r.2.mem ((c.tc : Thread Cert.MergeFirstReferenceIdeal.nD Cert.MergeFirstReferenceIdeal.τ).loc Cert.MergeFirstReferenceIdeal.main_arg5) = m ((c.tc : Thread Cert.MergeFirstReferenceIdeal.nD Cert.MergeFirstReferenceIdeal.τ).loc Cert.MergeFirstReferenceIdeal.main_arg5)
      ∧ r.2.mem ((c.tc : Thread Cert.MergeFirstReferenceIdeal.nD Cert.MergeFirstReferenceIdeal.τ).loc Cert.MergeFirstReferenceIdeal.main_arg6) = m ((c.tc : Thread Cert.MergeFirstReferenceIdeal.nD Cert.MergeFirstReferenceIdeal.τ).loc Cert.MergeFirstReferenceIdeal.main_arg6)
      ∧ r.2.mem ((c.tc : Thread Cert.MergeFirstReferenceIdeal.nD Cert.MergeFirstReferenceIdeal.τ).loc Cert.MergeFirstReferenceIdeal.main_arg7) = m ((c.tc : Thread Cert.MergeFirstReferenceIdeal.nD Cert.MergeFirstReferenceIdeal.τ).loc Cert.MergeFirstReferenceIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnIdeal_pre_mem_inputs [hMemAttnIdeal : Cert.MemAttnIdeal.Facts] [hPre_mem_inputs : Cert.Pre_mem_inputs.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_mem_inputs m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnReferenceIdeal [hMemAttnReferenceIdeal : Cert.MemAttnReferenceIdeal.Facts] : Prop :=
  ∀ (m : (ℓ : Loc Cert.MemAttnReferenceIdeal.nD Cert.MemAttnReferenceIdeal.τ Cert.MemAttnReferenceIdeal.sig) → Buf (Elt Ideal) ℓ) (g : Dev Cert.MemAttnReferenceIdeal.nD → PrngReg), Pre_MemAttnReferenceIdeal m →
    θ_run (Cert.MemAttnReferenceIdeal.defs (F := Ideal)) (onTc (τ := Cert.MemAttnReferenceIdeal.τ) (Cert.MemAttnReferenceIdeal.main (F := Ideal))) ⟨m, fun _ => 0, g⟩ (fun r => (∀ c : Dev Cert.MemAttnReferenceIdeal.nD,
      r.2.mem ((c.tc : Thread Cert.MemAttnReferenceIdeal.nD Cert.MemAttnReferenceIdeal.τ).loc Cert.MemAttnReferenceIdeal.main_arg0) = m ((c.tc : Thread Cert.MemAttnReferenceIdeal.nD Cert.MemAttnReferenceIdeal.τ).loc Cert.MemAttnReferenceIdeal.main_arg0)
      ∧ r.2.mem ((c.tc : Thread Cert.MemAttnReferenceIdeal.nD Cert.MemAttnReferenceIdeal.τ).loc Cert.MemAttnReferenceIdeal.main_arg1) = m ((c.tc : Thread Cert.MemAttnReferenceIdeal.nD Cert.MemAttnReferenceIdeal.τ).loc Cert.MemAttnReferenceIdeal.main_arg1))
      ∧ r.2.sem = fun _ => 0)

def quiescent_MemAttnReferenceIdeal_pre_mem_inputs [hMemAttnReferenceIdeal : Cert.MemAttnReferenceIdeal.Facts] [hPre_mem_inputs : Cert.Pre_mem_inputs.Facts] : Prop :=
  ∀ (m : (ℓ : Loc Cert.MemAttnReferenceIdeal.nD Cert.MemAttnReferenceIdeal.τ Cert.MemAttnReferenceIdeal.sig) → Buf (Elt Ideal) ℓ) (g : Dev Cert.MemAttnReferenceIdeal.nD → PrngReg), Pre_MemAttnReferenceIdeal_mem_inputs m →
    θ_run (Cert.MemAttnReferenceIdeal.defs (F := Ideal)) (onTc (τ := Cert.MemAttnReferenceIdeal.τ) (Cert.MemAttnReferenceIdeal.main (F := Ideal))) ⟨m, fun _ => 0, g⟩ (fun r => (∀ c : Dev Cert.MemAttnReferenceIdeal.nD,
      r.2.mem ((c.tc : Thread Cert.MemAttnReferenceIdeal.nD Cert.MemAttnReferenceIdeal.τ).loc Cert.MemAttnReferenceIdeal.main_arg0) = m ((c.tc : Thread Cert.MemAttnReferenceIdeal.nD Cert.MemAttnReferenceIdeal.τ).loc Cert.MemAttnReferenceIdeal.main_arg0)
      ∧ r.2.mem ((c.tc : Thread Cert.MemAttnReferenceIdeal.nD Cert.MemAttnReferenceIdeal.τ).loc Cert.MemAttnReferenceIdeal.main_arg1) = m ((c.tc : Thread Cert.MemAttnReferenceIdeal.nD Cert.MemAttnReferenceIdeal.τ).loc Cert.MemAttnReferenceIdeal.main_arg1))
      ∧ r.2.sem = fun _ => 0)

def preserves_Fox_FoxIdeal : Prop :=
  IdealRules.named_const.Statement Cert.FoxIdeal.κ "scale" .f32 0x3E38AA3B#32 (((1 / 8) * (Real.log 2)⁻¹ : ℝ) : EReal)

def algebraic_FoxIdeal_FoxReferenceIdeal_pre_fox_inputs [hFoxIdeal : Cert.FoxIdeal.Facts] [hFoxReferenceIdeal : Cert.FoxReferenceIdeal.Facts] [hPre_fox_inputs : Cert.Pre_fox_inputs.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_fox_inputs m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)
      ∧ m' ((c.tc : Thread Cert.FoxReferenceIdeal.nD Cert.FoxReferenceIdeal.τ).loc Cert.FoxReferenceIdeal.main_arg2) = m ((c.tc : Thread Cert.FoxIdeal.nD Cert.FoxIdeal.τ).loc Cert.FoxIdeal.main_arg2)
      ∧ m' ((c.tc : Thread Cert.FoxReferenceIdeal.nD Cert.FoxReferenceIdeal.τ).loc Cert.FoxReferenceIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v55) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v18) = v0 c
          ∧ r.2.mem ((c.tc : Thread Cert.InProjReferenceIdeal.nD Cert.InProjReferenceIdeal.τ).loc Cert.InProjReferenceIdeal.main_v23) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_InProjLast_InProjLastIdeal : Prop :=
  True

def algebraic_InProjLastIdeal_InProjLastReferenceIdeal [hInProjLastIdeal : Cert.InProjLastIdeal.Facts] [hInProjLastReferenceIdeal : Cert.InProjLastReferenceIdeal.Facts] : Prop :=
  ∀ (m : (ℓ : Loc Cert.InProjLastIdeal.nD Cert.InProjLastIdeal.τ Cert.InProjLastIdeal.sig) → Buf (Elt Ideal) ℓ) (g : Dev Cert.InProjLastIdeal.nD → PrngReg)
    (m' : (ℓ : Loc Cert.InProjLastReferenceIdeal.nD Cert.InProjLastReferenceIdeal.τ Cert.InProjLastReferenceIdeal.sig) → Buf (Elt Ideal) ℓ) (g' : Dev Cert.InProjLastReferenceIdeal.nD → PrngReg), Pre_InProjLastIdeal m →
    (∀ c : Dev Cert.InProjLastIdeal.nD,
      m' ((c.tc : Thread Cert.InProjLastReferenceIdeal.nD Cert.InProjLastReferenceIdeal.τ).loc Cert.InProjLastReferenceIdeal.main_arg0) = m ((c.tc : Thread Cert.InProjLastIdeal.nD Cert.InProjLastIdeal.τ).loc Cert.InProjLastIdeal.main_arg0)
      ∧ m' ((c.tc : Thread Cert.InProjLastReferenceIdeal.nD Cert.InProjLastReferenceIdeal.τ).loc Cert.InProjLastReferenceIdeal.main_arg1) = m ((c.tc : Thread Cert.InProjLastIdeal.nD Cert.InProjLastIdeal.τ).loc Cert.InProjLastIdeal.main_arg1)
      ∧ m' ((c.tc : Thread Cert.InProjLastReferenceIdeal.nD Cert.InProjLastReferenceIdeal.τ).loc Cert.InProjLastReferenceIdeal.main_arg2) = m ((c.tc : Thread Cert.InProjLastIdeal.nD Cert.InProjLastIdeal.τ).loc Cert.InProjLastIdeal.main_arg2)
      ∧ m' ((c.tc : Thread Cert.InProjLastReferenceIdeal.nD Cert.InProjLastReferenceIdeal.τ).loc Cert.InProjLastReferenceIdeal.main_arg3) = m ((c.tc : Thread Cert.InProjLastIdeal.nD Cert.InProjLastIdeal.τ).loc Cert.InProjLastIdeal.main_arg3)) →
    ∃ (v0 : (c : Dev Cert.InProjLastIdeal.nD) → Buf (Elt Ideal) ((c.tc : Thread Cert.InProjLastIdeal.nD Cert.InProjLastIdeal.τ).loc Cert.InProjLastIdeal.main_v1_0)) (v1 : (c : Dev Cert.InProjLastIdeal.nD) → Buf (Elt Ideal) ((c.tc : Thread Cert.InProjLastIdeal.nD Cert.InProjLastIdeal.τ).loc Cert.InProjLastIdeal.main_v1_1)),
      θ_run (Cert.InProjLastIdeal.defs (F := Ideal)) (onTc (τ := Cert.InProjLastIdeal.τ) (Cert.InProjLastIdeal.main (F := Ideal))) ⟨m, fun _ => 0, g⟩ (fun r => ∀ c : Dev Cert.InProjLastIdeal.nD,
          r.2.mem ((c.tc : Thread Cert.InProjLastIdeal.nD Cert.InProjLastIdeal.τ).loc Cert.InProjLastIdeal.main_v1_0) = v0 c
          ∧ r.2.mem ((c.tc : Thread Cert.InProjLastIdeal.nD Cert.InProjLastIdeal.τ).loc Cert.InProjLastIdeal.main_v1_1) = v1 c
          ∧ r.2.mem ((c.tc : Thread Cert.InProjLastIdeal.nD Cert.InProjLastIdeal.τ).loc Cert.InProjLastIdeal.main_arg0) = m ((c.tc : Thread Cert.InProjLastIdeal.nD Cert.InProjLastIdeal.τ).loc Cert.InProjLastIdeal.main_arg0)
          ∧ r.2.mem ((c.tc : Thread Cert.InProjLastIdeal.nD Cert.InProjLastIdeal.τ).loc Cert.InProjLastIdeal.main_arg1) = m ((c.tc : Thread Cert.InProjLastIdeal.nD Cert.InProjLastIdeal.τ).loc Cert.InProjLastIdeal.main_arg1)
          ∧ r.2.mem ((c.tc : Thread Cert.InProjLastIdeal.nD Cert.InProjLastIdeal.τ).loc Cert.InProjLastIdeal.main_arg2) = m ((c.tc : Thread Cert.InProjLastIdeal.nD Cert.InProjLastIdeal.τ).loc Cert.InProjLastIdeal.main_arg2)
          ∧ r.2.mem ((c.tc : Thread Cert.InProjLastIdeal.nD Cert.InProjLastIdeal.τ).loc Cert.InProjLastIdeal.main_arg3) = m ((c.tc : Thread Cert.InProjLastIdeal.nD Cert.InProjLastIdeal.τ).loc Cert.InProjLastIdeal.main_arg3))
      ∧ θ_run (Cert.InProjLastReferenceIdeal.defs (F := Ideal)) (onTc (τ := Cert.InProjLastReferenceIdeal.τ) (Cert.InProjLastReferenceIdeal.main (F := Ideal))) ⟨m', fun _ => 0, g'⟩ (fun r => ∀ c : Dev Cert.InProjLastReferenceIdeal.nD,
          r.2.mem ((c.tc : Thread Cert.InProjLastReferenceIdeal.nD Cert.InProjLastReferenceIdeal.τ).loc Cert.InProjLastReferenceIdeal.main_v18) = v0 c
          ∧ r.2.mem ((c.tc : Thread Cert.InProjLastReferenceIdeal.nD Cert.InProjLastReferenceIdeal.τ).loc Cert.InProjLastReferenceIdeal.main_v23) = v1 c
          ∧ r.2.mem ((c.tc : Thread Cert.InProjLastReferenceIdeal.nD Cert.InProjLastReferenceIdeal.τ).loc Cert.InProjLastReferenceIdeal.main_arg0) = m' ((c.tc : Thread Cert.InProjLastReferenceIdeal.nD Cert.InProjLastReferenceIdeal.τ).loc Cert.InProjLastReferenceIdeal.main_arg0)
          ∧ r.2.mem ((c.tc : Thread Cert.InProjLastReferenceIdeal.nD Cert.InProjLastReferenceIdeal.τ).loc Cert.InProjLastReferenceIdeal.main_arg1) = m' ((c.tc : Thread Cert.InProjLastReferenceIdeal.nD Cert.InProjLastReferenceIdeal.τ).loc Cert.InProjLastReferenceIdeal.main_arg1)
          ∧ r.2.mem ((c.tc : Thread Cert.InProjLastReferenceIdeal.nD Cert.InProjLastReferenceIdeal.τ).loc Cert.InProjLastReferenceIdeal.main_arg2) = m' ((c.tc : Thread Cert.InProjLastReferenceIdeal.nD Cert.InProjLastReferenceIdeal.τ).loc Cert.InProjLastReferenceIdeal.main_arg2)
          ∧ r.2.mem ((c.tc : Thread Cert.InProjLastReferenceIdeal.nD Cert.InProjLastReferenceIdeal.τ).loc Cert.InProjLastReferenceIdeal.main_arg3) = m' ((c.tc : Thread Cert.InProjLastReferenceIdeal.nD Cert.InProjLastReferenceIdeal.τ).loc Cert.InProjLastReferenceIdeal.main_arg3))

def preserves_MergeFirst_MergeFirstIdeal : Prop :=
  True

def algebraic_MergeFirstIdeal_MergeFirstReferenceIdeal [hMergeFirstIdeal : Cert.MergeFirstIdeal.Facts] [hMergeFirstReferenceIdeal : Cert.MergeFirstReferenceIdeal.Facts] : Prop :=
  ∀ (m : (ℓ : Loc Cert.MergeFirstIdeal.nD Cert.MergeFirstIdeal.τ Cert.MergeFirstIdeal.sig) → Buf (Elt Ideal) ℓ) (g : Dev Cert.MergeFirstIdeal.nD → PrngReg)
    (m' : (ℓ : Loc Cert.MergeFirstReferenceIdeal.nD Cert.MergeFirstReferenceIdeal.τ Cert.MergeFirstReferenceIdeal.sig) → Buf (Elt Ideal) ℓ) (g' : Dev Cert.MergeFirstReferenceIdeal.nD → PrngReg), Pre_MergeFirstIdeal m →
    (∀ c : Dev Cert.MergeFirstIdeal.nD,
      m' ((c.tc : Thread Cert.MergeFirstReferenceIdeal.nD Cert.MergeFirstReferenceIdeal.τ).loc Cert.MergeFirstReferenceIdeal.main_arg0) = m ((c.tc : Thread Cert.MergeFirstIdeal.nD Cert.MergeFirstIdeal.τ).loc Cert.MergeFirstIdeal.main_arg0)
      ∧ m' ((c.tc : Thread Cert.MergeFirstReferenceIdeal.nD Cert.MergeFirstReferenceIdeal.τ).loc Cert.MergeFirstReferenceIdeal.main_arg1) = m ((c.tc : Thread Cert.MergeFirstIdeal.nD Cert.MergeFirstIdeal.τ).loc Cert.MergeFirstIdeal.main_arg1)
      ∧ m' ((c.tc : Thread Cert.MergeFirstReferenceIdeal.nD Cert.MergeFirstReferenceIdeal.τ).loc Cert.MergeFirstReferenceIdeal.main_arg2) = m ((c.tc : Thread Cert.MergeFirstIdeal.nD Cert.MergeFirstIdeal.τ).loc Cert.MergeFirstIdeal.main_arg2)
      ∧ m' ((c.tc : Thread Cert.MergeFirstReferenceIdeal.nD Cert.MergeFirstReferenceIdeal.τ).loc Cert.MergeFirstReferenceIdeal.main_arg3) = m ((c.tc : Thread Cert.MergeFirstIdeal.nD Cert.MergeFirstIdeal.τ).loc Cert.MergeFirstIdeal.main_arg3)
      ∧ m' ((c.tc : Thread Cert.MergeFirstReferenceIdeal.nD Cert.MergeFirstReferenceIdeal.τ).loc Cert.MergeFirstReferenceIdeal.main_arg4) = m ((c.tc : Thread Cert.MergeFirstIdeal.nD Cert.MergeFirstIdeal.τ).loc Cert.MergeFirstIdeal.main_arg4)
      ∧ m' ((c.tc : Thread Cert.MergeFirstReferenceIdeal.nD Cert.MergeFirstReferenceIdeal.τ).loc Cert.MergeFirstReferenceIdeal.main_arg5) = m ((c.tc : Thread Cert.MergeFirstIdeal.nD Cert.MergeFirstIdeal.τ).loc Cert.MergeFirstIdeal.main_arg5)
      ∧ m' ((c.tc : Thread Cert.MergeFirstReferenceIdeal.nD Cert.MergeFirstReferenceIdeal.τ).loc Cert.MergeFirstReferenceIdeal.main_arg6) = m ((c.tc : Thread Cert.MergeFirstIdeal.nD Cert.MergeFirstIdeal.τ).loc Cert.MergeFirstIdeal.main_arg6)
      ∧ m' ((c.tc : Thread Cert.MergeFirstReferenceIdeal.nD Cert.MergeFirstReferenceIdeal.τ).loc Cert.MergeFirstReferenceIdeal.main_arg7) = m ((c.tc : Thread Cert.MergeFirstIdeal.nD Cert.MergeFirstIdeal.τ).loc Cert.MergeFirstIdeal.main_arg7)) →
    ∃ (v0 : (c : Dev Cert.MergeFirstIdeal.nD) → Buf (Elt Ideal) ((c.tc : Thread Cert.MergeFirstIdeal.nD Cert.MergeFirstIdeal.τ).loc Cert.MergeFirstIdeal.main_v3)),
      θ_run (Cert.MergeFirstIdeal.defs (F := Ideal)) (onTc (τ := Cert.MergeFirstIdeal.τ) (Cert.MergeFirstIdeal.main (F := Ideal))) ⟨m, fun _ => 0, g⟩ (fun r => ∀ c : Dev Cert.MergeFirstIdeal.nD,
          r.2.mem ((c.tc : Thread Cert.MergeFirstIdeal.nD Cert.MergeFirstIdeal.τ).loc Cert.MergeFirstIdeal.main_v3) = v0 c
          ∧ r.2.mem ((c.tc : Thread Cert.MergeFirstIdeal.nD Cert.MergeFirstIdeal.τ).loc Cert.MergeFirstIdeal.main_arg0) = m ((c.tc : Thread Cert.MergeFirstIdeal.nD Cert.MergeFirstIdeal.τ).loc Cert.MergeFirstIdeal.main_arg0)
          ∧ r.2.mem ((c.tc : Thread Cert.MergeFirstIdeal.nD Cert.MergeFirstIdeal.τ).loc Cert.MergeFirstIdeal.main_arg1) = m ((c.tc : Thread Cert.MergeFirstIdeal.nD Cert.MergeFirstIdeal.τ).loc Cert.MergeFirstIdeal.main_arg1)
          ∧ r.2.mem ((c.tc : Thread Cert.MergeFirstIdeal.nD Cert.MergeFirstIdeal.τ).loc Cert.MergeFirstIdeal.main_arg2) = m ((c.tc : Thread Cert.MergeFirstIdeal.nD Cert.MergeFirstIdeal.τ).loc Cert.MergeFirstIdeal.main_arg2)
          ∧ r.2.mem ((c.tc : Thread Cert.MergeFirstIdeal.nD Cert.MergeFirstIdeal.τ).loc Cert.MergeFirstIdeal.main_arg3) = m ((c.tc : Thread Cert.MergeFirstIdeal.nD Cert.MergeFirstIdeal.τ).loc Cert.MergeFirstIdeal.main_arg3)
          ∧ r.2.mem ((c.tc : Thread Cert.MergeFirstIdeal.nD Cert.MergeFirstIdeal.τ).loc Cert.MergeFirstIdeal.main_arg4) = m ((c.tc : Thread Cert.MergeFirstIdeal.nD Cert.MergeFirstIdeal.τ).loc Cert.MergeFirstIdeal.main_arg4)
          ∧ r.2.mem ((c.tc : Thread Cert.MergeFirstIdeal.nD Cert.MergeFirstIdeal.τ).loc Cert.MergeFirstIdeal.main_arg5) = m ((c.tc : Thread Cert.MergeFirstIdeal.nD Cert.MergeFirstIdeal.τ).loc Cert.MergeFirstIdeal.main_arg5)
          ∧ r.2.mem ((c.tc : Thread Cert.MergeFirstIdeal.nD Cert.MergeFirstIdeal.τ).loc Cert.MergeFirstIdeal.main_arg6) = m ((c.tc : Thread Cert.MergeFirstIdeal.nD Cert.MergeFirstIdeal.τ).loc Cert.MergeFirstIdeal.main_arg6)
          ∧ r.2.mem ((c.tc : Thread Cert.MergeFirstIdeal.nD Cert.MergeFirstIdeal.τ).loc Cert.MergeFirstIdeal.main_arg7) = m ((c.tc : Thread Cert.MergeFirstIdeal.nD Cert.MergeFirstIdeal.τ).loc Cert.MergeFirstIdeal.main_arg7))
      ∧ θ_run (Cert.MergeFirstReferenceIdeal.defs (F := Ideal)) (onTc (τ := Cert.MergeFirstReferenceIdeal.τ) (Cert.MergeFirstReferenceIdeal.main (F := Ideal))) ⟨m', fun _ => 0, g'⟩ (fun r => ∀ c : Dev Cert.MergeFirstReferenceIdeal.nD,
          r.2.mem ((c.tc : Thread Cert.MergeFirstReferenceIdeal.nD Cert.MergeFirstReferenceIdeal.τ).loc Cert.MergeFirstReferenceIdeal.main_v30) = v0 c
          ∧ r.2.mem ((c.tc : Thread Cert.MergeFirstReferenceIdeal.nD Cert.MergeFirstReferenceIdeal.τ).loc Cert.MergeFirstReferenceIdeal.main_arg0) = m' ((c.tc : Thread Cert.MergeFirstReferenceIdeal.nD Cert.MergeFirstReferenceIdeal.τ).loc Cert.MergeFirstReferenceIdeal.main_arg0)
          ∧ r.2.mem ((c.tc : Thread Cert.MergeFirstReferenceIdeal.nD Cert.MergeFirstReferenceIdeal.τ).loc Cert.MergeFirstReferenceIdeal.main_arg1) = m' ((c.tc : Thread Cert.MergeFirstReferenceIdeal.nD Cert.MergeFirstReferenceIdeal.τ).loc Cert.MergeFirstReferenceIdeal.main_arg1)
          ∧ r.2.mem ((c.tc : Thread Cert.MergeFirstReferenceIdeal.nD Cert.MergeFirstReferenceIdeal.τ).loc Cert.MergeFirstReferenceIdeal.main_arg2) = m' ((c.tc : Thread Cert.MergeFirstReferenceIdeal.nD Cert.MergeFirstReferenceIdeal.τ).loc Cert.MergeFirstReferenceIdeal.main_arg2)
          ∧ r.2.mem ((c.tc : Thread Cert.MergeFirstReferenceIdeal.nD Cert.MergeFirstReferenceIdeal.τ).loc Cert.MergeFirstReferenceIdeal.main_arg3) = m' ((c.tc : Thread Cert.MergeFirstReferenceIdeal.nD Cert.MergeFirstReferenceIdeal.τ).loc Cert.MergeFirstReferenceIdeal.main_arg3)
          ∧ r.2.mem ((c.tc : Thread Cert.MergeFirstReferenceIdeal.nD Cert.MergeFirstReferenceIdeal.τ).loc Cert.MergeFirstReferenceIdeal.main_arg4) = m' ((c.tc : Thread Cert.MergeFirstReferenceIdeal.nD Cert.MergeFirstReferenceIdeal.τ).loc Cert.MergeFirstReferenceIdeal.main_arg4)
          ∧ r.2.mem ((c.tc : Thread Cert.MergeFirstReferenceIdeal.nD Cert.MergeFirstReferenceIdeal.τ).loc Cert.MergeFirstReferenceIdeal.main_arg5) = m' ((c.tc : Thread Cert.MergeFirstReferenceIdeal.nD Cert.MergeFirstReferenceIdeal.τ).loc Cert.MergeFirstReferenceIdeal.main_arg5)
          ∧ r.2.mem ((c.tc : Thread Cert.MergeFirstReferenceIdeal.nD Cert.MergeFirstReferenceIdeal.τ).loc Cert.MergeFirstReferenceIdeal.main_arg6) = m' ((c.tc : Thread Cert.MergeFirstReferenceIdeal.nD Cert.MergeFirstReferenceIdeal.τ).loc Cert.MergeFirstReferenceIdeal.main_arg6)
          ∧ r.2.mem ((c.tc : Thread Cert.MergeFirstReferenceIdeal.nD Cert.MergeFirstReferenceIdeal.τ).loc Cert.MergeFirstReferenceIdeal.main_arg7) = m' ((c.tc : Thread Cert.MergeFirstReferenceIdeal.nD Cert.MergeFirstReferenceIdeal.τ).loc Cert.MergeFirstReferenceIdeal.main_arg7))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v43) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_MemAttn_MemAttnIdeal : Prop :=
  IdealRules.named_const.Statement Cert.MemAttnIdeal.κ "scale" .f32 0x3E0293EE#32 (((Real.sqrt 128)⁻¹ * (Real.log 2)⁻¹ : ℝ) : EReal)

def algebraic_MemAttnIdeal_MemAttnReferenceIdeal_pre_mem_inputs [hMemAttnIdeal : Cert.MemAttnIdeal.Facts] [hMemAttnReferenceIdeal : Cert.MemAttnReferenceIdeal.Facts] [hPre_mem_inputs : Cert.Pre_mem_inputs.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnReferenceIdeal.nD Cert.MemAttnReferenceIdeal.τ Cert.MemAttnReferenceIdeal.sig) → Buf (Elt Ideal) ℓ) (g' : Dev Cert.MemAttnReferenceIdeal.nD → PrngReg), Pre_MemAttnIdeal_mem_inputs m →
    (∀ c : Dev Cert.MemAttnIdeal.nD,
      m' ((c.tc : Thread Cert.MemAttnReferenceIdeal.nD Cert.MemAttnReferenceIdeal.τ).loc Cert.MemAttnReferenceIdeal.main_arg0) = m ((c.tc : Thread Cert.MemAttnIdeal.nD Cert.MemAttnIdeal.τ).loc Cert.MemAttnIdeal.main_arg0)
      ∧ m' ((c.tc : Thread Cert.MemAttnReferenceIdeal.nD Cert.MemAttnReferenceIdeal.τ).loc Cert.MemAttnReferenceIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnReferenceIdeal.defs (F := Ideal)) (onTc (τ := Cert.MemAttnReferenceIdeal.τ) (Cert.MemAttnReferenceIdeal.main (F := Ideal))) ⟨m', fun _ => 0, g'⟩ (fun r => ∀ c : Dev Cert.MemAttnReferenceIdeal.nD,
          r.2.mem ((c.tc : Thread Cert.MemAttnReferenceIdeal.nD Cert.MemAttnReferenceIdeal.τ).loc Cert.MemAttnReferenceIdeal.main_v35) = v0 c
          ∧ r.2.mem ((c.tc : Thread Cert.MemAttnReferenceIdeal.nD Cert.MemAttnReferenceIdeal.τ).loc Cert.MemAttnReferenceIdeal.main_arg0) = m' ((c.tc : Thread Cert.MemAttnReferenceIdeal.nD Cert.MemAttnReferenceIdeal.τ).loc Cert.MemAttnReferenceIdeal.main_arg0)
          ∧ r.2.mem ((c.tc : Thread Cert.MemAttnReferenceIdeal.nD Cert.MemAttnReferenceIdeal.τ).loc Cert.MemAttnReferenceIdeal.main_arg1) = m' ((c.tc : Thread Cert.MemAttnReferenceIdeal.nD Cert.MemAttnReferenceIdeal.τ).loc Cert.MemAttnReferenceIdeal.main_arg1))

def Claim : Prop :=
  ∃ (hFox : Cert.Fox.Facts) (hFoxIdeal : Cert.FoxIdeal.Facts) (hFoxReferenceIdeal : Cert.FoxReferenceIdeal.Facts) (hInProj : Cert.InProj.Facts) (hInProjIdeal : Cert.InProjIdeal.Facts) (hInProjReferenceIdeal : Cert.InProjReferenceIdeal.Facts) (hInProjLast : Cert.InProjLast.Facts) (hInProjLastIdeal : Cert.InProjLastIdeal.Facts) (hInProjLastReferenceIdeal : Cert.InProjLastReferenceIdeal.Facts) (hMergeFirst : Cert.MergeFirst.Facts) (hMergeFirstIdeal : Cert.MergeFirstIdeal.Facts) (hMergeFirstReferenceIdeal : Cert.MergeFirstReferenceIdeal.Facts) (hMerge : Cert.Merge.Facts) (hMergeIdeal : Cert.MergeIdeal.Facts) (hMergeReferenceIdeal : Cert.MergeReferenceIdeal.Facts) (hMemAttn : Cert.MemAttn.Facts) (hMemAttnIdeal : Cert.MemAttnIdeal.Facts) (hMemAttnReferenceIdeal : Cert.MemAttnReferenceIdeal.Facts) (hPre_fox_inputs : Cert.Pre_fox_inputs.Facts) (hPre_mem_inputs : Cert.Pre_mem_inputs.Facts),
    quiescent_Fox (hFox := hFox)
    ∧ quiescent_FoxIdeal (hFoxIdeal := hFoxIdeal)
    ∧ quiescent_FoxIdeal_pre_fox_inputs (hFoxIdeal := hFoxIdeal) (hPre_fox_inputs := hPre_fox_inputs)
    ∧ quiescent_FoxReferenceIdeal (hFoxReferenceIdeal := hFoxReferenceIdeal)
    ∧ quiescent_FoxReferenceIdeal_pre_fox_inputs (hFoxReferenceIdeal := hFoxReferenceIdeal) (hPre_fox_inputs := hPre_fox_inputs)
    ∧ quiescent_InProj (hInProj := hInProj)
    ∧ quiescent_InProjIdeal (hInProjIdeal := hInProjIdeal)
    ∧ quiescent_InProjReferenceIdeal (hInProjReferenceIdeal := hInProjReferenceIdeal)
    ∧ quiescent_InProjLast (hInProjLast := hInProjLast)
    ∧ quiescent_InProjLastIdeal (hInProjLastIdeal := hInProjLastIdeal)
    ∧ quiescent_InProjLastReferenceIdeal (hInProjLastReferenceIdeal := hInProjLastReferenceIdeal)
    ∧ quiescent_MergeFirst (hMergeFirst := hMergeFirst)
    ∧ quiescent_MergeFirstIdeal (hMergeFirstIdeal := hMergeFirstIdeal)
    ∧ quiescent_MergeFirstReferenceIdeal (hMergeFirstReferenceIdeal := hMergeFirstReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MemAttn (hMemAttn := hMemAttn)
    ∧ quiescent_MemAttnIdeal (hMemAttnIdeal := hMemAttnIdeal)
    ∧ quiescent_MemAttnIdeal_pre_mem_inputs (hMemAttnIdeal := hMemAttnIdeal) (hPre_mem_inputs := hPre_mem_inputs)
    ∧ quiescent_MemAttnReferenceIdeal (hMemAttnReferenceIdeal := hMemAttnReferenceIdeal)
    ∧ quiescent_MemAttnReferenceIdeal_pre_mem_inputs (hMemAttnReferenceIdeal := hMemAttnReferenceIdeal) (hPre_mem_inputs := hPre_mem_inputs)
    ∧ preserves_Fox_FoxIdeal
    ∧ algebraic_FoxIdeal_FoxReferenceIdeal_pre_fox_inputs (hFoxIdeal := hFoxIdeal) (hFoxReferenceIdeal := hFoxReferenceIdeal) (hPre_fox_inputs := hPre_fox_inputs)
    ∧ preserves_InProj_InProjIdeal
    ∧ algebraic_InProjIdeal_InProjReferenceIdeal (hInProjIdeal := hInProjIdeal) (hInProjReferenceIdeal := hInProjReferenceIdeal)
    ∧ preserves_InProjLast_InProjLastIdeal
    ∧ algebraic_InProjLastIdeal_InProjLastReferenceIdeal (hInProjLastIdeal := hInProjLastIdeal) (hInProjLastReferenceIdeal := hInProjLastReferenceIdeal)
    ∧ preserves_MergeFirst_MergeFirstIdeal
    ∧ algebraic_MergeFirstIdeal_MergeFirstReferenceIdeal (hMergeFirstIdeal := hMergeFirstIdeal) (hMergeFirstReferenceIdeal := hMergeFirstReferenceIdeal)
    ∧ preserves_Merge_MergeIdeal
    ∧ algebraic_MergeIdeal_MergeReferenceIdeal (hMergeIdeal := hMergeIdeal) (hMergeReferenceIdeal := hMergeReferenceIdeal)
    ∧ preserves_MemAttn_MemAttnIdeal
    ∧ algebraic_MemAttnIdeal_MemAttnReferenceIdeal_pre_mem_inputs (hMemAttnIdeal := hMemAttnIdeal) (hMemAttnReferenceIdeal := hMemAttnReferenceIdeal) (hPre_mem_inputs := hPre_mem_inputs)
-- ==== Pre_fox_inputs.lean ====
abbrev S16384x12288 : Shape := ⟨2, ![16384, 12288]⟩
abbrev S16384x512 : Shape := ⟨2, ![16384, 512]⟩
abbrev S2560x4096 : Shape := ⟨2, ![2560, 4096]⟩
abbrev S16384x4x128 : Shape := ⟨3, ![16384, 4, 128]⟩
abbrev S16384x4x12 : Shape := ⟨3, ![16384, 4, 12]⟩
abbrev S16384x8x6 : Shape := ⟨3, ![16384, 8, 6]⟩
abbrev S32x80x4096 : Shape := ⟨3, ![32, 80, 4096]⟩
abbrev S16384x1024 : Shape := ⟨2, ![16384, 1024]⟩
abbrev S_ : Shape := ⟨0, ![]⟩
abbrev S16384x8x3 : Shape := ⟨3, ![16384, 8, 3]⟩
abbrev S32x64x4096 : Shape := ⟨3, ![32, 64, 4096]⟩
abbrev S32x1x4096 : Shape := ⟨3, ![32, 1, 4096]⟩
abbrev S32x4096 : Shape := ⟨2, ![32, 4096]⟩

class Facts : Prop where
  bitsLt_bf16_f32 : FTy.bits .bf16 < FTy.bits .f32
  shapeCasts_S16384x512_S16384x4x128 : S16384x512.ShapeCasts S16384x4x128
  slices_S16384x4x128_S16384x4x12_0_0_0 : S16384x4x128.Slices ![0, 0, 0] S16384x4x12
  shapeCasts_S16384x4x12_S16384x8x6 : S16384x4x12.ShapeCasts S16384x8x6
  shapeCasts_S2560x4096_S32x80x4096 : S2560x4096.ShapeCasts S32x80x4096
  slices_S16384x12288_S16384x1024_0_3072 : S16384x12288.Slices ![0, 3072] S16384x1024
  bcast_S_S16384x1024 : S_.BroadcastsInDim S16384x1024 (![] : Fin 0 → Fin S16384x1024.rank)
  reducesTo_S16384x1024_S_d0_1 : S16384x1024.ReducesTo [0, 1] S_
  h_S_ : 0 < S_.numel
  slices_S16384x8x6_S16384x8x3_0_0_0 : S16384x8x6.Slices ![0, 0, 0] S16384x8x3
  bcast_S_S16384x8x3 : S_.BroadcastsInDim S16384x8x3 (![] : Fin 0 → Fin S16384x8x3.rank)
  reducesTo_S16384x8x3_S_d0_1_2 : S16384x8x3.ReducesTo [0, 1, 2] S_
  slices_S16384x8x6_S16384x8x3_0_0_3 : S16384x8x6.Slices ![0, 0, 3] S16384x8x3
  slices_S32x80x4096_S32x64x4096_0_0_0 : S32x80x4096.Slices ![0, 0, 0] S32x64x4096
  bcast_S_S32x64x4096 : S_.BroadcastsInDim S32x64x4096 (![] : Fin 0 → Fin S32x64x4096.rank)
  reducesTo_S32x64x4096_S_d0_1_2 : S32x64x4096.ReducesTo [0, 1, 2] S_
  slices_S32x80x4096_S32x1x4096_0_64_0 : S32x80x4096.Slices ![0, 64, 0] S32x1x4096
  shapeCasts_S32x1x4096_S32x4096 : S32x1x4096.ShapeCasts S32x4096
  bcast_S_S32x4096 : S_.BroadcastsInDim S32x4096 (![] : Fin 0 → Fin S32x4096.rank)
  reducesTo_S32x4096_S_d0_1 : S32x4096.ReducesTo [0, 1] S_

variable [Facts]

def fn_part2 {F : FTy → Type} [FloatOps F] (main_v9 : FVec F S32x80x4096 .f32) (main_v37 : IVec S_ 1) (main_v38 : FVec F S32x64x4096 .f32) : IVec S_ 1 :=
  let main_v39 : FVec F S32x64x4096 .f32 := Host.absf main_v38
  let main_cst_7 : FVec F S_ .f32 := constant S_ .f32 0x7F800000#32
  let main_v40 : FVec F S32x64x4096 .f32 := broadcastInDim S32x64x4096 ![] bcast_S_S32x64x4096 main_cst_7
  let main_v41 : IVec S32x64x4096 1 := cmpf .olt main_v39 main_v40
  let main_c_8 : IVec S_ 1 := constantI S_ 1 1#1
  let main_v42 : IVec S_ 1 := (fun x v => Host.reduce IntOp.andi x v reducesTo_S32x64x4096_S_d0_1_2 h_S_) main_v41 main_c_8
  let main_v43 : IVec S_ 1 := andi main_v37 main_v42
  let main_v44 : FVec F S32x1x4096 .f32 := (extractStridedSlice S32x1x4096 ![0, 64, 0] · slices_S32x80x4096_S32x1x4096_0_64_0) main_v9
  let main_v45 : FVec F S32x4096 .f32 := shapeCast S32x4096 main_v44 shapeCasts_S32x1x4096_S32x4096
  let main_cst_9 : FVec F S_ .f32 := constant S_ .f32 0x3F800000#32
  let main_v46 : FVec F S32x4096 .f32 := broadcastInDim S32x4096 ![] bcast_S_S32x4096 main_cst_9
  let main_v47 : IVec S32x4096 1 := cmpf .oeq main_v45 main_v46
  let main_c_10 : IVec S_ 1 := constantI S_ 1 1#1
  let main_v48 : IVec S_ 1 := (fun x v => Host.reduce IntOp.andi x v reducesTo_S32x4096_S_d0_1 h_S_) main_v47 main_c_10
  let main_v49 : IVec S_ 1 := andi main_v43 main_v48
  main_v49

def fn_part1 {F : FTy → Type} [FloatOps F] (main_v3 : FVec F S16384x8x6 .f32) (main_v7 : FVec F S16384x8x6 .f32) (main_v9 : FVec F S32x80x4096 .f32) (main_v15 : IVec S_ 1) (main_v19 : IVec S16384x8x3 1) (main_c_1 : IVec S_ 1) : IVec S_ 1 :=
  let main_v20 : IVec S_ 1 := (fun x v => Host.reduce IntOp.andi x v reducesTo_S16384x8x3_S_d0_1_2 h_S_) main_v19 main_c_1
  let main_v21 : IVec S_ 1 := andi main_v15 main_v20
  let main_v22 : FVec F S16384x8x3 .f32 := (extractStridedSlice S16384x8x3 ![0, 0, 3] · slices_S16384x8x6_S16384x8x3_0_0_3) main_v3
  let main_cst_2 : FVec F S_ .f32 := constant S_ .f32 0x3F800000#32
  let main_v23 : FVec F S16384x8x3 .f32 := broadcastInDim S16384x8x3 ![] bcast_S_S16384x8x3 main_cst_2
  let main_v24 : IVec S16384x8x3 1 := cmpf .oeq main_v22 main_v23
  let main_c_3 : IVec S_ 1 := constantI S_ 1 1#1
  let main_v25 : IVec S_ 1 := (fun x v => Host.reduce IntOp.andi x v reducesTo_S16384x8x3_S_d0_1_2 h_S_) main_v24 main_c_3
  let main_v26 : IVec S_ 1 := andi main_v21 main_v25
  let main_v27 : FVec F S16384x8x3 .f32 := (extractStridedSlice S16384x8x3 ![0, 0, 0] · slices_S16384x8x6_S16384x8x3_0_0_0) main_v7
  let main_cst_4 : FVec F S_ .f32 := constant S_ .f32 0x3F800000#32
  let main_v28 : FVec F S16384x8x3 .f32 := broadcastInDim S16384x8x3 ![] bcast_S_S16384x8x3 main_cst_4
  let main_v29 : IVec S16384x8x3 1 := cmpf .oeq main_v27 main_v28
  let main_c_5 : IVec S_ 1 := constantI S_ 1 1#1
  let main_v30 : IVec S_ 1 := (fun x v => Host.reduce IntOp.andi x v reducesTo_S16384x8x3_S_d0_1_2 h_S_) main_v29 main_c_5
  let main_v31 : IVec S_ 1 := andi main_v26 main_v30
  let main_v32 : FVec F S16384x8x3 .f32 := (extractStridedSlice S16384x8x3 ![0, 0, 3] · slices_S16384x8x6_S16384x8x3_0_0_3) main_v7
  let main_v33 : FVec F S16384x8x3 .f32 := (extractStridedSlice S16384x8x3 ![0, 0, 0] · slices_S16384x8x6_S16384x8x3_0_0_0) main_v3
  let main_v34 : FVec F S16384x8x3 .f32 := Host.negf main_v33
  let main_v35 : IVec S16384x8x3 1 := cmpf .oeq main_v32 main_v34
  let main_c_6 : IVec S_ 1 := constantI S_ 1 1#1
  let main_v36 : IVec S_ 1 := (fun x v => Host.reduce IntOp.andi x v reducesTo_S16384x8x3_S_d0_1_2 h_S_) main_v35 main_c_6
  let main_v37 : IVec S_ 1 := andi main_v31 main_v36
  let main_v38 : FVec F S32x64x4096 .f32 := (extractStridedSlice S32x64x4096 ![0, 0, 0] · slices_S32x80x4096_S32x64x4096_0_0_0) main_v9
  fn_part2 (F := F) main_v9 main_v37 main_v38

def fn {F : FTy → Type} [FloatOps F] (main_arg0 : FVec F S16384x12288 .bf16) (main_arg1 : FVec F S16384x512 .bf16) (main_arg2 : FVec F S16384x512 .bf16) (main_arg3 : FVec F S2560x4096 .bf16) : IVec S_ 1 :=
  let main_v0 : FVec F S16384x512 .f32 := (extf .f32 · bitsLt_bf16_f32) main_arg1
  let main_v1 : FVec F S16384x4x128 .f32 := shapeCast S16384x4x128 main_v0 shapeCasts_S16384x512_S16384x4x128
  let main_v2 : FVec F S16384x4x12 .f32 := (extractStridedSlice S16384x4x12 ![0, 0, 0] · slices_S16384x4x128_S16384x4x12_0_0_0) main_v1
  let main_v3 : FVec F S16384x8x6 .f32 := shapeCast S16384x8x6 main_v2 shapeCasts_S16384x4x12_S16384x8x6
  let main_v4 : FVec F S16384x512 .f32 := (extf .f32 · bitsLt_bf16_f32) main_arg2
  let main_v5 : FVec F S16384x4x128 .f32 := shapeCast S16384x4x128 main_v4 shapeCasts_S16384x512_S16384x4x128
  let main_v6 : FVec F S16384x4x12 .f32 := (extractStridedSlice S16384x4x12 ![0, 0, 0] · slices_S16384x4x128_S16384x4x12_0_0_0) main_v5
  let main_v7 : FVec F S16384x8x6 .f32 := shapeCast S16384x8x6 main_v6 shapeCasts_S16384x4x12_S16384x8x6
  let main_v8 : FVec F S2560x4096 .f32 := (extf .f32 · bitsLt_bf16_f32) main_arg3
  let main_v9 : FVec F S32x80x4096 .f32 := shapeCast S32x80x4096 main_v8 shapeCasts_S2560x4096_S32x80x4096
  let main_v10 : FVec F S16384x1024 .bf16 := (extractStridedSlice S16384x1024 ![0, 3072] · slices_S16384x12288_S16384x1024_0_3072) main_arg0
  let main_v11 : FVec F S16384x1024 .f32 := (extf .f32 · bitsLt_bf16_f32) main_v10
  let main_v12 : FVec F S16384x1024 .f32 := Host.absf main_v11
  let main_cst : FVec F S_ .f32 := constant S_ .f32 0x7F800000#32
  let main_v13 : FVec F S16384x1024 .f32 := broadcastInDim S16384x1024 ![] bcast_S_S16384x1024 main_cst
  let main_v14 : IVec S16384x1024 1 := cmpf .olt main_v12 main_v13
  let main_c : IVec S_ 1 := constantI S_ 1 1#1
  let main_v15 : IVec S_ 1 := (fun x v => Host.reduce IntOp.andi x v reducesTo_S16384x1024_S_d0_1 h_S_) main_v14 main_c
  let main_v16 : FVec F S16384x8x3 .f32 := (extractStridedSlice S16384x8x3 ![0, 0, 0] · slices_S16384x8x6_S16384x8x3_0_0_0) main_v3
  let main_v17 : FVec F S16384x8x3 .f32 := Host.absf main_v16
  let main_cst_0 : FVec F S_ .f32 := constant S_ .f32 0x7F800000#32
  let main_v18 : FVec F S16384x8x3 .f32 := broadcastInDim S16384x8x3 ![] bcast_S_S16384x8x3 main_cst_0
  let main_v19 : IVec S16384x8x3 1 := cmpf .olt main_v17 main_v18
  let main_c_1 : IVec S_ 1 := constantI S_ 1 1#1
  fn_part1 (F := F) main_v3 main_v7 main_v9 main_v15 main_v19 main_c_1
-- ==== Pre_mem_inputs.lean ====
abbrev S16384x12288 : Shape := ⟨2, ![16384, 12288]⟩
abbrev S1024x1024 : Shape := ⟨2, ![1024, 1024]⟩
abbrev S16384x512 : Shape := ⟨2, ![16384, 512]⟩
abbrev S_ : Shape := ⟨0, ![]⟩

class Facts : Prop where
  slices_S16384x12288_S16384x512_0_5120 : S16384x12288.Slices ![0, 5120] S16384x512
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x12288 .bf16) (main_arg1 : FVec F S1024x1024 .bf16) : IVec S_ 1 :=
  let main_v0 : FVec F S16384x512 .bf16 := (extractStridedSlice S16384x512 ![0, 5120] · slices_S16384x12288_S16384x512_0_5120) main_arg0
  let main_v1 : FVec F S16384x512 .f32 := (extf .f32 · bitsLt_bf16_f32) main_v0
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_c : IVec S_ 1 := constantI S_ 1 1#1
  let main_v5 : IVec S_ 1 := (fun x v => Host.reduce IntOp.andi x v reducesTo_S16384x512_S_d0_1 h_S_) main_v4 main_c
  let main_v6 : FVec F S1024x1024 .f32 := (extf .f32 · bitsLt_bf16_f32) main_arg1
  let main_v7 : FVec F S1024x1024 .f32 := Host.absf main_v6
  let main_cst_0 : FVec F S_ .f32 := constant S_ .f32 0x7F800000#32
  let main_v8 : FVec F S1024x1024 .f32 := broadcastInDim S1024x1024 ![] bcast_S_S1024x1024 main_cst_0
  let main_v9 : IVec S1024x1024 1 := cmpf .olt main_v7 main_v8
  let main_c_1 : IVec S_ 1 := constantI S_ 1 1#1
  let main_v10 : IVec S_ 1 := (fun x v => Host.reduce IntOp.andi x v reducesTo_S1024x1024_S_d0_1 h_S_) main_v9 main_c_1
  let main_v11 : IVec S_ 1 := andi main_v5 main_v10
  main_v11
-- ==== Fox.lean ====
abbrev S16384x12288 : Shape := ⟨2, ![16384, 12288]⟩
abbrev S16384x512 : Shape := ⟨2, ![16384, 512]⟩
abbrev S2560x4096 : Shape := ⟨2, ![2560, 4096]⟩
abbrev S512x128 : Shape := ⟨2, ![512, 128]⟩
abbrev S4096x128 : Shape := ⟨2, ![4096, 128]⟩
abbrev S160x4096 : Shape := ⟨2, ![160, 4096]⟩
abbrev S2x1x512 : Shape := ⟨3, ![2, 1, 512]⟩
abbrev S2x80x512 : Shape := ⟨3, ![2, 80, 512]⟩
abbrev S512x256 : Shape := ⟨2, ![512, 256]⟩
abbrev S1x256 : Shape := ⟨2, ![1, 256]⟩
abbrev S256x128 : Shape := ⟨2, ![256, 128]⟩
abbrev S256x256 : Shape := ⟨2, ![256, 256]⟩
abbrev S256x512 : Shape := ⟨2, ![256, 512]⟩
abbrev S1x1x512 : Shape := ⟨3, ![1, 1, 512]⟩
abbrev S1x512 : Shape := ⟨2, ![1, 512]⟩
abbrev S1x80x512 : Shape := ⟨3, ![1, 80, 512]⟩
abbrev S80x512 : Shape := ⟨2, ![80, 512]⟩
abbrev S512 : Shape := ⟨1, ![512]⟩
abbrev S80x256 : Shape := ⟨2, ![80, 256]⟩
abbrev S64x512 : Shape := ⟨2, ![64, 512]⟩
abbrev S128x512 : Shape := ⟨2, ![128, 512]⟩

abbrev nBuf : Space → Nat
  | .hbm => 5
  | .vmem => 16
  | .smem => 0
  | _ => 0

abbrev bufTy : (tb : Table) → Fin (tcTables nBuf tb) → BufTy
  | .hbm, ⟨0, _⟩ => ⟨S16384x12288, .bf16⟩
  | .hbm, ⟨1, _⟩ => ⟨S16384x512, .bf16⟩
  | .hbm, ⟨2, _⟩ => ⟨S16384x512, .bf16⟩
  | .hbm, ⟨3, _⟩ => ⟨S2560x4096, .bf16⟩
  | .hbm, ⟨4, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S160x4096, .bf16⟩
  | .local _ .vmem, ⟨9, _⟩ => ⟨S160x4096, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S2x1x512, .f32⟩
  | .local _ .vmem, ⟨15, _⟩ => ⟨S2x80x512, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_22 : BitVec 32 := 1#32
  ⟨c0_i32_20, v59, c1_i32_22⟩
def k0_mult1 (i : grid0.Coords) (k0_t1 : Fin (k0_t1_loop i).trips) : BitVec 32 :=
  let c2_i32_53 : BitVec 32 := 2#32
  let c2_i32_52 : BitVec 32 := 2#32
  let c0_i32_20 : BitVec 32 := 0#32
  let c1_i32_22 : BitVec 32 := 1#32
  let arg12 : BitVec 32 := Scf.iv c0_i32_20 c1_i32_22 k0_t1
  let v113 : BitVec 32 := Scalar.muli c2_i32_52 arg12
  let v114 : BitVec 32 := Scalar.muli c2_i32_53 v113
  let c0_i32_54 : BitVec 32 := 0#32
  let v115 : BitVec 32 := Scalar.addi v114 c0_i32_54
  let c256_i32 : BitVec 32 := 256#32
  let v124 : BitVec 32 := Scalar.muli v115 c256_i32
  v124
def k0_off1 (i : grid0.Coords) (k0_t1 : Fin (k0_t1_loop i).trips) (c0_i32_54 : BitVec 32) : Fin 2 → Nat :=
  let c2_i32_53 : BitVec 32 := 2#32
  let c2_i32_52 : BitVec 32 := 2#32
  let c0_i32_20 : BitVec 32 := 0#32
  let c1_i32_22 : BitVec 32 := 1#32
  let arg12 : BitVec 32 := Scf.iv c0_i32_20 c1_i32_22 k0_t1
  let v113 : BitVec 32 := Scalar.muli c2_i32_52 arg12
  let v114 : BitVec 32 := Scalar.muli c2_i32_53 v113
  let v115 : BitVec 32 := Scalar.addi v114 c0_i32_54
  let c256_i32 : BitVec 32 := 256#32
  let v124 : BitVec 32 := Scalar.muli v115 c256_i32
  let v125 : BitVec 32 := v124
  let v126 : Index := Scalar.indexCast v125
  let c0_63 : Index := 0#32
  ![v126.toNat, 0]
def k0_mult2 (i : grid0.Coords) (k0_t1 : Fin (k0_t1_loop i).trips) : BitVec 32 :=
  let c2_i32_53 : BitVec 32 := 2#32
  let c2_i32_52 : BitVec 32 := 2#32
  let c0_i32_20 : BitVec 32 := 0#32
  let c1_i32_22 : BitVec 32 := 1#32
  let arg12 : BitVec 32 := Scf.iv c0_i32_20 c1_i32_22 k0_t1
  let v113 : BitVec 32 := Scalar.muli c2_i32_52 arg12
  let v114 : BitVec 32 := Scalar.muli c2_i32_53 v113
  let c0_i32_54 : BitVec 32 := 0#32
  let v115 : BitVec 32 := Scalar.addi v114 c0_i32_54
  let c256_i32_67 : BitVec 32 := 256#32
  let v136 : BitVec 32 := Scalar.muli v115 c256_i32_67
  v136
def k0_mult3 (i : grid0.Coords) (k0_t1 : Fin (k0_t1_loop i).trips) : BitVec 32 :=
  let c2_i32_55 : BitVec 32 := 2#32
  let c2_i32_52 : BitVec 32 := 2#32
  let c0_i32_20 : BitVec 32 := 0#32
  let c1_i32_22 : BitVec 32 := 1#32
  let arg12 : BitVec 32 := Scf.iv c0_i32_20 c1_i32_22 k0_t1
  let v113 : BitVec 32 := Scalar.muli c2_i32_52 arg12
  let v116 : BitVec 32 := Scalar.muli c2_i32_55 v113
  let c1_i32_56 : BitVec 32 := 1#32
  let v117 : BitVec 32 := Scalar.addi v116 c1_i32_56
  let c256_i32_72 : BitVec 32 := 256#32
  let v148 : BitVec 32 := Scalar.muli v117 c256_i32_72
  v148
def k0_mult4 (i : grid0.Coords) (k0_t1 : Fin (k0_t1_loop i).trips) : BitVec 32 :=
  let c2_i32_55 : BitVec 32 := 2#32
  let c2_i32_52 : BitVec 32 := 2#32
  let c0_i32_20 : BitVec 32 := 0#32
  let c1_i32_22 : BitVec 32 := 1#32
  let arg12 : BitVec 32 := Scf.iv c0_i32_20 c1_i32_22 k0_t1
  let v113 : BitVec 32 := Scalar.muli c2_i32_52 arg12
  let v116 : BitVec 32 := Scalar.muli c2_i32_55 v113
  let c1_i32_56 : BitVec 32 := 1#32
  let v117 : BitVec 32 := Scalar.addi v116 c1_i32_56
  let c256_i32_77 : BitVec 32 := 256#32
  let v160 : BitVec 32 := Scalar.muli v117 c256_i32_77
  v160
def k0_mult5 (i : grid0.Coords) (k0_t1 : Fin (k0_t1_loop i).trips) : BitVec 32 :=
  let c2_i32_59 : BitVec 32 := 2#32
  let c2_i32_57 : BitVec 32 := 2#32
  let c0_i32_20 : BitVec 32 := 0#32
  let c1_i32_22 : BitVec 32 := 1#32
  let arg12 : BitVec 32 := Scf.iv c0_i32_20 c1_i32_22 k0_t1
  let v118 : BitVec 32 := Scalar.muli c2_i32_57 arg12
  let c1_i32_58 : BitVec 32 := 1#32
  let v119 : BitVec 32 := Scalar.addi v118 c1_i32_58
  let v120 : BitVec 32 := Scalar.muli c2_i32_59 v119
  let c0_i32_60 : BitVec 32 := 0#32
  let v121 : BitVec 32 := Scalar.addi v120 c0_i32_60
  let c256_i32_82 : BitVec 32 := 256#32
  let v172 : BitVec 32 := Scalar.muli v121 c256_i32_82
  v172
def k0_off2 (i : grid0.Coords) (k0_t1 : Fin (k0_t1_loop i).trips) (c0_i32_60 : BitVec 32) : Fin 2 → Nat :=
  let c2_i32_59 : BitVec 32 := 2#32
  let c2_i32_57 : BitVec 32 := 2#32
  let c0_i32_20 : BitVec 32 := 0#32
  let c1_i32_22 : BitVec 32 := 1#32
  let arg12 : BitVec 32 := Scf.iv c0_i32_20 c1_i32_22 k0_t1
  let v118 : BitVec 32 := Scalar.muli c2_i32_57 arg12
  let c1_i32_58 : BitVec 32 := 1#32
  let v119 : BitVec 32 := Scalar.addi v118 c1_i32_58
  let v120 : BitVec 32 := Scalar.muli c2_i32_59 v119
  let v121 : BitVec 32 := Scalar.addi v120 c0_i32_60
  let c256_i32_82 : BitVec 32 := 256#32
  let v172 : BitVec 32 := Scalar.muli v121 c256_i32_82
  let v173 : BitVec 32 := v172
  let v174 : Index := Scalar.indexCast v173
  let c0_83 : Index := 0#32
  ![v174.toNat, 0]
def k0_mult6 (i : grid0.Coords) (k0_t1 : Fin (k0_t1_loop i).trips) : BitVec 32 :=
  let c2_i32_59 : BitVec 32 := 2#32
  let c2_i32_57 : BitVec 32 := 2#32
  let c0_i32_20 : BitVec 32 := 0#32
  let c1_i32_22 : BitVec 32 := 1#32
  let arg12 : BitVec 32 := Scf.iv c0_i32_20 c1_i32_22 k0_t1
  let v118 : BitVec 32 := Scalar.muli c2_i32_57 arg12
  let c1_i32_58 : BitVec 32 := 1#32
  let v119 : BitVec 32 := Scalar.addi v118 c1_i32_58
  let v120 : BitVec 32 := Scalar.muli c2_i32_59 v119
  let c0_i32_60 : BitVec 32 := 0#32
  let v121 : BitVec 32 := Scalar.addi v120 c0_i32_60
  let c256_i32_87 : BitVec 32 := 256#32
  let v184 : BitVec 32 := Scalar.muli v121 c256_i32_87
  v184
def k0_mult7 (i : grid0.Coords) (k0_t1 : Fin (k0_t1_loop i).trips) : BitVec 32 :=
  let c2_i32_61 : BitVec 32 := 2#32
  let c2_i32_57 : BitVec 32 := 2#32
  let c0_i32_20 : BitVec 32 := 0#32
  let c1_i32_22 : BitVec 32 := 1#32
  let arg12 : BitVec 32 := Scf.iv c0_i32_20 c1_i32_22 k0_t1
  let v118 : BitVec 32 := Scalar.muli c2_i32_57 arg12
  let c1_i32_58 : BitVec 32 := 1#32
  let v119 : BitVec 32 := Scalar.addi v118 c1_i32_58
  let v122 : BitVec 32 := Scalar.muli c2_i32_61 v119
  let c1_i32_62 : BitVec 32 := 1#32
  let v123 : BitVec 32 := Scalar.addi v122 c1_i32_62
  let c256_i32_92 : BitVec 32 := 256#32
  let v196 : BitVec 32 := Scalar.muli v123 c256_i32_92
  v196
def k0_mult8 (i : grid0.Coords) (k0_t1 : Fin (k0_t1_loop i).trips) : BitVec 32 :=
  let c2_i32_61 : BitVec 32 := 2#32
  let c2_i32_57 : BitVec 32 := 2#32
  let c0_i32_20 : BitVec 32 := 0#32
  let c1_i32_22 : BitVec 32 := 1#32
  let arg12 : BitVec 32 := Scf.iv c0_i32_20 c1_i32_22 k0_t1
  let v118 : BitVec 32 := Scalar.muli c2_i32_57 arg12
  let c1_i32_58 : BitVec 32 := 1#32
  let v119 : BitVec 32 := Scalar.addi v118 c1_i32_58
  let v122 : BitVec 32 := Scalar.muli c2_i32_61 v119
  let c1_i32_62 : BitVec 32 := 1#32
  let v123 : BitVec 32 := Scalar.addi v122 c1_i32_62
  let c256_i32_97 : BitVec 32 := 256#32
  let v208 : BitVec 32 := Scalar.muli v123 c256_i32_97
  v208
def k0_mult9 (i : grid0.Coords) (k0_t1 : Fin (k0_t1_loop i).trips) : BitVec 32 :=
  let c2_i32_53 : BitVec 32 := 2#32
  let c2_i32_52 : BitVec 32 := 2#32
  let c0_i32_20 : BitVec 32 := 0#32
  let c1_i32_22 : BitVec 32 := 1#32
  let arg12 : BitVec 32 := Scf.iv c0_i32_20 c1_i32_22 k0_t1
  let v113 : BitVec 32 := Scalar.muli c2_i32_52 arg12
  let v114 : BitVec 32 := Scalar.muli c2_i32_53 v113
  let c0_i32_54 : BitVec 32 := 0#32
  let v115 : BitVec 32 := Scalar.addi v114 c0_i32_54
  let c256_i32_115 : BitVec 32 := 256#32
  let v237 : BitVec 32 := Scalar.muli v115 c256_i32_115
  v237
def k0_off3 (i : grid0.Coords) (k0_t1 : Fin (k0_t1_loop i).trips) (c0_i32_54 : BitVec 32) : Fin 2 → Nat :=
  let c0_116 : Index := 0#32
  let c2_i32_53 : BitVec 32 := 2#32
  let c2_i32_52 : BitVec 32 := 2#32
  let c0_i32_20 : BitVec 32 := 0#32
  let c1_i32_22 : BitVec 32 := 1#32
  let arg12 : BitVec 32 := Scf.iv c0_i32_20 c1_i32_22 k0_t1
  let v113 : BitVec 32 := Scalar.muli c2_i32_52 arg12
  let v114 : BitVec 32 := Scalar.muli c2_i32_53 v113
  let v115 : BitVec 32 := Scalar.addi v114 c0_i32_54
  let c256_i32_115 : BitVec 32 := 256#32
  let v237 : BitVec 32 := Scalar.muli v115 c256_i32_115
  let v238 : BitVec 32 := v237
  let v239 : Index := Scalar.indexCast v238
  ![0, v239.toNat]
def k0_mult10 (i : grid0.Coords) (k0_t1 : Fin (k0_t1_loop i).trips) : BitVec 32 :=
  let c2_i32_53 : BitVec 32 := 2#32
  let c2_i32_52 : BitVec 32 := 2#32
  let c0_i32_20 : BitVec 32 := 0#32
  let c1_i32_22 : BitVec 32 := 1#32
  let arg12 : BitVec 32 := Scf.iv c0_i32_20 c1_i32_22 k0_t1
  let v113 : BitVec 32 := Scalar.muli c2_i32_52 arg12
  let v114 : BitVec 32 := Scalar.muli c2_i32_53 v113
  let c0_i32_54 : BitVec 32 := 0#32
  let v115 : BitVec 32 := Scalar.addi v114 c0_i32_54
  let c256_i32_119 : BitVec 32 := 256#32
  let v254 : BitVec 32 := Scalar.muli v115 c256_i32_119
  v254
def k0_off4 (i : grid0.Coords) (k0_t1 : Fin (k0_t1_loop i).trips) (c0_i32_54 : BitVec 32) : Fin 2 → Nat :=
  let c80 : Index := 80#32
  let c2_i32_53 : BitVec 32 := 2#32
  let c2_i32_52 : BitVec 32 := 2#32
  let c0_i32_20 : BitVec 32 := 0#32
  let c1_i32_22 : BitVec 32 := 1#32
  let arg12 : BitVec 32 := Scf.iv c0_i32_20 c1_i32_22 k0_t1
  let v113 : BitVec 32 := Scalar.muli c2_i32_52 arg12
  let v114 : BitVec 32 := Scalar.muli c2_i32_53 v113
  let v115 : BitVec 32 := Scalar.addi v114 c0_i32_54
  let c256_i32_119 : BitVec 32 := 256#32
  let v254 : BitVec 32 := Scalar.muli v115 c256_i32_119
  let v255 : BitVec 32 := v254
  let v256 : Index := Scalar.indexCast v255
  ![80, v256.toNat]
def k0_mult11 (i : grid0.Coords) (k0_t1 : Fin (k0_t1_loop i).trips) : BitVec 32 :=
  let c2_i32_55 : BitVec 32 := 2#32
  let c2_i32_52 : BitVec 32 := 2#32
  let c0_i32_20 : BitVec 32 := 0#32
  let c1_i32_22 : BitVec 32 := 1#32
  let arg12 : BitVec 32 := Scf.iv c0_i32_20 c1_i32_22 k0_t1
  let v113 : BitVec 32 := Scalar.muli c2_i32_52 arg12
  let v116 : BitVec 32 := Scalar.muli c2_i32_55 v113
  let c1_i32_56 : BitVec 32 := 1#32
  let v117 : BitVec 32 := Scalar.addi v116 c1_i32_56
  let c256_i32_122 : BitVec 32 := 256#32
  let v271 : BitVec 32 := Scalar.muli v117 c256_i32_122
  v271
def k0_mult12 (i : grid0.Coords) (k0_t1 : Fin (k0_t1_loop i).trips) : BitVec 32 :=
  let c2_i32_55 : BitVec 32 := 2#32
  let c2_i32_52 : BitVec 32 := 2#32
  let c0_i32_20 : BitVec 32 := 0#32
  let c1_i32_22 : BitVec 32 := 1#32
  let arg12 : BitVec 32 := Scf.iv c0_i32_20 c1_i32_22 k0_t1
  let v113 : BitVec 32 := Scalar.muli c2_i32_52 arg12
  let v116 : BitVec 32 := Scalar.muli c2_i32_55 v113
  let c1_i32_56 : BitVec 32 := 1#32
  let v117 : BitVec 32 := Scalar.addi v116 c1_i32_56
  let c256_i32_126 : BitVec 32 := 256#32
  let v288 : BitVec 32 := Scalar.muli v117 c256_i32_126
  v288
def k0_mult13 (i : grid0.Coords) (k0_t1 : Fin (k0_t1_loop i).trips) : BitVec 32 :=
  let c2_i32_59 : BitVec 32 := 2#32
  let c2_i32_57 : BitVec 32 := 2#32
  let c0_i32_20 : BitVec 32 := 0#32
  let c1_i32_22 : BitVec 32 := 1#32
  let arg12 : BitVec 32 := Scf.iv c0_i32_20 c1_i32_22 k0_t1
  let v118 : BitVec 32 := Scalar.muli c2_i32_57 arg12
  let c1_i32_58 : BitVec 32 := 1#32
  let v119 : BitVec 32 := Scalar.addi v118 c1_i32_58
  let v120 : BitVec 32 := Scalar.muli c2_i32_59 v119
  let c0_i32_60 : BitVec 32 := 0#32
  let v121 : BitVec 32 := Scalar.addi v120 c0_i32_60
  let c256_i32_130 : BitVec 32 := 256#32
  let v305 : BitVec 32 := Scalar.muli v121 c256_i32_130
  v305
def k0_off5 (i : grid0.Coords) (k0_t1 : Fin (k0_t1_loop i).trips) (c0_i32_60 : BitVec 32) : Fin 2 → Nat :=
  let c0_131 : Index := 0#32
  let c2_i32_59 : BitVec 32 := 2#32
  let c2_i32_57 : BitVec 32 := 2#32
  let c0_i32_20 : BitVec 32 := 0#32
  let c1_i32_22 : BitVec 32 := 1#32
  let arg12 : BitVec 32 := Scf.iv c0_i32_20 c1_i32_22 k0_t1
  let v118 : BitVec 32 := Scalar.muli c2_i32_57 arg12
  let c1_i32_58 : BitVec 32 := 1#32
  let v119 : BitVec 32 := Scalar.addi v118 c1_i32_58
  let v120 : BitVec 32 := Scalar.muli c2_i32_59 v119
  let v121 : BitVec 32 := Scalar.addi v120 c0_i32_60
  let c256_i32_130 : BitVec 32 := 256#32
  let v305 : BitVec 32 := Scalar.muli v121 c256_i32_130
  let v306 : BitVec 32 := v305
  let v307 : Index := Scalar.indexCast v306
  ![0, v307.toNat]
def k0_mult14 (i : grid0.Coords) (k0_t1 : Fin (k0_t1_loop i).trips) : BitVec 32 :=
  let c2_i32_59 : BitVec 32 := 2#32
  let c2_i32_57 : BitVec 32 := 2#32
  let c0_i32_20 : BitVec 32 := 0#32
  let c1_i32_22 : BitVec 32 := 1#32
  let arg12 : BitVec 32 := Scf.iv c0_i32_20 c1_i32_22 k0_t1
  let v118 : BitVec 32 := Scalar.muli c2_i32_57 arg12
  let c1_i32_58 : BitVec 32 := 1#32
  let v119 : BitVec 32 := Scalar.addi v118 c1_i32_58
  let v120 : BitVec 32 := Scalar.muli c2_i32_59 v119
  let c0_i32_60 : BitVec 32 := 0#32
  let v121 : BitVec 32 := Scalar.addi v120 c0_i32_60
  let c256_i32_134 : BitVec 32 := 256#32
  let v322 : BitVec 32 := Scalar.muli v121 c256_i32_134
  v322
def k0_off6 (i : grid0.Coords) (k0_t1 : Fin (k0_t1_loop i).trips) (c0_i32_60 : BitVec 32) : Fin 2 → Nat :=
  let c80_135 : Index := 80#32
  let c2_i32_59 : BitVec 32 := 2#32
  let c2_i32_57 : BitVec 32 := 2#32
  let c0_i32_20 : BitVec 32 := 0#32
  let c1_i32_22 : BitVec 32 := 1#32
  let arg12 : BitVec 32 := Scf.iv c0_i32_20 c1_i32_22 k0_t1
  let v118 : BitVec 32 := Scalar.muli c2_i32_57 arg12
  let c1_i32_58 : BitVec 32 := 1#32
  let v119 : BitVec 32 := Scalar.addi v118 c1_i32_58
  let v120 : BitVec 32 := Scalar.muli c2_i32_59 v119
  let v121 : BitVec 32 := Scalar.addi v120 c0_i32_60
  let c256_i32_134 : BitVec 32 := 256#32
  let v322 : BitVec 32 := Scalar.muli v121 c256_i32_134
  let v323 : BitVec 32 := v322
  let v324 : Index := Scalar.indexCast v323
  ![80, v324.toNat]
def k0_mult15 (i : grid0.Coords) (k0_t1 : Fin (k0_t1_loop i).trips) : BitVec 32 :=
  let c2_i32_61 : BitVec 32 := 2#32
  let c2_i32_57 : BitVec 32 := 2#32
  let c0_i32_20 : BitVec 32 := 0#32
  let c1_i32_22 : BitVec 32 := 1#32
  let arg12 : BitVec 32 := Scf.iv c0_i32_20 c1_i32_22 k0_t1
  let v118 : BitVec 32 := Scalar.muli c2_i32_57 arg12
  let c1_i32_58 : BitVec 32 := 1#32
  let v119 : BitVec 32 := Scalar.addi v118 c1_i32_58
  let v122 : BitVec 32 := Scalar.muli c2_i32_61 v119
  let c1_i32_62 : BitVec 32 := 1#32
  let v123 : BitVec 32 := Scalar.addi v122 c1_i32_62
  let c256_i32_138 : BitVec 32 := 256#32
  let v339 : BitVec 32 := Scalar.muli v123 c256_i32_138
  v339
def k0_mult16 (i : grid0.Coords) (k0_t1 : Fin (k0_t1_loop i).trips) : BitVec 32 :=
  let c2_i32_61 : BitVec 32 := 2#32
  let c2_i32_57 : BitVec 32 := 2#32
  let c0_i32_20 : BitVec 32 := 0#32
  let c1_i32_22 : BitVec 32 := 1#32
  let arg12 : BitVec 32 := Scf.iv c0_i32_20 c1_i32_22 k0_t1
  let v118 : BitVec 32 := Scalar.muli c2_i32_57 arg12
  let c1_i32_58 : BitVec 32 := 1#32
  let v119 : BitVec 32 := Scalar.addi v118 c1_i32_58
  let v122 : BitVec 32 := Scalar.muli c2_i32_61 v119
  let c1_i32_62 : BitVec 32 := 1#32
  let v123 : BitVec 32 := Scalar.addi v122 c1_i32_62
  let c256_i32_142 : BitVec 32 := 256#32
  let v356 : BitVec 32 := Scalar.muli v123 c256_i32_142
  v356
@[reducible] def k0_t2_loop (i : grid0.Coords) : Scf.Loop 32 :=
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let v56 : BitVec 32 := Scalar.addi c0_i32_20 v55
  let c1_i32_23 : BitVec 32 := 1#32
  ⟨v59, v56, c1_i32_23⟩
def k0_mult17 (i : grid0.Coords) (k0_t2 : Fin (k0_t2_loop i).trips) : BitVec 32 :=
  let c2_i32_53 : BitVec 32 := 2#32
  let c2_i32_52 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v113 : BitVec 32 := Scalar.muli c2_i32_52 arg12
  let v114 : BitVec 32 := Scalar.muli c2_i32_53 v113
  let c0_i32_54 : BitVec 32 := 0#32
  let v115 : BitVec 32 := Scalar.addi v114 c0_i32_54
  let c256_i32 : BitVec 32 := 256#32
  let v124 : BitVec 32 := Scalar.muli v115 c256_i32
  v124
def k0_off7 (i : grid0.Coords) (k0_t2 : Fin (k0_t2_loop i).trips) (c0_i32_54 : BitVec 32) : Fin 2 → Nat :=
  let c2_i32_53 : BitVec 32 := 2#32
  let c2_i32_52 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v113 : BitVec 32 := Scalar.muli c2_i32_52 arg12
  let v114 : BitVec 32 := Scalar.muli c2_i32_53 v113
  let v115 : BitVec 32 := Scalar.addi v114 c0_i32_54
  let c256_i32 : BitVec 32 := 256#32
  let v124 : BitVec 32 := Scalar.muli v115 c256_i32
  let v125 : BitVec 32 := v124
  let v126 : Index := Scalar.indexCast v125
  let c0_63 : Index := 0#32
  ![v126.toNat, 0]
def k0_mult18 (i : grid0.Coords) (k0_t2 : Fin (k0_t2_loop i).trips) : BitVec 32 :=
  let c2_i32_53 : BitVec 32 := 2#32
  let c2_i32_52 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v113 : BitVec 32 := Scalar.muli c2_i32_52 arg12
  let v114 : BitVec 32 := Scalar.muli c2_i32_53 v113
  let c0_i32_54 : BitVec 32 := 0#32
  let v115 : BitVec 32 := Scalar.addi v114 c0_i32_54
  let c256_i32_67 : BitVec 32 := 256#32
  let v136 : BitVec 32 := Scalar.muli v115 c256_i32_67
  v136
def k0_mult19 (i : grid0.Coords) (k0_t2 : Fin (k0_t2_loop i).trips) : BitVec 32 :=
  let c2_i32_55 : BitVec 32 := 2#32
  let c2_i32_52 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v113 : BitVec 32 := Scalar.muli c2_i32_52 arg12
  let v116 : BitVec 32 := Scalar.muli c2_i32_55 v113
  let c1_i32_56 : BitVec 32 := 1#32
  let v117 : BitVec 32 := Scalar.addi v116 c1_i32_56
  let c256_i32_72 : BitVec 32 := 256#32
  let v148 : BitVec 32 := Scalar.muli v117 c256_i32_72
  v148
def k0_mult20 (i : grid0.Coords) (k0_t2 : Fin (k0_t2_loop i).trips) : BitVec 32 :=
  let c2_i32_55 : BitVec 32 := 2#32
  let c2_i32_52 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v113 : BitVec 32 := Scalar.muli c2_i32_52 arg12
  let v116 : BitVec 32 := Scalar.muli c2_i32_55 v113
  let c1_i32_56 : BitVec 32 := 1#32
  let v117 : BitVec 32 := Scalar.addi v116 c1_i32_56
  let c256_i32_77 : BitVec 32 := 256#32
  let v160 : BitVec 32 := Scalar.muli v117 c256_i32_77
  v160
def k0_mult21 (i : grid0.Coords) (k0_t2 : Fin (k0_t2_loop i).trips) : BitVec 32 :=
  let c2_i32_59 : BitVec 32 := 2#32
  let c2_i32_57 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v118 : BitVec 32 := Scalar.muli c2_i32_57 arg12
  let c1_i32_58 : BitVec 32 := 1#32
  let v119 : BitVec 32 := Scalar.addi v118 c1_i32_58
  let v120 : BitVec 32 := Scalar.muli c2_i32_59 v119
  let c0_i32_60 : BitVec 32 := 0#32
  let v121 : BitVec 32 := Scalar.addi v120 c0_i32_60
  let c256_i32_82 : BitVec 32 := 256#32
  let v172 : BitVec 32 := Scalar.muli v121 c256_i32_82
  v172
def k0_off8 (i : grid0.Coords) (k0_t2 : Fin (k0_t2_loop i).trips) (c0_i32_60 : BitVec 32) : Fin 2 → Nat :=
  let c2_i32_59 : BitVec 32 := 2#32
  let c2_i32_57 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v118 : BitVec 32 := Scalar.muli c2_i32_57 arg12
  let c1_i32_58 : BitVec 32 := 1#32
  let v119 : BitVec 32 := Scalar.addi v118 c1_i32_58
  let v120 : BitVec 32 := Scalar.muli c2_i32_59 v119
  let v121 : BitVec 32 := Scalar.addi v120 c0_i32_60
  let c256_i32_82 : BitVec 32 := 256#32
  let v172 : BitVec 32 := Scalar.muli v121 c256_i32_82
  let v173 : BitVec 32 := v172
  let v174 : Index := Scalar.indexCast v173
  let c0_83 : Index := 0#32
  ![v174.toNat, 0]
def k0_mult22 (i : grid0.Coords) (k0_t2 : Fin (k0_t2_loop i).trips) : BitVec 32 :=
  let c2_i32_59 : BitVec 32 := 2#32
  let c2_i32_57 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v118 : BitVec 32 := Scalar.muli c2_i32_57 arg12
  let c1_i32_58 : BitVec 32 := 1#32
  let v119 : BitVec 32 := Scalar.addi v118 c1_i32_58
  let v120 : BitVec 32 := Scalar.muli c2_i32_59 v119
  let c0_i32_60 : BitVec 32 := 0#32
  let v121 : BitVec 32 := Scalar.addi v120 c0_i32_60
  let c256_i32_87 : BitVec 32 := 256#32
  let v184 : BitVec 32 := Scalar.muli v121 c256_i32_87
  v184
def k0_mult23 (i : grid0.Coords) (k0_t2 : Fin (k0_t2_loop i).trips) : BitVec 32 :=
  let c2_i32_61 : BitVec 32 := 2#32
  let c2_i32_57 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v118 : BitVec 32 := Scalar.muli c2_i32_57 arg12
  let c1_i32_58 : BitVec 32 := 1#32
  let v119 : BitVec 32 := Scalar.addi v118 c1_i32_58
  let v122 : BitVec 32 := Scalar.muli c2_i32_61 v119
  let c1_i32_62 : BitVec 32 := 1#32
  let v123 : BitVec 32 := Scalar.addi v122 c1_i32_62
  let c256_i32_92 : BitVec 32 := 256#32
  let v196 : BitVec 32 := Scalar.muli v123 c256_i32_92
  v196
def k0_mult24 (i : grid0.Coords) (k0_t2 : Fin (k0_t2_loop i).trips) : BitVec 32 :=
  let c2_i32_61 : BitVec 32 := 2#32
  let c2_i32_57 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v118 : BitVec 32 := Scalar.muli c2_i32_57 arg12
  let c1_i32_58 : BitVec 32 := 1#32
  let v119 : BitVec 32 := Scalar.addi v118 c1_i32_58
  let v122 : BitVec 32 := Scalar.muli c2_i32_61 v119
  let c1_i32_62 : BitVec 32 := 1#32
  let v123 : BitVec 32 := Scalar.addi v122 c1_i32_62
  let c256_i32_97 : BitVec 32 := 256#32
  let v208 : BitVec 32 := Scalar.muli v123 c256_i32_97
  v208
def k0_mult25 (i : grid0.Coords) (k0_t2 : Fin (k0_t2_loop i).trips) : BitVec 32 :=
  let c2_i32_53 : BitVec 32 := 2#32
  let c2_i32_52 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v113 : BitVec 32 := Scalar.muli c2_i32_52 arg12
  let v114 : BitVec 32 := Scalar.muli c2_i32_53 v113
  let c0_i32_54 : BitVec 32 := 0#32
  let v115 : BitVec 32 := Scalar.addi v114 c0_i32_54
  let c256_i32_115 : BitVec 32 := 256#32
  let v237 : BitVec 32 := Scalar.muli v115 c256_i32_115
  v237
def k0_off9 (i : grid0.Coords) (k0_t2 : Fin (k0_t2_loop i).trips) (c0_i32_54 : BitVec 32) : Fin 2 → Nat :=
  let c0_116 : Index := 0#32
  let c2_i32_53 : BitVec 32 := 2#32
  let c2_i32_52 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v113 : BitVec 32 := Scalar.muli c2_i32_52 arg12
  let v114 : BitVec 32 := Scalar.muli c2_i32_53 v113
  let v115 : BitVec 32 := Scalar.addi v114 c0_i32_54
  let c256_i32_115 : BitVec 32 := 256#32
  let v237 : BitVec 32 := Scalar.muli v115 c256_i32_115
  let v238 : BitVec 32 := v237
  let v239 : Index := Scalar.indexCast v238
  ![0, v239.toNat]
def k0_mult26 (i : grid0.Coords) (k0_t2 : Fin (k0_t2_loop i).trips) : BitVec 32 :=
  let c2_i32_53 : BitVec 32 := 2#32
  let c2_i32_52 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v113 : BitVec 32 := Scalar.muli c2_i32_52 arg12
  let v114 : BitVec 32 := Scalar.muli c2_i32_53 v113
  let c0_i32_54 : BitVec 32 := 0#32
  let v115 : BitVec 32 := Scalar.addi v114 c0_i32_54
  let c256_i32_119 : BitVec 32 := 256#32
  let v254 : BitVec 32 := Scalar.muli v115 c256_i32_119
  v254
def k0_off10 (i : grid0.Coords) (k0_t2 : Fin (k0_t2_loop i).trips) (c0_i32_54 : BitVec 32) : Fin 2 → Nat :=
  let c80 : Index := 80#32
  let c2_i32_53 : BitVec 32 := 2#32
  let c2_i32_52 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v113 : BitVec 32 := Scalar.muli c2_i32_52 arg12
  let v114 : BitVec 32 := Scalar.muli c2_i32_53 v113
  let v115 : BitVec 32 := Scalar.addi v114 c0_i32_54
  let c256_i32_119 : BitVec 32 := 256#32
  let v254 : BitVec 32 := Scalar.muli v115 c256_i32_119
  let v255 : BitVec 32 := v254
  let v256 : Index := Scalar.indexCast v255
  ![80, v256.toNat]
def k0_mult27 (i : grid0.Coords) (k0_t2 : Fin (k0_t2_loop i).trips) : BitVec 32 :=
  let c2_i32_55 : BitVec 32 := 2#32
  let c2_i32_52 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v113 : BitVec 32 := Scalar.muli c2_i32_52 arg12
  let v116 : BitVec 32 := Scalar.muli c2_i32_55 v113
  let c1_i32_56 : BitVec 32 := 1#32
  let v117 : BitVec 32 := Scalar.addi v116 c1_i32_56
  let c256_i32_122 : BitVec 32 := 256#32
  let v271 : BitVec 32 := Scalar.muli v117 c256_i32_122
  v271
def k0_mult28 (i : grid0.Coords) (k0_t2 : Fin (k0_t2_loop i).trips) : BitVec 32 :=
  let c2_i32_55 : BitVec 32 := 2#32
  let c2_i32_52 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v113 : BitVec 32 := Scalar.muli c2_i32_52 arg12
  let v116 : BitVec 32 := Scalar.muli c2_i32_55 v113
  let c1_i32_56 : BitVec 32 := 1#32
  let v117 : BitVec 32 := Scalar.addi v116 c1_i32_56
  let c256_i32_126 : BitVec 32 := 256#32
  let v288 : BitVec 32 := Scalar.muli v117 c256_i32_126
  v288
def k0_mult29 (i : grid0.Coords) (k0_t2 : Fin (k0_t2_loop i).trips) : BitVec 32 :=
  let c2_i32_59 : BitVec 32 := 2#32
  let c2_i32_57 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v118 : BitVec 32 := Scalar.muli c2_i32_57 arg12
  let c1_i32_58 : BitVec 32 := 1#32
  let v119 : BitVec 32 := Scalar.addi v118 c1_i32_58
  let v120 : BitVec 32 := Scalar.muli c2_i32_59 v119
  let c0_i32_60 : BitVec 32 := 0#32
  let v121 : BitVec 32 := Scalar.addi v120 c0_i32_60
  let c256_i32_130 : BitVec 32 := 256#32
  let v305 : BitVec 32 := Scalar.muli v121 c256_i32_130
  v305
def k0_off11 (i : grid0.Coords) (k0_t2 : Fin (k0_t2_loop i).trips) (c0_i32_60 : BitVec 32) : Fin 2 → Nat :=
  let c0_131 : Index := 0#32
  let c2_i32_59 : BitVec 32 := 2#32
  let c2_i32_57 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v118 : BitVec 32 := Scalar.muli c2_i32_57 arg12
  let c1_i32_58 : BitVec 32 := 1#32
  let v119 : BitVec 32 := Scalar.addi v118 c1_i32_58
  let v120 : BitVec 32 := Scalar.muli c2_i32_59 v119
  let v121 : BitVec 32 := Scalar.addi v120 c0_i32_60
  let c256_i32_130 : BitVec 32 := 256#32
  let v305 : BitVec 32 := Scalar.muli v121 c256_i32_130
  let v306 : BitVec 32 := v305
  let v307 : Index := Scalar.indexCast v306
  ![0, v307.toNat]
def k0_mult30 (i : grid0.Coords) (k0_t2 : Fin (k0_t2_loop i).trips) : BitVec 32 :=
  let c2_i32_59 : BitVec 32 := 2#32
  let c2_i32_57 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v118 : BitVec 32 := Scalar.muli c2_i32_57 arg12
  let c1_i32_58 : BitVec 32 := 1#32
  let v119 : BitVec 32 := Scalar.addi v118 c1_i32_58
  let v120 : BitVec 32 := Scalar.muli c2_i32_59 v119
  let c0_i32_60 : BitVec 32 := 0#32
  let v121 : BitVec 32 := Scalar.addi v120 c0_i32_60
  let c256_i32_134 : BitVec 32 := 256#32
  let v322 : BitVec 32 := Scalar.muli v121 c256_i32_134
  v322
def k0_off12 (i : grid0.Coords) (k0_t2 : Fin (k0_t2_loop i).trips) (c0_i32_60 : BitVec 32) : Fin 2 → Nat :=
  let c80_135 : Index := 80#32
  let c2_i32_59 : BitVec 32 := 2#32
  let c2_i32_57 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v118 : BitVec 32 := Scalar.muli c2_i32_57 arg12
  let c1_i32_58 : BitVec 32 := 1#32
  let v119 : BitVec 32 := Scalar.addi v118 c1_i32_58
  let v120 : BitVec 32 := Scalar.muli c2_i32_59 v119
  let v121 : BitVec 32 := Scalar.addi v120 c0_i32_60
  let c256_i32_134 : BitVec 32 := 256#32
  let v322 : BitVec 32 := Scalar.muli v121 c256_i32_134
  let v323 : BitVec 32 := v322
  let v324 : Index := Scalar.indexCast v323
  ![80, v324.toNat]
def k0_mult31 (i : grid0.Coords) (k0_t2 : Fin (k0_t2_loop i).trips) : BitVec 32 :=
  let c2_i32_61 : BitVec 32 := 2#32
  let c2_i32_57 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v118 : BitVec 32 := Scalar.muli c2_i32_57 arg12
  let c1_i32_58 : BitVec 32 := 1#32
  let v119 : BitVec 32 := Scalar.addi v118 c1_i32_58
  let v122 : BitVec 32 := Scalar.muli c2_i32_61 v119
  let c1_i32_62 : BitVec 32 := 1#32
  let v123 : BitVec 32 := Scalar.addi v122 c1_i32_62
  let c256_i32_138 : BitVec 32 := 256#32
  let v339 : BitVec 32 := Scalar.muli v123 c256_i32_138
  v339
def k0_mult32 (i : grid0.Coords) (k0_t2 : Fin (k0_t2_loop i).trips) : BitVec 32 :=
  let c2_i32_61 : BitVec 32 := 2#32
  let c2_i32_57 : BitVec 32 := 2#32
  let c0_i32_20 : BitVec 32 := 0#32
  let arg2 : BitVec 32 := BitVec.ofNat 32 (i 2).val
  let c0_i32_14 : BitVec 32 := 0#32
  let v39 : BitVec 1 := Scalar.cmpi .sgt arg2 c0_i32_14
  let v40 : BitVec 32 := Scalar.extui v39
  let c0_i32_15 : BitVec 32 := 0#32
  let v41 : BitVec 1 := Scalar.cmpi .slt arg2 c0_i32_15
  let v42 : BitVec 32 := Scalar.extui v41
  let v43 : BitVec 32 := Scalar.subi v40 v42
  let c2_i32 : BitVec 32 := 2#32
  let c0_i32_16 : BitVec 32 := 0#32
  let v44 : BitVec 1 := Scalar.cmpi .sgt c2_i32 c0_i32_16
  let v45 : BitVec 32 := Scalar.extui v44
  let c0_i32_17 : BitVec 32 := 0#32
  let v46 : BitVec 1 := Scalar.cmpi .slt c2_i32 c0_i32_17
  let v47 : BitVec 32 := Scalar.extui v46
  let v48 : BitVec 32 := Scalar.subi v45 v47
  let v49 : BitVec 1 := Scalar.cmpi .ne v43 v48
  let v50 : BitVec 32 := Scalar.remsi arg2 c2_i32
  let c0_i32_18 : BitVec 32 := 0#32
  let v51 : BitVec 1 := Scalar.cmpi .ne v50 c0_i32_18
  let v52 : BitVec 1 := Scalar.andi v49 v51
  let v38 : BitVec 32 := Scalar.divsi arg2 c2_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let v118 : BitVec 32 := Scalar.muli c2_i32_57 arg12
  let c1_i32_58 : BitVec 32 := 1#32
  let v119 : BitVec 32 := Scalar.addi v118 c1_i32_58
  let v122 : BitVec 32 := Scalar.muli c2_i32_61 v119
  let c1_i32_62 : BitVec 32 := 1#32
  let v123 : BitVec 32 := Scalar.addi v122 c1_i32_62
  let c256_i32_142 : BitVec 32 := 256#32
  let v356 : BitVec 32 := Scalar.muli v123 c256_i32_142
  v356
def k0_cond1 (i : grid0.Coords) : BitVec 1 :=
  let arg2 : BitVec 32 := BitVec.ofNat 32 (i 2).val
  let c2_i32_24 : BitVec 32 := 2#32
  let c0_i32_25 : BitVec 32 := 0#32
  let v60 : BitVec 1 := Scalar.cmpi .eq c2_i32_24 c0_i32_25
  let c1_i32_26 : BitVec 32 := 1#32
  let v61 : BitVec 32 := Scalar.select v60 c1_i32_26 c2_i32_24
  let v62 : BitVec 32 := Scalar.remsi arg2 v61
  let c0_i32_28 : BitVec 32 := 0#32
  let v64 : BitVec 1 := Scalar.cmpi .slt v62 c0_i32_28
  let c0_i32_29 : BitVec 32 := 0#32
  let v65 : BitVec 1 := Scalar.cmpi .slt v61 c0_i32_29
  let v66 : BitVec 1 := Scalar.xori v64 v65
  let c0_i32_27 : BitVec 32 := 0#32
  let v63 : BitVec 1 := Scalar.cmpi .ne v62 c0_i32_27
  let v67 : BitVec 1 := Scalar.andi v66 v63
  let v68 : BitVec 32 := Scalar.addi v62 v61
  let v69 : BitVec 32 := Scalar.select v67 v68 v62
  let c1_i32_30 : BitVec 32 := 1#32
  let v70 : BitVec 1 := Scalar.cmpi .eq v69 c1_i32_30
  let v71 : BitVec 32 := Scalar.extui v70
  let c0_i32_31 : BitVec 32 := 0#32
  let v72 : BitVec 1 := Scalar.cmpi .ne v71 c0_i32_31
  v72

def k0_mult33 (i : grid0.Coords) : BitVec 32 :=
  let c2_i32_53 : BitVec 32 := 2#32
  let arg2 : BitVec 32 := BitVec.ofNat 32 (i 2).val
  let c1_i32_52 : BitVec 32 := 1#32
  let v113 : BitVec 32 := Scalar.subi arg2 c1_i32_52
  let v114 : BitVec 32 := Scalar.muli c2_i32_53 v113
  let c0_i32_54 : BitVec 32 := 0#32
  let v115 : BitVec 32 := Scalar.addi v114 c0_i32_54
  let c256_i32 : BitVec 32 := 256#32
  let v122 : BitVec 32 := Scalar.muli v115 c256_i32
  v122
def k0_off13 (i : grid0.Coords) (c0_i32_54 : BitVec 32) : Fin 2 → Nat :=
  let c2_i32_53 : BitVec 32 := 2#32
  let arg2 : BitVec 32 := BitVec.ofNat 32 (i 2).val
  let c1_i32_52 : BitVec 32 := 1#32
  let v113 : BitVec 32 := Scalar.subi arg2 c1_i32_52
  let v114 : BitVec 32 := Scalar.muli c2_i32_53 v113
  let v115 : BitVec 32 := Scalar.addi v114 c0_i32_54
  let c256_i32 : BitVec 32 := 256#32
  let v122 : BitVec 32 := Scalar.muli v115 c256_i32
  let v123 : BitVec 32 := v122
  let v124 : Index := Scalar.indexCast v123
  let c0_61 : Index := 0#32
  ![v124.toNat, 0]
def k0_mult34 (i : grid0.Coords) : BitVec 32 :=
  let c2_i32_53 : BitVec 32 := 2#32
  let arg2 : BitVec 32 := BitVec.ofNat 32 (i 2).val
  let c1_i32_52 : BitVec 32 := 1#32
  let v113 : BitVec 32 := Scalar.subi arg2 c1_i32_52
  let v114 : BitVec 32 := Scalar.muli c2_i32_53 v113
  let c0_i32_54 : BitVec 32 := 0#32
  let v115 : BitVec 32 := Scalar.addi v114 c0_i32_54
  let c256_i32_65 : BitVec 32 := 256#32
  let v134 : BitVec 32 := Scalar.muli v115 c256_i32_65
  v134
def k0_mult35 (i : grid0.Coords) : BitVec 32 :=
  let c2_i32_55 : BitVec 32 := 2#32
  let arg2 : BitVec 32 := BitVec.ofNat 32 (i 2).val
  let c1_i32_52 : BitVec 32 := 1#32
  let v113 : BitVec 32 := Scalar.subi arg2 c1_i32_52
  let v116 : BitVec 32 := Scalar.muli c2_i32_55 v113
  let c1_i32_56 : BitVec 32 := 1#32
  let v117 : BitVec 32 := Scalar.addi v116 c1_i32_56
  let c256_i32_70 : BitVec 32 := 256#32
  let v146 : BitVec 32 := Scalar.muli v117 c256_i32_70
  v146
def k0_mult36 (i : grid0.Coords) : BitVec 32 :=
  let c2_i32_55 : BitVec 32 := 2#32
  let arg2 : BitVec 32 := BitVec.ofNat 32 (i 2).val
  let c1_i32_52 : BitVec 32 := 1#32
  let v113 : BitVec 32 := Scalar.subi arg2 c1_i32_52
  let v116 : BitVec 32 := Scalar.muli c2_i32_55 v113
  let c1_i32_56 : BitVec 32 := 1#32
  let v117 : BitVec 32 := Scalar.addi v116 c1_i32_56
  let c256_i32_75 : BitVec 32 := 256#32
  let v158 : BitVec 32 := Scalar.muli v117 c256_i32_75
  v158
def k0_mult37 (i : grid0.Coords) : BitVec 32 :=
  let c2_i32_57 : BitVec 32 := 2#32
  let arg2 : BitVec 32 := BitVec.ofNat 32 (i 2).val
  let v118 : BitVec 32 := Scalar.muli c2_i32_57 arg2
  let c0_i32_58 : BitVec 32 := 0#32
  let v119 : BitVec 32 := Scalar.addi v118 c0_i32_58
  let c256_i32_80 : BitVec 32 := 256#32
  let v170 : BitVec 32 := Scalar.muli v119 c256_i32_80
  v170
def k0_off14 (i : grid0.Coords) (c0_i32_58 : BitVec 32) : Fin 2 → Nat :=
  let c2_i32_57 : BitVec 32 := 2#32
  let arg2 : BitVec 32 := BitVec.ofNat 32 (i 2).val
  let v118 : BitVec 32 := Scalar.muli c2_i32_57 arg2
  let v119 : BitVec 32 := Scalar.addi v118 c0_i32_58
  let c256_i32_80 : BitVec 32 := 256#32
  let v170 : BitVec 32 := Scalar.muli v119 c256_i32_80
  let v171 : BitVec 32 := v170
  let v172 : Index := Scalar.indexCast v171
  let c0_81 : Index := 0#32
  ![v172.toNat, 0]
def k0_mult38 (i : grid0.Coords) : BitVec 32 :=
  let c2_i32_57 : BitVec 32 := 2#32
  let arg2 : BitVec 32 := BitVec.ofNat 32 (i 2).val
  let v118 : BitVec 32 := Scalar.muli c2_i32_57 arg2
  let c0_i32_58 : BitVec 32 := 0#32
  let v119 : BitVec 32 := Scalar.addi v118 c0_i32_58
  let c256_i32_85 : BitVec 32 := 256#32
  let v182 : BitVec 32 := Scalar.muli v119 c256_i32_85
  v182
def k0_mult39 (i : grid0.Coords) : BitVec 32 :=
  let c2_i32_59 : BitVec 32 := 2#32
  let arg2 : BitVec 32 := BitVec.ofNat 32 (i 2).val
  let v120 : BitVec 32 := Scalar.muli c2_i32_59 arg2
  let c1_i32_60 : BitVec 32 := 1#32
  let v121 : BitVec 32 := Scalar.addi v120 c1_i32_60
  let c256_i32_90 : BitVec 32 := 256#32
  let v194 : BitVec 32 := Scalar.muli v121 c256_i32_90
  v194
def k0_mult40 (i : grid0.Coords) : BitVec 32 :=
  let c2_i32_59 : BitVec 32 := 2#32
  let arg2 : BitVec 32 := BitVec.ofNat 32 (i 2).val
  let v120 : BitVec 32 := Scalar.muli c2_i32_59 arg2
  let c1_i32_60 : BitVec 32 := 1#32
  let v121 : BitVec 32 := Scalar.addi v120 c1_i32_60
  let c256_i32_95 : BitVec 32 := 256#32
  let v206 : BitVec 32 := Scalar.muli v121 c256_i32_95
  v206
def k0_mult41 (i : grid0.Coords) : BitVec 32 :=
  let c2_i32_53 : BitVec 32 := 2#32
  let arg2 : BitVec 32 := BitVec.ofNat 32 (i 2).val
  let c1_i32_52 : BitVec 32 := 1#32
  let v113 : BitVec 32 := Scalar.subi arg2 c1_i32_52
  let v114 : BitVec 32 := Scalar.muli c2_i32_53 v113
  let c0_i32_54 : BitVec 32 := 0#32
  let v115 : BitVec 32 := Scalar.addi v114 c0_i32_54
  let c256_i32_113 : BitVec 32 := 256#32
  let v235 : BitVec 32 := Scalar.muli v115 c256_i32_113
  v235
def k0_off15 (i : grid0.Coords) (c0_i32_54 : BitVec 32) : Fin 2 → Nat :=
  let c0_114 : Index := 0#32
  let c2_i32_53 : BitVec 32 := 2#32
  let arg2 : BitVec 32 := BitVec.ofNat 32 (i 2).val
  let c1_i32_52 : BitVec 32 := 1#32
  let v113 : BitVec 32 := Scalar.subi arg2 c1_i32_52
  let v114 : BitVec 32 := Scalar.muli c2_i32_53 v113
  let v115 : BitVec 32 := Scalar.addi v114 c0_i32_54
  let c256_i32_113 : BitVec 32 := 256#32
  let v235 : BitVec 32 := Scalar.muli v115 c256_i32_113
  let v236 : BitVec 32 := v235
  let v237 : Index := Scalar.indexCast v236
  ![0, v237.toNat]
def k0_mult42 (i : grid0.Coords) : BitVec 32 :=
  let c2_i32_53 : BitVec 32 := 2#32
  let arg2 : BitVec 32 := BitVec.ofNat 32 (i 2).val
  let c1_i32_52 : BitVec 32 := 1#32
  let v113 : BitVec 32 := Scalar.subi arg2 c1_i32_52
  let v114 : BitVec 32 := Scalar.muli c2_i32_53 v113
  let c0_i32_54 : BitVec 32 := 0#32
  let v115 : BitVec 32 := Scalar.addi v114 c0_i32_54
  let c256_i32_117 : BitVec 32 := 256#32
  let v252 : BitVec 32 := Scalar.muli v115 c256_i32_117
  v252
def k0_off16 (i : grid0.Coords) (c0_i32_54 : BitVec 32) : Fin 2 → Nat :=
  let c80 : Index := 80#32
  let c2_i32_53 : BitVec 32 := 2#32
  let arg2 : BitVec 32 := BitVec.ofNat 32 (i 2).val
  let c1_i32_52 : BitVec 32 := 1#32
  let v113 : BitVec 32 := Scalar.subi arg2 c1_i32_52
  let v114 : BitVec 32 := Scalar.muli c2_i32_53 v113
  let v115 : BitVec 32 := Scalar.addi v114 c0_i32_54
  let c256_i32_117 : BitVec 32 := 256#32
  let v252 : BitVec 32 := Scalar.muli v115 c256_i32_117
  let v253 : BitVec 32 := v252
  let v254 : Index := Scalar.indexCast v253
  ![80, v254.toNat]
def k0_mult43 (i : grid0.Coords) : BitVec 32 :=
  let c2_i32_55 : BitVec 32 := 2#32
  let arg2 : BitVec 32 := BitVec.ofNat 32 (i 2).val
  let c1_i32_52 : BitVec 32 := 1#32
  let v113 : BitVec 32 := Scalar.subi arg2 c1_i32_52
  let v116 : BitVec 32 := Scalar.muli c2_i32_55 v113
  let c1_i32_56 : BitVec 32 := 1#32
  let v117 : BitVec 32 := Scalar.addi v116 c1_i32_56
  let c256_i32_120 : BitVec 32 := 256#32
  let v269 : BitVec 32 := Scalar.muli v117 c256_i32_120
  v269
def k0_mult44 (i : grid0.Coords) : BitVec 32 :=
  let c2_i32_55 : BitVec 32 := 2#32
  let arg2 : BitVec 32 := BitVec.ofNat 32 (i 2).val
  let c1_i32_52 : BitVec 32 := 1#32
  let v113 : BitVec 32 := Scalar.subi arg2 c1_i32_52
  let v116 : BitVec 32 := Scalar.muli c2_i32_55 v113
  let c1_i32_56 : BitVec 32 := 1#32
  let v117 : BitVec 32 := Scalar.addi v116 c1_i32_56
  let c256_i32_124 : BitVec 32 := 256#32
  let v286 : BitVec 32 := Scalar.muli v117 c256_i32_124
  v286
def k0_mult45 (i : grid0.Coords) : BitVec 32 :=
  let c2_i32_57 : BitVec 32 := 2#32
  let arg2 : BitVec 32 := BitVec.ofNat 32 (i 2).val
  let v118 : BitVec 32 := Scalar.muli c2_i32_57 arg2
  let c0_i32_58 : BitVec 32 := 0#32
  let v119 : BitVec 32 := Scalar.addi v118 c0_i32_58
  let c256_i32_130 : BitVec 32 := 256#32
  let v310 : BitVec 32 := Scalar.muli v119 c256_i32_130
  v310
def k0_off17 (i : grid0.Coords) (c0_i32_58 : BitVec 32) : Fin 2 → Nat :=
  let c0_131 : Index := 0#32
  let c2_i32_57 : BitVec 32 := 2#32
  let arg2 : BitVec 32 := BitVec.ofNat 32 (i 2).val
  let v118 : BitVec 32 := Scalar.muli c2_i32_57 arg2
  let v119 : BitVec 32 := Scalar.addi v118 c0_i32_58
  let c256_i32_130 : BitVec 32 := 256#32
  let v310 : BitVec 32 := Scalar.muli v119 c256_i32_130
  let v311 : BitVec 32 := v310
  let v312 : Index := Scalar.indexCast v311
  ![0, v312.toNat]
def k0_mult46 (i : grid0.Coords) : BitVec 32 :=
  let c2_i32_57 : BitVec 32 := 2#32
  let arg2 : BitVec 32 := BitVec.ofNat 32 (i 2).val
  let v118 : BitVec 32 := Scalar.muli c2_i32_57 arg2
  let c0_i32_58 : BitVec 32 := 0#32
  let v119 : BitVec 32 := Scalar.addi v118 c0_i32_58
  let c256_i32_136 : BitVec 32 := 256#32
  let v334 : BitVec 32 := Scalar.muli v119 c256_i32_136
  v334
def k0_off18 (i : grid0.Coords) (c0_i32_58 : BitVec 32) : Fin 2 → Nat :=
  let c80_137 : Index := 80#32
  let c2_i32_57 : BitVec 32 := 2#32
  let arg2 : BitVec 32 := BitVec.ofNat 32 (i 2).val
  let v118 : BitVec 32 := Scalar.muli c2_i32_57 arg2
  let v119 : BitVec 32 := Scalar.addi v118 c0_i32_58
  let c256_i32_136 : BitVec 32 := 256#32
  let v334 : BitVec 32 := Scalar.muli v119 c256_i32_136
  let v335 : BitVec 32 := v334
  let v336 : Index := Scalar.indexCast v335
  ![80, v336.toNat]
def k0_mult47 (i : grid0.Coords) : BitVec 32 :=
  let c2_i32_59 : BitVec 32 := 2#32
  let arg2 : BitVec 32 := BitVec.ofNat 32 (i 2).val
  let v120 : BitVec 32 := Scalar.muli c2_i32_59 arg2
  let c1_i32_60 : BitVec 32 := 1#32
  let v121 : BitVec 32 := Scalar.addi v120 c1_i32_60
  let c256_i32_142 : BitVec 32 := 256#32
  let v358 : BitVec 32 := Scalar.muli v121 c256_i32_142
  v358
def k0_mult48 (i : grid0.Coords) : BitVec 32 :=
  let c2_i32_59 : BitVec 32 := 2#32
  let arg2 : BitVec 32 := BitVec.ofNat 32 (i 2).val
  let v120 : BitVec 32 := Scalar.muli c2_i32_59 arg2
  let c1_i32_60 : BitVec 32 := 1#32
  let v121 : BitVec 32 := Scalar.addi v120 c1_i32_60
  let c256_i32_148 : BitVec 32 := 256#32
  let v382 : BitVec 32 := Scalar.muli v121 c256_i32_148
  v382
def k0_cond2 (i : grid0.Coords) : BitVec 1 :=
  let arg2 : BitVec 32 := BitVec.ofNat 32 (i 2).val
  let c2_i32_32 : BitVec 32 := 2#32
  let c0_i32_33 : BitVec 32 := 0#32
  let v73 : BitVec 1 := Scalar.cmpi .eq c2_i32_32 c0_i32_33
  let c1_i32_34 : BitVec 32 := 1#32
  let v74 : BitVec 32 := Scalar.select v73 c1_i32_34 c2_i32_32
  let v75 : BitVec 32 := Scalar.remsi arg2 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c0_i32_38 : BitVec 32 := 0#32
  let v83 : BitVec 1 := Scalar.cmpi .eq v82 c0_i32_38
  let v84 : BitVec 32 := Scalar.extui v83
  let c0_i32_39 : BitVec 32 := 0#32
  let v85 : BitVec 1 := Scalar.cmpi .ne v84 c0_i32_39
  v85

def k0_mult49 (i : grid0.Coords) : BitVec 32 :=
  let c2_i32_52 : BitVec 32 := 2#32
  let arg2 : BitVec 32 := BitVec.ofNat 32 (i 2).val
  let v113 : BitVec 32 := Scalar.muli c2_i32_52 arg2
  let c0_i32_53 : BitVec 32 := 0#32
  let v114 : BitVec 32 := Scalar.addi v113 c0_i32_53
  let c256_i32 : BitVec 32 := 256#32
  let v117 : BitVec 32 := Scalar.muli v114 c256_i32
  v117
def k0_off19 (i : grid0.Coords) (c0_i32_53 : BitVec 32) : Fin 2 → Nat :=
  let c2_i32_52 : BitVec 32 := 2#32
  let arg2 : BitVec 32 := BitVec.ofNat 32 (i 2).val
  let v113 : BitVec 32 := Scalar.muli c2_i32_52 arg2
  let v114 : BitVec 32 := Scalar.addi v113 c0_i32_53
  let c256_i32 : BitVec 32 := 256#32
  let v117 : BitVec 32 := Scalar.muli v114 c256_i32
  let v118 : BitVec 32 := v117
  let v119 : Index := Scalar.indexCast v118
  let c0_56 : Index := 0#32
  ![v119.toNat, 0]
def k0_mult50 (i : grid0.Coords) : BitVec 32 :=
  let c2_i32_52 : BitVec 32 := 2#32
  let arg2 : BitVec 32 := BitVec.ofNat 32 (i 2).val
  let v113 : BitVec 32 := Scalar.muli c2_i32_52 arg2
  let c0_i32_53 : BitVec 32 := 0#32
  let v114 : BitVec 32 := Scalar.addi v113 c0_i32_53
  let c256_i32_60 : BitVec 32 := 256#32
  let v129 : BitVec 32 := Scalar.muli v114 c256_i32_60
  v129
def k0_mult51 (i : grid0.Coords) : BitVec 32 :=
  let c2_i32_54 : BitVec 32 := 2#32
  let arg2 : BitVec 32 := BitVec.ofNat 32 (i 2).val
  let v115 : BitVec 32 := Scalar.muli c2_i32_54 arg2
  let c1_i32_55 : BitVec 32 := 1#32
  let v116 : BitVec 32 := Scalar.addi v115 c1_i32_55
  let c256_i32_65 : BitVec 32 := 256#32
  let v141 : BitVec 32 := Scalar.muli v116 c256_i32_65
  v141
def k0_mult52 (i : grid0.Coords) : BitVec 32 :=
  let c2_i32_54 : BitVec 32 := 2#32
  let arg2 : BitVec 32 := BitVec.ofNat 32 (i 2).val
  let v115 : BitVec 32 := Scalar.muli c2_i32_54 arg2
  let c1_i32_55 : BitVec 32 := 1#32
  let v116 : BitVec 32 := Scalar.addi v115 c1_i32_55
  let c256_i32_70 : BitVec 32 := 256#32
  let v153 : BitVec 32 := Scalar.muli v116 c256_i32_70
  v153
def k0_mult53 (i : grid0.Coords) : BitVec 32 :=
  let c2_i32_52 : BitVec 32 := 2#32
  let arg2 : BitVec 32 := BitVec.ofNat 32 (i 2).val
  let v113 : BitVec 32 := Scalar.muli c2_i32_52 arg2
  let c0_i32_53 : BitVec 32 := 0#32
  let v114 : BitVec 32 := Scalar.addi v113 c0_i32_53
  let c256_i32_90 : BitVec 32 := 256#32
  let v189 : BitVec 32 := Scalar.muli v114 c256_i32_90
  v189
def k0_off20 (i : grid0.Coords) (c0_i32_53 : BitVec 32) : Fin 2 → Nat :=
  let c0_91 : Index := 0#32
  let c2_i32_52 : BitVec 32 := 2#32
  let arg2 : BitVec 32 := BitVec.ofNat 32 (i 2).val
  let v113 : BitVec 32 := Scalar.muli c2_i32_52 arg2
  let v114 : BitVec 32 := Scalar.addi v113 c0_i32_53
  let c256_i32_90 : BitVec 32 := 256#32
  let v189 : BitVec 32 := Scalar.muli v114 c256_i32_90
  let v190 : BitVec 32 := v189
  let v191 : Index := Scalar.indexCast v190
  ![0, v191.toNat]
def k0_mult54 (i : grid0.Coords) : BitVec 32 :=
  let c2_i32_52 : BitVec 32 := 2#32
  let arg2 : BitVec 32 := BitVec.ofNat 32 (i 2).val
  let v113 : BitVec 32 := Scalar.muli c2_i32_52 arg2
  let c0_i32_53 : BitVec 32 := 0#32
  let v114 : BitVec 32 := Scalar.addi v113 c0_i32_53
  let c256_i32_96 : BitVec 32 := 256#32
  let v213 : BitVec 32 := Scalar.muli v114 c256_i32_96
  v213
def k0_off21 (i : grid0.Coords) (c0_i32_53 : BitVec 32) : Fin 2 → Nat :=
  let c80 : Index := 80#32
  let c2_i32_52 : BitVec 32 := 2#32
  let arg2 : BitVec 32 := BitVec.ofNat 32 (i 2).val
  let v113 : BitVec 32 := Scalar.muli c2_i32_52 arg2
  let v114 : BitVec 32 := Scalar.addi v113 c0_i32_53
  let c256_i32_96 : BitVec 32 := 256#32
  let v213 : BitVec 32 := Scalar.muli v114 c256_i32_96
  let v214 : BitVec 32 := v213
  let v215 : Index := Scalar.indexCast v214
  ![80, v215.toNat]
def k0_mult55 (i : grid0.Coords) : BitVec 32 :=
  let c2_i32_54 : BitVec 32 := 2#32
  let arg2 : BitVec 32 := BitVec.ofNat 32 (i 2).val
  let v115 : BitVec 32 := Scalar.muli c2_i32_54 arg2
  let c1_i32_55 : BitVec 32 := 1#32
  let v116 : BitVec 32 := Scalar.addi v115 c1_i32_55
  let c256_i32_101 : BitVec 32 := 256#32
  let v237 : BitVec 32 := Scalar.muli v116 c256_i32_101
  v237
def k0_mult56 (i : grid0.Coords) : BitVec 32 :=
  let c2_i32_54 : BitVec 32 := 2#32
  let arg2 : BitVec 32 := BitVec.ofNat 32 (i 2).val
  let v115 : BitVec 32 := Scalar.muli c2_i32_54 arg2
  let c1_i32_55 : BitVec 32 := 1#32
  let v116 : BitVec 32 := Scalar.addi v115 c1_i32_55
  let c256_i32_107 : BitVec 32 := 256#32
  let v261 : BitVec 32 := Scalar.muli v116 c256_i32_107
  v261
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c36_i32 : BitVec 32 := 36#32
  let v2 : BitVec 32 := Scalar.addi c36_i32 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S160x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== FoxIdeal.lean ====
variable {F : FTy → Type} [FloatOps F] [Named F]
def κ : String → Option EReal := fun
  | "scale" => some (((1 / 8) * (Real.log 2)⁻¹ : ℝ) : EReal)
  | _ => none
-- ==== FoxReferenceIdeal.lean ====
abbrev S16384x12288 : Shape := ⟨2, ![16384, 12288]⟩
abbrev S16384x512 : Shape := ⟨2, ![16384, 512]⟩
abbrev S2560x4096 : Shape := ⟨2, ![2560, 4096]⟩
abbrev S4x4096x8x64 : Shape := ⟨4, ![4, 4096, 8, 64]⟩
abbrev S4x8x80x4096 : Shape := ⟨4, ![4, 8, 80, 4096]⟩
abbrev S4x8x64x4096 : Shape := ⟨4, ![4, 8, 64, 4096]⟩
abbrev S4x4096x4x128 : Shape := ⟨4, ![4, 4096, 4, 128]⟩
abbrev S4x4096x4x12 : Shape := ⟨4, ![4, 4096, 4, 12]⟩
abbrev S4x4096x8x6 : Shape := ⟨4, ![4, 4096, 8, 6]⟩
abbrev S4x4096x8x3 : Shape := ⟨4, ![4, 4096, 8, 3]⟩
abbrev S_ : Shape := ⟨0, ![]⟩
abbrev S4x4096x8 : Shape := ⟨3, ![4, 4096, 8]⟩
abbrev S4x8x4096 : Shape := ⟨3, ![4, 8, 4096]⟩
abbrev S4x8x4096x4096 : Shape := ⟨4, ![4, 8, 4096, 4096]⟩
abbrev S4x8x4096x1 : Shape := ⟨4, ![4, 8, 4096, 1]⟩
abbrev S4x8x1x4096 : Shape := ⟨4, ![4, 8, 1, 4096]⟩
abbrev S4096x4096 : Shape := ⟨2, ![4096, 4096]⟩
abbrev S1x1x4096x4096 : Shape := ⟨4, ![1, 1, 4096, 4096]⟩

abbrev nBuf : Space → Nat
  | .hbm => 71
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S16384x512, .bf16⟩
  | .hbm, ⟨2, _⟩ => ⟨S16384x512, .bf16⟩
  | .hbm, ⟨3, _⟩ => ⟨S2560x4096, .bf16⟩
  | .hbm, ⟨4, _⟩ => ⟨S16384x512, .bf16⟩
  | .hbm, ⟨5, _⟩ => ⟨S16384x512, .f32⟩
  | .hbm, ⟨6, _⟩ => ⟨S4x4096x8x64, .f32⟩
  | .hbm, ⟨7, _⟩ => ⟨S16384x512, .bf16⟩
  | .hbm, ⟨8, _⟩ => ⟨S16384x512, .f32⟩
  | .hbm, ⟨9, _⟩ => ⟨S4x4096x8x64, .f32⟩
  | .hbm, ⟨10, _⟩ => ⟨S16384x512, .bf16⟩
  | .hbm, ⟨11, _⟩ => ⟨S16384x512, .f32⟩
  | .hbm, ⟨12, _⟩ => ⟨S4x8x80x4096, .bf16⟩
  | .hbm, ⟨13, _⟩ => ⟨S4x8x64x4096, .bf16⟩
  | .hbm, ⟨14, _⟩ => ⟨S4x8x64x4096, .f32⟩
  | .hbm, ⟨15, _⟩ => ⟨S16384x512, .f32⟩
  | .hbm, ⟨16, _⟩ => ⟨S4x4096x4x128, .f32⟩
  | .hbm, ⟨17, _⟩ => ⟨S4x4096x4x12, .f32⟩
  | .hbm, ⟨18, _⟩ => ⟨S4x4096x8x6, .f32⟩
  | .hbm, ⟨19, _⟩ => ⟨S4x4096x8x3, .f32⟩
  | .hbm, ⟨20, _⟩ => ⟨S_, .f32⟩
  | .hbm, ⟨21, _⟩ => ⟨S4x4096x8, .f32⟩
  | .hbm, ⟨22, _⟩ => ⟨S_, .f32⟩
  | .hbm, ⟨23, _⟩ => ⟨S_, .f32⟩
  | .hbm, ⟨24, _⟩ => ⟨S4x4096x8, .f32⟩
  | .hbm, ⟨25, _⟩ => ⟨S4x4096x8, .f32⟩
  | .hbm, ⟨26, _⟩ => ⟨S4x8x4096, .f32⟩
  | .hbm, ⟨27, _⟩ => ⟨S4x8x4096x4096, .f32⟩
  | .hbm, ⟨28, _⟩ => ⟨S_, .f32⟩
  | .hbm, ⟨29, _⟩ => ⟨S4x8x4096x4096, .f32⟩
  | .hbm, ⟨30, _⟩ => ⟨S4x8x4096x4096, .f32⟩
  | .hbm, ⟨31, _⟩ => ⟨S4x8x4096x1, .f32⟩
  | .hbm, ⟨32, _⟩ => ⟨S4x8x4096x4096, .f32⟩
  | .hbm, ⟨33, _⟩ => ⟨S4x8x4096x4096, .f32⟩
  | .hbm, ⟨34, _⟩ => ⟨S4x8x1x4096, .f32⟩
  | .hbm, ⟨35, _⟩ => ⟨S4x8x4096x4096, .f32⟩
  | .hbm, ⟨36, _⟩ => ⟨S4x8x4096x4096, .f32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S1x1x4096x4096, .i1⟩
  | .hbm, ⟨41, _⟩ => ⟨S_, .f32⟩
  | .hbm, ⟨42, _⟩ => ⟨S_, .f32⟩
  | .hbm, ⟨43, _⟩ => ⟨S4x8x4096x4096, .i1⟩
  | .hbm, ⟨44, _⟩ => ⟨S4x8x4096x4096, .f32⟩
  | .hbm, ⟨45, _⟩ => ⟨S4x8x4096x4096, .f32⟩
  | .hbm, ⟨46, _⟩ => ⟨S_, .f32⟩
  | .hbm, ⟨47, _⟩ => ⟨S4x8x4096, .f32⟩
  | .hbm, ⟨48, _⟩ => ⟨S4x8x4096x1, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .f32⟩
  | .hbm, ⟨52, _⟩ => ⟨S_, .f32⟩
  | .hbm, ⟨53, _⟩ => ⟨S4x8x4096, .f32⟩
  | .hbm, ⟨54, _⟩ => ⟨S4x8x4096x1, .f32⟩
  | .hbm, ⟨55, _⟩ => ⟨S4x8x4096x4096, .f32⟩
  | .hbm, ⟨56, _⟩ => ⟨S4x8x4096x4096, .f32⟩
  | .hbm, ⟨57, _⟩ => ⟨S4x8x64x4096, .f32⟩
  | .hbm, ⟨58, _⟩ => ⟨S4x4096x8x64, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S_, .f32⟩
  | .hbm, ⟨63, _⟩ => ⟨S16384x512, .f32⟩
  | .hbm, ⟨64, _⟩ => ⟨S16384x512, .f32⟩
  | .hbm, ⟨65, _⟩ => ⟨S_, .f32⟩
  | .hbm, ⟨66, _⟩ => ⟨S16384x512, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S16384x512, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== InProj.lean ====
abbrev S16384x2048 : Shape := ⟨2, ![16384, 2048]⟩
abbrev S2048 : Shape := ⟨1, ![2048]⟩
abbrev S2x12288x2048 : Shape := ⟨3, ![2, 12288, 2048]⟩
abbrev S2x128x2048 : Shape := ⟨3, ![2, 128, 2048]⟩
abbrev S1x2048 : Shape := ⟨2, ![1, 2048]⟩
abbrev S16384x12288 : Shape := ⟨2, ![16384, 12288]⟩
abbrev S16384x128 : Shape := ⟨2, ![16384, 128]⟩
abbrev S1024x2048 : Shape := ⟨2, ![1024, 2048]⟩
abbrev S1x2048x2048 : Shape := ⟨3, ![1, 2048, 2048]⟩
abbrev S1x128x2048 : Shape := ⟨3, ![1, 128, 2048]⟩
abbrev S1024x128 : Shape := ⟨2, ![1024, 128]⟩
abbrev S1024 : Shape := ⟨1, ![1024]⟩
abbrev S1024x1 : Shape := ⟨2, ![1024, 1]⟩
abbrev S128x2048 : Shape := ⟨2, ![128, 2048]⟩
abbrev S2048x2048 : Shape := ⟨2, ![2048, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x12288x2048, .bf16⟩
  | .hbm, ⟨3, _⟩ => ⟨S2x128x2048, .bf16⟩
  | .hbm, ⟨4, _⟩ => ⟨S1x2048, .f32⟩
  | .hbm, ⟨5, _⟩ => ⟨S16384x12288, .bf16⟩
  | .hbm, ⟨6, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x128x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjReferenceIdeal.lean ====
abbrev S16384x2048 : Shape := ⟨2, ![16384, 2048]⟩
abbrev S2048 : Shape := ⟨1, ![2048]⟩
abbrev S2x12288x2048 : Shape := ⟨3, ![2, 12288, 2048]⟩
abbrev S2x128x2048 : Shape := ⟨3, ![2, 128, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x12288x2048 : Shape := ⟨3, ![1, 12288, 2048]⟩
abbrev S12288x2048 : Shape := ⟨2, ![12288, 2048]⟩
abbrev S2048x12288 : Shape := ⟨2, ![2048, 12288]⟩
abbrev S16384x12288 : Shape := ⟨2, ![16384, 12288]⟩
abbrev S1x128x2048 : Shape := ⟨3, ![1, 128, 2048]⟩
abbrev S128x2048 : Shape := ⟨2, ![128, 2048]⟩
abbrev S2048x128 : Shape := ⟨2, ![2048, 128]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x12288x2048, .bf16⟩
  | .hbm, ⟨3, _⟩ => ⟨S2x128x2048, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S1x12288x2048, .bf16⟩
  | .hbm, ⟨21, _⟩ => ⟨S12288x2048, .bf16⟩
  | .hbm, ⟨22, _⟩ => ⟨S12288x2048, .f32⟩
  | .hbm, ⟨23, _⟩ => ⟨S2048x12288, .f32⟩
  | .hbm, ⟨24, _⟩ => ⟨S16384x12288, .f32⟩
  | .hbm, ⟨25, _⟩ => ⟨S16384x12288, .bf16⟩
  | .hbm, ⟨26, _⟩ => ⟨S1x128x2048, .bf16⟩
  | .hbm, ⟨27, _⟩ => ⟨S128x2048, .bf16⟩
  | .hbm, ⟨28, _⟩ => ⟨S128x2048, .f32⟩
  | .hbm, ⟨29, _⟩ => ⟨S2048x128, .f32⟩
  | .hbm, ⟨30, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== InProjLast.lean ====
abbrev S16384x2048 : Shape := ⟨2, ![16384, 2048]⟩
abbrev S2048 : Shape := ⟨1, ![2048]⟩
abbrev S2x12288x2048 : Shape := ⟨3, ![2, 12288, 2048]⟩
abbrev S2x128x2048 : Shape := ⟨3, ![2, 128, 2048]⟩
abbrev S1x2048 : Shape := ⟨2, ![1, 2048]⟩
abbrev S16384x12288 : Shape := ⟨2, ![16384, 12288]⟩
abbrev S16384x128 : Shape := ⟨2, ![16384, 128]⟩
abbrev S1024x2048 : Shape := ⟨2, ![1024, 2048]⟩
abbrev S1x2048x2048 : Shape := ⟨3, ![1, 2048, 2048]⟩
abbrev S1x128x2048 : Shape := ⟨3, ![1, 128, 2048]⟩
abbrev S1024x128 : Shape := ⟨2, ![1024, 128]⟩
abbrev S1024 : Shape := ⟨1, ![1024]⟩
abbrev S1024x1 : Shape := ⟨2, ![1024, 1]⟩
abbrev S128x2048 : Shape := ⟨2, ![128, 2048]⟩
abbrev S2048x2048 : Shape := ⟨2, ![2048, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x12288x2048, .bf16⟩
  | .hbm, ⟨3, _⟩ => ⟨S2x128x2048, .bf16⟩
  | .hbm, ⟨4, _⟩ => ⟨S1x2048, .f32⟩
  | .hbm, ⟨5, _⟩ => ⟨S16384x12288, .bf16⟩
  | .hbm, ⟨6, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x128x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjLastReferenceIdeal.lean ====
abbrev S16384x2048 : Shape := ⟨2, ![16384, 2048]⟩
abbrev S2048 : Shape := ⟨1, ![2048]⟩
abbrev S2x12288x2048 : Shape := ⟨3, ![2, 12288, 2048]⟩
abbrev S2x128x2048 : Shape := ⟨3, ![2, 128, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x12288x2048 : Shape := ⟨3, ![1, 12288, 2048]⟩
abbrev S12288x2048 : Shape := ⟨2, ![12288, 2048]⟩
abbrev S2048x12288 : Shape := ⟨2, ![2048, 12288]⟩
abbrev S16384x12288 : Shape := ⟨2, ![16384, 12288]⟩
abbrev S1x128x2048 : Shape := ⟨3, ![1, 128, 2048]⟩
abbrev S128x2048 : Shape := ⟨2, ![128, 2048]⟩
abbrev S2048x128 : Shape := ⟨2, ![2048, 128]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x12288x2048, .bf16⟩
  | .hbm, ⟨3, _⟩ => ⟨S2x128x2048, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S1x12288x2048, .bf16⟩
  | .hbm, ⟨21, _⟩ => ⟨S12288x2048, .bf16⟩
  | .hbm, ⟨22, _⟩ => ⟨S12288x2048, .f32⟩
  | .hbm, ⟨23, _⟩ => ⟨S2048x12288, .f32⟩
  | .hbm, ⟨24, _⟩ => ⟨S16384x12288, .f32⟩
  | .hbm, ⟨25, _⟩ => ⟨S16384x12288, .bf16⟩
  | .hbm, ⟨26, _⟩ => ⟨S1x128x2048, .bf16⟩
  | .hbm, ⟨27, _⟩ => ⟨S128x2048, .bf16⟩
  | .hbm, ⟨28, _⟩ => ⟨S128x2048, .f32⟩
  | .hbm, ⟨29, _⟩ => ⟨S2048x128, .f32⟩
  | .hbm, ⟨30, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== MergeFirst.lean ====
abbrev S16384x1024 : Shape := ⟨2, ![16384, 1024]⟩
abbrev S16384x512 : Shape := ⟨2, ![16384, 512]⟩
abbrev S16384x12288 : Shape := ⟨2, ![16384, 12288]⟩
abbrev S16384x2048 : Shape := ⟨2, ![16384, 2048]⟩
abbrev S2x2048x2048 : Shape := ⟨3, ![2, 2048, 2048]⟩
abbrev S2048 : Shape := ⟨1, ![2048]⟩
abbrev S1x2048 : Shape := ⟨2, ![1, 2048]⟩
abbrev S256x1024 : Shape := ⟨2, ![256, 1024]⟩
abbrev S256x512 : Shape := ⟨2, ![256, 512]⟩
abbrev S256x2048 : Shape := ⟨2, ![256, 2048]⟩
abbrev S2048x2048 : Shape := ⟨2, ![2048, 2048]⟩
abbrev S2 : Shape := ⟨1, ![2]⟩
abbrev S1 : Shape := ⟨1, ![1]⟩
abbrev S_ : Shape := ⟨0, ![]⟩
abbrev S1x2048x2048 : Shape := ⟨3, ![1, 2048, 2048]⟩
abbrev S1024x2048 : Shape := ⟨2, ![1024, 2048]⟩
abbrev S512x2048 : Shape := ⟨2, ![512, 2048]⟩

abbrev nBuf : Space → Nat
  | .hbm => 12
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x12288, .bf16⟩
  | .hbm, ⟨4, _⟩ => ⟨S16384x2048, .f32⟩
  | .hbm, ⟨5, _⟩ => ⟨S2x2048x2048, .f32⟩
  | .hbm, ⟨6, _⟩ => ⟨S2x2048x2048, .f32⟩
  | .hbm, ⟨7, _⟩ => ⟨S2048, .f32⟩
  | .hbm, ⟨8, _⟩ => ⟨S2x2048x2048, .bf16⟩
  | .hbm, ⟨9, _⟩ => ⟨S2x2048x2048, .bf16⟩
  | .hbm, ⟨10, _⟩ => ⟨S1x2048, .f32⟩
  | .hbm, ⟨11, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | .local _ .vmem, ⟨17, _⟩ => ⟨S2048x2048, .bf16⟩
  | .local _ .vmem, ⟨18, _⟩ => ⟨S2048x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeFirstReferenceIdeal.lean ====
abbrev S16384x1024 : Shape := ⟨2, ![16384, 1024]⟩
abbrev S16384x512 : Shape := ⟨2, ![16384, 512]⟩
abbrev S16384x12288 : Shape := ⟨2, ![16384, 12288]⟩
abbrev S16384x2048 : Shape := ⟨2, ![16384, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S16384x6144 : Shape := ⟨2, ![16384, 6144]⟩
abbrev S_ : Shape := ⟨0, ![]⟩
abbrev S1024x2048 : Shape := ⟨2, ![1024, 2048]⟩
abbrev S512x2048 : Shape := ⟨2, ![512, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x12288, .bf16⟩
  | .hbm, ⟨4, _⟩ => ⟨S16384x2048, .f32⟩
  | .hbm, ⟨5, _⟩ => ⟨S2x2048x2048, .f32⟩
  | .hbm, ⟨6, _⟩ => ⟨S2x2048x2048, .f32⟩
  | .hbm, ⟨7, _⟩ => ⟨S2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S16384x6144, .bf16⟩
  | .hbm, ⟨13, _⟩ => ⟨S16384x6144, .f32⟩
  | .hbm, ⟨14, _⟩ => ⟨S16384x6144, .f32⟩
  | .hbm, ⟨15, _⟩ => ⟨S16384x6144, .f32⟩
  | .hbm, ⟨16, _⟩ => ⟨S_, .f32⟩
  | .hbm, ⟨17, _⟩ => ⟨S16384x6144, .f32⟩
  | .hbm, ⟨18, _⟩ => ⟨S16384x6144, .f32⟩
  | .hbm, ⟨19, _⟩ => ⟨S_, .f32⟩
  | .hbm, ⟨20, _⟩ => ⟨S16384x6144, .f32⟩
  | .hbm, ⟨21, _⟩ => ⟨S16384x6144, .f32⟩
  | .hbm, ⟨22, _⟩ => ⟨S16384x2048, .f32⟩
  | .hbm, ⟨23, _⟩ => ⟨S16384x1024, .f32⟩
  | .hbm, ⟨24, _⟩ => ⟨S1024x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x512, .f32⟩
  | .hbm, ⟨29, _⟩ => ⟨S512x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x512, .f32⟩
  | .hbm, ⟨35, _⟩ => ⟨S512x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x12288 : Shape := ⟨2, ![16384, 12288]⟩
abbrev S16384x2048 : Shape := ⟨2, ![16384, 2048]⟩
abbrev S2x2048x2048 : Shape := ⟨3, ![2, 2048, 2048]⟩
abbrev S2048 : Shape := ⟨1, ![2048]⟩
abbrev S1x2048 : Shape := ⟨2, ![1, 2048]⟩
abbrev S256x1024 : Shape := ⟨2, ![256, 1024]⟩
abbrev S256x512 : Shape := ⟨2, ![256, 512]⟩
abbrev S256x2048 : Shape := ⟨2, ![256, 2048]⟩
abbrev S2048x2048 : Shape := ⟨2, ![2048, 2048]⟩
abbrev S2 : Shape := ⟨1, ![2]⟩
abbrev S1 : Shape := ⟨1, ![1]⟩
abbrev S_ : Shape := ⟨0, ![]⟩
abbrev S1x2048x2048 : Shape := ⟨3, ![1, 2048, 2048]⟩
abbrev S1024x2048 : Shape := ⟨2, ![1024, 2048]⟩
abbrev S512x2048 : Shape := ⟨2, ![512, 2048]⟩
abbrev S256 : Shape := ⟨1, ![256]⟩
abbrev S256x1 : Shape := ⟨2, ![256, 1]⟩

abbrev nBuf : Space → Nat
  | .hbm => 12
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x12288, .bf16⟩
  | .hbm, ⟨4, _⟩ => ⟨S16384x2048, .f32⟩
  | .hbm, ⟨5, _⟩ => ⟨S2x2048x2048, .f32⟩
  | .hbm, ⟨6, _⟩ => ⟨S2x2048x2048, .f32⟩
  | .hbm, ⟨7, _⟩ => ⟨S2048, .f32⟩
  | .hbm, ⟨8, _⟩ => ⟨S2x2048x2048, .bf16⟩
  | .hbm, ⟨9, _⟩ => ⟨S2x2048x2048, .bf16⟩
  | .hbm, ⟨10, _⟩ => ⟨S1x2048, .f32⟩
  | .hbm, ⟨11, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | .local _ .vmem, ⟨17, _⟩ => ⟨S2048x2048, .bf16⟩
  | .local _ .vmem, ⟨18, _⟩ => ⟨S2048x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S16384x1024 : Shape := ⟨2, ![16384, 1024]⟩
abbrev S16384x512 : Shape := ⟨2, ![16384, 512]⟩
abbrev S16384x12288 : Shape := ⟨2, ![16384, 12288]⟩
abbrev S16384x2048 : Shape := ⟨2, ![16384, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S16384x6144 : Shape := ⟨2, ![16384, 6144]⟩
abbrev S_ : Shape := ⟨0, ![]⟩
abbrev S1024x2048 : Shape := ⟨2, ![1024, 2048]⟩
abbrev S512x2048 : Shape := ⟨2, ![512, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x12288, .bf16⟩
  | .hbm, ⟨4, _⟩ => ⟨S16384x2048, .f32⟩
  | .hbm, ⟨5, _⟩ => ⟨S2x2048x2048, .f32⟩
  | .hbm, ⟨6, _⟩ => ⟨S2x2048x2048, .f32⟩
  | .hbm, ⟨7, _⟩ => ⟨S2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S16384x6144, .bf16⟩
  | .hbm, ⟨13, _⟩ => ⟨S16384x6144, .f32⟩
  | .hbm, ⟨14, _⟩ => ⟨S16384x6144, .f32⟩
  | .hbm, ⟨15, _⟩ => ⟨S16384x6144, .f32⟩
  | .hbm, ⟨16, _⟩ => ⟨S_, .f32⟩
  | .hbm, ⟨17, _⟩ => ⟨S16384x6144, .f32⟩
  | .hbm, ⟨18, _⟩ => ⟨S16384x6144, .f32⟩
  | .hbm, ⟨19, _⟩ => ⟨S_, .f32⟩
  | .hbm, ⟨20, _⟩ => ⟨S16384x6144, .f32⟩
  | .hbm, ⟨21, _⟩ => ⟨S16384x6144, .f32⟩
  | .hbm, ⟨22, _⟩ => ⟨S16384x2048, .f32⟩
  | .hbm, ⟨23, _⟩ => ⟨S16384x1024, .f32⟩
  | .hbm, ⟨24, _⟩ => ⟨S1024x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x512, .f32⟩
  | .hbm, ⟨29, _⟩ => ⟨S512x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x512, .f32⟩
  | .hbm, ⟨35, _⟩ => ⟨S512x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== MemAttn.lean ====
abbrev S16384x12288 : Shape := ⟨2, ![16384, 12288]⟩
abbrev S1024x1024 : Shape := ⟨2, ![1024, 1024]⟩
abbrev S16384x512 : Shape := ⟨2, ![16384, 512]⟩
abbrev S2048x512 : Shape := ⟨2, ![2048, 512]⟩
abbrev S256x512 : Shape := ⟨2, ![256, 512]⟩
abbrev S2048x128 : Shape := ⟨2, ![2048, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 3
  | .vmem => 10
  | .smem => 0
  | _ => 0

abbrev bufTy : (tb : Table) → Fin (tcTables nBuf tb) → BufTy
  | .hbm, ⟨0, _⟩ => ⟨S16384x12288, .bf16⟩
  | .hbm, ⟨1, _⟩ => ⟨S1024x1024, .bf16⟩
  | .hbm, ⟨2, _⟩ => ⟨S16384x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S2048x512, .bf16⟩
  | .local _ .vmem, ⟨9, _⟩ => ⟨S2048x512, .bf16⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c10_i32 : BitVec 32 := 10#32
  let c0_i32 : BitVec 32 := 0#32
  ![v1.toNat, c10_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c11_i32 : BitVec 32 := 11#32
  let c0_i32 : BitVec 32 := 0#32
  ![v1.toNat, c11_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemAttnIdeal.lean ====
variable {F : FTy → Type} [FloatOps F] [Named F]
def κ : String → Option EReal := fun
  | "scale" => some (((Real.sqrt 128)⁻¹ * (Real.log 2)⁻¹ : ℝ) : EReal)
  | _ => none
-- ==== MemAttnReferenceIdeal.lean ====
abbrev S16384x12288 : Shape := ⟨2, ![16384, 12288]⟩
abbrev S1024x1024 : Shape := ⟨2, ![1024, 1024]⟩
abbrev S16384x512 : Shape := ⟨2, ![16384, 512]⟩
abbrev S4x4096x4x128 : Shape := ⟨4, ![4, 4096, 4, 128]⟩
abbrev S1024x512 : Shape := ⟨2, ![1024, 512]⟩
abbrev S4x256x4x128 : Shape := ⟨4, ![4, 256, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 43
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S1024x1024, .bf16⟩
  | .hbm, ⟨2, _⟩ => ⟨S16384x512, .bf16⟩
  | .hbm, ⟨3, _⟩ => ⟨S16384x512, .f32⟩
  | .hbm, ⟨4, _⟩ => ⟨S4x4096x4x128, .f32⟩
  | .hbm, ⟨5, _⟩ => ⟨S16384x512, .bf16⟩
  | .hbm, ⟨6, _⟩ => ⟨S16384x512, .f32⟩
  | .hbm, ⟨7, _⟩ => ⟨S1024x512, .bf16⟩
  | .hbm, ⟨8, _⟩ => ⟨S1024x512, .f32⟩
  | .hbm, ⟨9, _⟩ => ⟨S4x256x4x128, .f32⟩
  | .hbm, ⟨10, _⟩ => ⟨S1024x512, .bf16⟩
  | .hbm, ⟨11, _⟩ => ⟨S1024x512, .f32⟩
  | .hbm, ⟨12, _⟩ => ⟨S4x256x4x128, .f32⟩
  | .hbm, ⟨13, _⟩ => ⟨S4x4x4096x256, .f32⟩
  | .hbm, ⟨14, _⟩ => ⟨S_, .f32⟩
  | .hbm, ⟨15, _⟩ => ⟨S_, .f32⟩
  | .hbm, ⟨16, _⟩ => ⟨S4x4x4096x256, .f32⟩
  | .hbm, ⟨17, _⟩ => ⟨S4x4x4096x256, .f32⟩
  | .hbm, ⟨18, _⟩ => ⟨S_, .f32⟩
  | .hbm, ⟨19, _⟩ => ⟨S4x4x4096, .f32⟩
  | .hbm, ⟨20, _⟩ => ⟨S4x4x4096x1, .f32⟩
  | .hbm, ⟨21, _⟩ => ⟨S4x4x4096x256, .f32⟩
  | .hbm, ⟨22, _⟩ => ⟨S4x4x4096x256, .f32⟩
  | .hbm, ⟨23, _⟩ => ⟨S4x4x4096x256, .f32⟩
  | .hbm, ⟨24, _⟩ => ⟨S_, .f32⟩
  | .hbm, ⟨25, _⟩ => ⟨S4x4x4096, .f32⟩
  | .hbm, ⟨26, _⟩ => ⟨S4x4x4096x1, .f32⟩
  | .hbm, ⟨27, _⟩ => ⟨S4x4x4096x256, .f32⟩
  | .hbm, ⟨28, _⟩ => ⟨S4x4x4096x256, .f32⟩
  | .hbm, ⟨29, _⟩ => ⟨S4x4x128x4096, .f32⟩
  | .hbm, ⟨30, _⟩ => ⟨S4x4096x4x128, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Proof.Softmax.lean ====
module

public import Idealize.ShloMosaic.PureOps.Ideal
public import Mathlib.Analysis.SpecialFunctions.Pow.Real

/-! The mathematics of the two attentions, over the extended reals.

A row of attention meets keys with logits `σ k`, in units of log 2, and values `v k`. A key that the mask
excludes has the logit `⊥`. The plain softmax takes all keys at once; the running softmax takes them a
block at a time and keeps a maximum `m` and a scaled sum `a`. `Inv` says what the pair `(m, a)` stands
for, `Inv.step` that one block preserves it, `Inv.quotient` what it gives at the end and `softmax_row`
that the plain softmax gives the same number. -/

@[expose] public section

noncomputable section

namespace Cert.Softmax

open Idealize.ShloMosaic

/-- The weight of a key: two to the power of its logit, and zero for a key that the mask excludes. -/
def weight (σ : EReal) : ℝ := if σ = ⊥ then 0 else (2 : ℝ) ^ σ.toReal

theorem weight_bot : weight ⊥ = 0 := by simp [weight]

theorem weight_coe (r : ℝ) : weight (r : EReal) = (2 : ℝ) ^ r := by simp [weight]

theorem weight_nonneg (σ : EReal) : 0 ≤ weight σ := by
  unfold weight; split
  · exact le_rfl
  · positivity

theorem weight_pos {σ : EReal} (h : σ ≠ ⊥) : 0 < weight σ := by
  unfold weight; rw [if_neg h]; positivity

theorem exp2_bot : Ideal.exp2 ⊥ = 0 := rfl

theorem exp_bot : Ideal.exp ⊥ = 0 := rfl

theorem exp_top : Ideal.exp ⊤ = ⊤ := rfl

/-- A finite sum of real numbers is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_of_ne {x : EReal} (hb : x ≠ ⊥) (ht : x ≠ ⊤) : ∃ r : ℝ, x = r :=
  ⟨x.toReal, (EReal.coe_toReal ht hb).symm⟩

theorem exp2_sub (σ : EReal) (hσ : σ ≠ ⊤) (μ : ℝ) :
    Ideal.exp2 (σ - (μ : EReal)) = ((weight σ * (2 : ℝ) ^ (-μ) : ℝ) : EReal) := by
  by_cases hb : σ = ⊥
  · subst hb
    rw [weight_bot, EReal.bot_sub, exp2_bot]
    simp
  · obtain ⟨r, rfl⟩ := real_of_ne hb hσ
    rw [weight_coe, ← EReal.coe_sub]
    show ((Real.rpow 2 (r - μ) : ℝ) : EReal) = _
    congr 1
    show (2 : ℝ) ^ (r - μ) = _
    rw [← Real.rpow_add (by norm_num)]
    congr 1

/-- The largest of finitely many logits and a start below `⊤` is below `⊤`. -/
theorem fold_max_ne_top {ι : Type*} (s : Finset ι) (σ : ι → EReal) (b : EReal) (hb : b ≠ ⊤) (hσ : ∀ k, σ k ≠ ⊤) :
    s.fold max b σ ≠ ⊤ := by
  apply ne_of_lt
  rw [Finset.fold_max_lt]
  exact ⟨lt_top_iff_ne_top.2 hb, fun k _ => lt_top_iff_ne_top.2 (hσ k)⟩

theorem le_fold_max {ι : Type*} (s : Finset ι) (σ : ι → EReal) (b : EReal) {k : ι} (hk : k ∈ s) :
    σ k ≤ s.fold max b σ := by
  rw [Finset.le_fold_max]
  exact .inr ⟨k, hk, le_rfl⟩

/-- What a running maximum and a running scaled sum stand for: nothing met yet, or the maximum is a real
    number and the sum is `T`, scaled by two to minus the maximum. -/
def Inv (m a : EReal) (T : ℝ) : Prop :=
  (m = ⊥ ∧ a = 0 ∧ T = 0) ∨ ∃ μ : ℝ, m = (μ : EReal) ∧ a = ((T * (2 : ℝ) ^ (-μ) : ℝ) : EReal)

theorem Inv.start : Inv ⊥ 0 0 := .inl ⟨rfl, rfl, rfl⟩

theorem Inv.ne_top {m a : EReal} {T : ℝ} (h : Inv m a T) : m ≠ ⊤ := by
  rcases h with ⟨h, -, -⟩ | ⟨μ, h, -⟩ <;> rw [h] <;> simp

/-- One block of keys, met with the maximum brought up to date and the sum rescaled. -/
theorem Inv.step {K : ℕ} {m a : EReal} {T : ℝ} (h : Inv m a T) (σ : Fin K → EReal) (v : Fin K → ℝ)
    (hσ : ∀ k, σ k ≠ ⊤) {m' : EReal} (hm' : m' = max m (Finset.univ.fold max ⊥ σ)) :
    Inv m' (a * Ideal.exp2 (m - m') + ∑ k, (v k : EReal) * Ideal.exp2 (σ k - m'))
      (T + ∑ k, v k * weight (σ k)) := by
  have htop : m' ≠ ⊤ := by
    rw [hm']
    rcases max_choice m (Finset.univ.fold max ⊥ σ) with e | e <;> rw [e]
    · exact h.ne_top
    · exact fold_max_ne_top _ _ _ (by simp) hσ
  have hle : ∀ k, σ k ≤ m' := fun k => hm' ▸ le_trans (le_fold_max _ σ ⊥ (Finset.mem_univ k)) (le_max_right _ _)
  by_cases hb : m' = ⊥
  · have hm : m = ⊥ := le_bot_iff.1 (hb ▸ hm' ▸ le_max_left _ _)
    have hk : ∀ k, σ k = ⊥ := fun k => le_bot_iff.1 (hb ▸ hle k)
    rcases h with ⟨-, ha, hT⟩ | ⟨μ, h, -⟩
    · refine .inl ⟨hb, ?_, ?_⟩
      · rw [ha, zero_mul, zero_add]
        refine Finset.sum_eq_zero fun k _ => ?_
        rw [hk k, hb, EReal.bot_sub, exp2_bot, mul_zero]
      · rw [hT, zero_add]
        refine Finset.sum_eq_zero fun k _ => ?_
        rw [hk k, weight_bot, mul_zero]
    · rw [hm] at h; simp at h
  · obtain ⟨μ', hμ'⟩ := real_of_ne hb htop
    refine .inr ⟨μ', hμ', ?_⟩
    rw [hμ']
    have hs : ∑ k, (v k : EReal) * Ideal.exp2 (σ k - (μ' : EReal))
        = ((∑ k, v k * (weight (σ k) * (2 : ℝ) ^ (-μ')) : ℝ) : EReal) := by
      rw [coe_sum]
      refine Finset.sum_congr rfl fun k _ => ?_
      rw [exp2_sub _ (hσ k), ← EReal.coe_mul]
    have ha : a * Ideal.exp2 (m - (μ' : EReal)) = ((T * (2 : ℝ) ^ (-μ') : ℝ) : EReal) := by
      rcases h with ⟨-, ha, hT⟩ | ⟨μ, hm, ha⟩
      · rw [ha, hT]; simp
      · rw [ha, hm, exp2_sub _ (by simp), weight_coe, ← EReal.coe_mul]
        congr 1
        have : (2 : ℝ) ^ (-μ) * (2 : ℝ) ^ μ = 1 := by
          rw [← Real.rpow_add (by norm_num)]; simp
        calc T * (2 : ℝ) ^ (-μ) * ((2 : ℝ) ^ μ * (2 : ℝ) ^ (-μ')) = T * ((2 : ℝ) ^ (-μ) * (2 : ℝ) ^ μ) * (2 : ℝ) ^ (-μ') := by ring
          _ = _ := by rw [this, mul_one]
    rw [hs, ha, ← EReal.coe_add]
    congr 1
    rw [add_mul, Finset.sum_mul]
    congr 1
    exact Finset.sum_congr rfl fun k _ => by ring

/-- The quotient of two running sums over one maximum is the quotient of what they stand for. -/
theorem Inv.quotient {m a b : EReal} {T S : ℝ} (ha : Inv m a T) (hb : Inv m b S) (hS : 0 < S) :
    Ideal.div a b = ((T / S : ℝ) : EReal) := by
  rcases hb with ⟨-, -, h⟩ | ⟨μ, hm, hb⟩
  · exact absurd h hS.ne'
  · rcases ha with ⟨h, -, -⟩ | ⟨μ₁, hm₁, ha⟩
    · rw [hm] at h; simp at h
    · have e : μ₁ = μ := by rw [hm] at hm₁; exact (EReal.coe_eq_coe_iff.1 hm₁).symm
      subst e
      have hp : (0 : ℝ) < (2 : ℝ) ^ (-μ₁) := by positivity
      rw [ha, hb, Ideal.div_coe (mul_pos hS hp).ne', ← EReal.coe_mul]
      congr 1
      field_simp

/-- The plain softmax of a row in natural units: the weighted mean of the values. -/
theorem softmax_row {N : ℕ} (σ : Fin N → EReal) (v : Fin N → ℝ) (hσ : ∀ k, σ k ≠ ⊤) (hne : ∃ k, σ k ≠ ⊥)
    (s : Fin N → EReal) (hs : ∀ k, s k = ((Real.log 2 : ℝ) : EReal) * σ k)
    {M L : EReal} (hM : M = Finset.univ.fold max ⊥ s) (hL : L = ∑ k, Ideal.exp (s k - M)) :
    ∑ k, Ideal.div (Ideal.exp (s k - M)) L * (v k : EReal)
      = (((∑ k, v k * weight (σ k)) / (∑ k, weight (σ k)) : ℝ) : EReal) := by
  have hlog : (0 : ℝ) < Real.log 2 := Real.log_pos (by norm_num)
  have hbot : ∀ k, σ k = ⊥ → s k = ⊥ := fun k h => by rw [hs, h, EReal.coe_mul_bot_of_pos hlog]
  have hst : ∀ k, s k ≠ ⊤ := fun k => by
    by_cases h : σ k = ⊥
    · rw [hbot k h]; simp
    · obtain ⟨r, hr⟩ := real_of_ne h (hσ k)
      rw [hs, hr, ← EReal.coe_mul]; exact EReal.coe_ne_top _
  obtain ⟨k₀, hk₀⟩ := hne
  have hMt : M ≠ ⊤ := hM ▸ fold_max_ne_top _ _ _ (by simp) hst
  have hMb : M ≠ ⊥ := by
    obtain ⟨r, hr⟩ := real_of_ne hk₀ (hσ k₀)
    intro h
    have h1 : s k₀ ≤ M := hM ▸ le_fold_max _ s ⊥ (Finset.mem_univ k₀)
    rw [h, hs, hr, ← EReal.coe_mul, le_bot_iff] at h1
    exact EReal.coe_ne_bot _ h1
  obtain ⟨μ, hμ⟩ := real_of_ne hMb hMt
  have he : ∀ k, Ideal.exp (s k - M) = ((weight (σ k) * Real.exp (-μ) : ℝ) : EReal) := fun k => by
    rw [hμ]
    by_cases h : σ k = ⊥
    · rw [hbot k h, h, weight_bot, EReal.bot_sub, exp_bot]; simp
    · obtain ⟨r, hr⟩ := real_of_ne h (hσ k)
      rw [hs, hr, weight_coe, ← EReal.coe_mul, ← EReal.coe_sub]
      show ((Real.exp (Real.log 2 * r - μ) : ℝ) : EReal) = _
      congr 1
      rw [Real.rpow_def_of_pos (by norm_num), ← Real.exp_add]
      congr 1
  have hpos : (0 : ℝ) < ∑ k, weight (σ k) :=
    Finset.sum_pos' (fun k _ => weight_nonneg _) ⟨k₀, Finset.mem_univ _, weight_pos hk₀⟩
  have hx : (0 : ℝ) < Real.exp (-μ) := Real.exp_pos _
  have hL' : L = (((∑ k, weight (σ k)) * Real.exp (-μ) : ℝ) : EReal) := by
    rw [hL, Finset.sum_mul, coe_sum]
    exact Finset.sum_congr rfl fun k _ => he k
  rw [Finset.sum_div, coe_sum]
  refine Finset.sum_congr rfl fun k _ => ?_
  rw [he, hL', Ideal.div_coe (mul_pos hpos hx).ne', ← EReal.coe_mul, ← EReal.coe_mul]
  congr 1
  field_simp

/-- A row met in one block, with a divisor that sums the same weights: the weighted mean of the values. -/
theorem block_row {N : ℕ} (σ : Fin N → EReal) (v : Fin N → ℝ) (hσ : ∀ k, σ k ≠ ⊤) (hne : ∃ k, σ k ≠ ⊥)
    {M : EReal} (hM : M = Finset.univ.fold max ⊥ σ) :
    Ideal.div (∑ k, Ideal.exp2 (σ k - M) * (v k : EReal)) (∑ k, Ideal.exp2 (σ k - M))
      = (((∑ k, v k * weight (σ k)) / (∑ k, weight (σ k)) : ℝ) : EReal) := by
  have hM' : M = max ⊥ (Finset.univ.fold max ⊥ σ) := by rw [hM]; simp
  have h1 := Inv.start.step σ v hσ hM'
  have h2 := Inv.start.step σ (fun _ => 1) hσ hM'
  simp only [zero_mul, zero_add, EReal.coe_one, one_mul] at h1 h2
  obtain ⟨k₀, hk₀⟩ := hne
  have hpos : (0 : ℝ) < ∑ k, weight (σ k) :=
    Finset.sum_pos' (fun k _ => weight_nonneg _) ⟨k₀, Finset.mem_univ _, weight_pos hk₀⟩
  rw [← h1.quotient h2 hpos]
  congr 1
  exact Finset.sum_congr rfl fun k _ => mul_comm _ _

/-- One half. -/
def half : EReal := ((1 / 2 : ℝ) : EReal)

theorem half_eq : Ideal.ofBits .f32 0x3F000000#32 = half := by
  simp [Ideal.ofBits, Ideal.ieee, half, -EReal.coe_mul]
  norm_num

theorem neg_inf_eq : Ideal.ofBits .f32 0xFF800000#32 = ⊥ := by
  simp [Ideal.ofBits, Ideal.ieee]

theorem pos_inf_eq : Ideal.ofBits .f32 0x7F800000#32 = ⊤ := by
  simp [Ideal.ofBits, Ideal.ieee]

/-- An extended real whose magnitude is below `⊤` is a real number. -/
theorem coe_toReal_of_abs {x : EReal} (h : max x (-x) < ⊤) : x = (x.toReal : EReal) := by
  rw [max_lt_iff] at h
  refine (EReal.coe_toReal h.1.ne ?_).symm
  rintro rfl
  simp at h

/-- The logistic function from the hyperbolic tangent of half its argument. -/
theorem sigmoid_eq (x : EReal) : half * Ideal.tanh (half * x) + half = Ideal.logistic x := by
  unfold half Ideal.logistic
  induction x using EReal.rec with
  | bot =>
    rw [EReal.coe_mul_bot_of_pos (by norm_num)]
    show ((1 / 2 : ℝ) : EReal) * (-1) + _ = Ideal.div 1 (1 + Ideal.exp (- ⊥))
    have h1 : ((1 / 2 : ℝ) : EReal) * (-1) + ((1 / 2 : ℝ) : EReal) = ((1 / 2 * (-1) + 1 / 2 : ℝ) : EReal) := by
      rw [EReal.coe_add, EReal.coe_mul]; simp
    have h2 : (1 : EReal) + ⊤ = ⊤ := EReal.add_top_of_ne_bot (by decide)
    rw [h1, EReal.neg_bot, exp_top, h2]
    simp [Ideal.div]
  | top =>
    rw [EReal.coe_mul_top_of_pos (by norm_num)]
    show ((1 / 2 : ℝ) : EReal) * 1 + _ = Ideal.div 1 (1 + Ideal.exp (- ⊤))
    rw [mul_one, ← EReal.coe_add, EReal.neg_top, exp_bot]
    norm_num [Ideal.div, -EReal.coe_add]
  | coe r =>
    rw [← EReal.coe_mul, ← EReal.coe_neg]
    show ((1 / 2 : ℝ) : EReal) * ((Real.tanh (1 / 2 * r) : ℝ) : EReal) + _ = Ideal.div 1 (1 + ((Real.exp (-r) : ℝ) : EReal))
    have hp : (0 : ℝ) < 1 + Real.exp (-r) := by positivity
    have : (1 : EReal) + ((Real.exp (-r) : ℝ) : EReal) = ((1 + Real.exp (-r) : ℝ) : EReal) := by
      rw [EReal.coe_add]; rfl
    rw [this, Ideal.div_coe hp.ne', one_mul, ← EReal.coe_mul, ← EReal.coe_add]
    congr 1
    rw [Real.tanh_eq_sinh_div_cosh, Real.sinh_eq, Real.cosh_eq]
    have e1 : Real.exp (-r) = Real.exp (-(1 / 2 * r)) * Real.exp (-(1 / 2 * r)) := by
      rw [← Real.exp_add]; congr 1; ring
    have e2 : Real.exp (1 / 2 * r) * Real.exp (-(1 / 2 * r)) = 1 := by
      rw [← Real.exp_add]; simp
    rw [e1]
    have ha := Real.exp_pos (1 / 2 * r)
    have hb := Real.exp_pos (-(1 / 2 * r))
    generalize Real.exp (1 / 2 * r) = a at *
    generalize Real.exp (-(1 / 2 * r)) = b at *
    field_simp
    nlinarith [e2]

end Cert.Softmax

end
-- ==== Proof.FoxStep.lean ====
module
public import proofs.«01_k».proof.Proof.Gen.FoxIdeal.Value
public import proofs.«01_k».proof.Proof.Softmax
public import Idealize.ShloMosaic.Lib.Pointwise

/-! One chunk of keys of the forgetting attention: its logits, and the running maximum and sums after it. -/

@[expose] public section

set_option maxRecDepth 16384

noncomputable section

namespace Cert.FoxIdeal.Val

open Cert.FoxIdeal Cert.FoxIdeal.Gen Idealize.ShloMosaic Idealize.ShloMosaic.TcCoe Idealize.SL.Sem
open Cert.Softmax

variable {F : FTy → Type} [FloatOps F] [Named F]

/-- The logits of a chunk of 256 keys against 512 queries, over the lanes that `msk` selects. -/
def scores (q2 : FVec F S512x256 .bf16) (msk : IVec S1x256 1) (k kx : Vec F S256x128 .bf16) : FVec F S256x512 .f32 :=
  matmul dot_S256x256_S512x256_S256x512_1_1_0_0_n_n none
    (select (broadcastTo S256x256 (shapeCast S1x256 msk shapeCasts_S1x256_S1x256) broadcasts_S1x256_S256x256)
      (concatenate S256x256 1 [⟨S256x128, k⟩, ⟨S256x128, kx⟩] concatenates_S256x128_S256x128_S256x256_d1)
      (broadcast S256x256 (Scalar.ofBits (F := F) .bf16 0x0000#16)))
    q2 (constant S256x512 .f32 0x00000000#32)

/-- The logits with the keys after the query excluded; the chunk starts `o` keys after the first query. -/
def masked (o : BitVec 32) (s : FVec F S256x512 .f32) : FVec F S256x512 .f32 :=
  select (cmpi .sle (addi (broadcast S256x512 o) (iota .tc S256x512 32 [0] iota_S256x512_d0_w32))
      (iota .tc S256x512 32 [1] iota_S256x512_d1_w32)) s
    (broadcast S256x512 (Scalar.ofBits (F := F) .f32 0xFF800000#32))

/-- The maximum brought up to date by a chunk's logits. -/
def top (s : FVec F S256x512 .f32) (m : FVec F S1x512 .f32) : FVec F S1x512 .f32 :=
  maximumf m (shapeCast S1x512 (multiReduction .maximumf [0] S512 s 0xFF800000#32 reduces_S256x512_S512 (.inl rfl) rfl) shapeCasts_S512_S1x512)

/-- The sums brought up to date by a chunk's logits and its values. -/
def acc (s : FVec F S256x512 .f32) (v : Vec F S80x256 .bf16) (m : FVec F S1x512 .f32) (a : FVec F S80x512 .f32) : FVec F S80x512 .f32 :=
  addf (mulf a (broadcastTo S80x512 (exp2 (subf m (top s m))) broadcasts_S1x512_S80x512))
    (matmul dot_S80x256_S256x512_S80x512_1_0_0_1_n_n none v
      (truncf .bf16 (exp2 (subf s (broadcastTo S256x512 (top s m) broadcasts_S1x512_S256x512))) bitsLt_bf16_f32)
      (constant S80x512 .f32 0x00000000#32))

theorem top_apply (s : FVec Ideal S256x512 .f32) (m : FVec Ideal S1x512 .f32) (r : Fin 512) :
    top s m (ix2 0 r) = max (m (ix2 0 r)) (Finset.univ.fold max ⊥ fun k : Fin 256 => s (ix2 k r)) := by
  pointwise [top]
  rw [neg_inf_eq]

theorem acc_apply (s : FVec Ideal S256x512 .f32) (v : Vec Ideal S80x256 .bf16) (m : FVec Ideal S1x512 .f32) (a : FVec Ideal S80x512 .f32)
    (d : Fin 80) (r : Fin 512) :
    acc s v m a (ix2 d r) = a (ix2 d r) * Ideal.exp2 (m (ix2 0 r) - top s m (ix2 0 r))
      + ∑ k : Fin 256, v (ix2 d k) * Ideal.exp2 (s (ix2 k r) - top s m (ix2 0 r)) := by
  unfold acc
  generalize top s m = t
  pointwise
  rfl

theorem masked_apply (o : ℕ) (ho : o ≤ 256) (s : FVec Ideal S256x512 .f32) (k : Fin 256) (r : Fin 512) :
    masked (BitVec.ofNat 32 o) s (ix2 k r) = if o + k.val ≤ r.val then s (ix2 k r) else ⊥ := by
  pointwise [masked]
  rw [neg_inf_eq]
  have hk := k.isLt
  have hr := r.isLt
  have e : IntOp.addi (BitVec.ofNat 32 o) (BitVec.ofNat 32 k.val) = BitVec.ofNat 32 (o + k.val) := (BitVec.ofNat_add o k.val).symm
  have h1 : (BitVec.ofNat 32 (o + k.val)).toInt = ((o + k.val : ℕ) : ℤ) := by
    rw [BitVec.toInt_eq_toNat_of_lt] <;> rw [BitVec.toNat_ofNat, Nat.mod_eq_of_lt] <;> omega
  have h2 : (BitVec.ofNat 32 r.val).toInt = ((r.val : ℕ) : ℤ) := by
    rw [BitVec.toInt_eq_toNat_of_lt] <;> rw [BitVec.toNat_ofNat, Nat.mod_eq_of_lt] <;> omega
  rw [e]
  by_cases h : o + k.val ≤ r.val
  · have : (BitVec.ofNat 32 (o + k.val)).sle (BitVec.ofNat 32 r.val) = true := by
      rw [BitVec.sle_eq_decide, h1, h2]; simp only [decide_eq_true_eq, decide_eq_false_iff_not, Nat.cast_le]; exact h
    simp [IntOp.cmpi, this, h, Scalar.select]
  · have : (BitVec.ofNat 32 (o + k.val)).sle (BitVec.ofNat 32 r.val) = false := by
      rw [BitVec.sle_eq_decide, h1, h2]; simp only [decide_eq_true_eq, decide_eq_false_iff_not, Nat.cast_le]; exact h
    simp [IntOp.cmpi, this, h, Scalar.select]

theorem scores_apply (q2 : FVec Ideal S512x256 .bf16) (msk : IVec S1x256 1) (k kx : Vec Ideal S256x128 .bf16) (x : Fin 256) (r : Fin 512) :
    scores q2 msk k kx (ix2 x r)
      = (∑ l : Fin 128, if msk (ix2 0 ⟨l.val, by omega⟩) = 1#1 then k (ix2 x l) * q2 (ix2 r ⟨l.val, by omega⟩) else 0)
        + ∑ l : Fin 128, if msk (ix2 0 ⟨128 + l.val, by omega⟩) = 1#1 then kx (ix2 x l) * q2 (ix2 r ⟨128 + l.val, by omega⟩) else 0 := by
  pointwise [scores]
  rfl

/-- The queries scaled, beside the extra lanes. -/
theorem query_left (q qx : Vec Ideal S512x128 .bf16) (r : Fin 512) (l : Fin 128) :
    k0_pay129 q qx (ix2 r ⟨l.val, by omega⟩) = q (ix2 r l) * (Named.named (F := Ideal) (φ := .f32) κ "scale" 0x3E38AA3B#32) := by
  pointwise [k0_pay129]

theorem query_right (q qx : Vec Ideal S512x128 .bf16) (r : Fin 512) (l : Fin 128) :
    k0_pay129 q qx (ix2 r ⟨128 + l.val, by omega⟩) = qx (ix2 r l) := by
  pointwise [k0_pay129]

/-- The lanes of a head. -/
def lanes (h : Fin 2) : IVec S1x256 1 :=
  if h = 0 then k0_pay130 else k0_pay133 (iota .tc S1x256 32 [1] iota_S1x256_d1_w32) k0_pay131 k0_pay132 140#32

theorem lanes0 : ∀ l : Fin 256, k0_pay130 (ix2 0 l) = 1#1 ↔ l.val < 64 ∨ (128 ≤ l.val ∧ l.val < 134) := by
  decide +kernel

theorem lanes1 : ∀ l : Fin 256, k0_pay133 (iota .tc S1x256 32 [1] iota_S1x256_d1_w32) k0_pay131 k0_pay132 140#32 (ix2 0 l) = 1#1
    ↔ (64 ≤ l.val ∧ l.val < 128) ∨ (134 ≤ l.val ∧ l.val < 140) := by
  decide +kernel

theorem lanes_left (h : Fin 2) (l : Fin 128) :
    lanes h (ix2 0 ⟨l.val, by omega⟩) = 1#1 ↔ 64 * h.val ≤ l.val ∧ l.val < 64 * h.val + 64 := by
  fin_cases h
  · refine (lanes0 ⟨l.val, by omega⟩).trans ?_
    simp <;> omega
  · refine (lanes1 ⟨l.val, by omega⟩).trans ?_
    simp <;> omega

theorem lanes_right (h : Fin 2) (l : Fin 128) :
    lanes h (ix2 0 ⟨128 + l.val, by omega⟩) = 1#1 ↔ 6 * h.val ≤ l.val ∧ l.val < 6 * h.val + 6 := by
  fin_cases h
  · refine (lanes0 ⟨128 + l.val, by omega⟩).trans ?_
    simp <;> omega
  · refine (lanes1 ⟨128 + l.val, by omega⟩).trans ?_
    simp <;> omega

theorem sum_lanes {N : ℕ} (b n : ℕ) (hb : b + n ≤ N) (p : Fin N → Prop) [DecidablePred p] (f : Fin N → EReal)
    (hp : ∀ l, p l ↔ b ≤ l.val ∧ l.val < b + n) :
    (∑ l, if p l then f l else 0) = ∑ d : Fin n, f ⟨b + d.val, by omega⟩ := by
  rw [← Finset.sum_filter]
  symm
  refine Finset.sum_bij (fun d _ => ⟨b + d.val, by omega⟩) ?_ ?_ ?_ ?_
  · intro d _
    rw [Finset.mem_filter, hp]
    exact ⟨Finset.mem_univ _, by simp⟩
  · intro d _ d' _ e
    simpa [Fin.ext_iff] using e
  · intro l hl
    rw [Finset.mem_filter, hp] at hl
    exact ⟨⟨l.val - b, by omega⟩, Finset.mem_univ _, Fin.ext (by simp; omega)⟩
  · intro d _; rfl

/-- The scale of the logits: one eighth, in units of log 2. -/
def scale : ℝ := 1 / 8 * (Real.log 2)⁻¹

theorem scale_eq : Named.named (F := Ideal) (φ := .f32) κ "scale" 0x3E38AA3B#32 = ((scale : ℝ) : EReal) := by
  refine (IdealRules.named_const.ideal_named_scalar (φ := .f32) κ "scale" 0x3E38AA3B#32 _ (by simp [κ]; rfl)).trans ?_
  rw [← EReal.coe_mul]
  congr 1
  unfold scale
  norm_num

/-- A logit in units of log 2: the scaled product, and the difference of the two cumulative log gates. -/
def logit (q k : Fin 64 → ℝ) (c c' : Fin 3 → ℝ) : ℝ := (∑ d, q d * k d) * scale + ((∑ e, c e) - ∑ e, c' e)

theorem scores_real {q qx : Vec Ideal S512x128 .bf16} {k kx : Vec Ideal S256x128 .bf16} (h : Fin 2) (x : Fin 256) (r : Fin 512)
    {q' k' : Fin 64 → ℝ} {c c' : Fin 3 → ℝ}
    (hq : ∀ d : Fin 64, q (ix2 r ⟨64 * h.val + d.val, by omega⟩) = (q' d : EReal))
    (hk : ∀ d : Fin 64, k (ix2 x ⟨64 * h.val + d.val, by omega⟩) = (k' d : EReal))
    (hc : ∀ e : Fin 3, qx (ix2 r ⟨6 * h.val + e.val, by omega⟩) = (c e : EReal))
    (hc1 : ∀ e : Fin 3, qx (ix2 r ⟨6 * h.val + (3 + e.val), by omega⟩) = 1)
    (hk1 : ∀ e : Fin 3, kx (ix2 x ⟨6 * h.val + e.val, by omega⟩) = 1)
    (hkc : ∀ e : Fin 3, kx (ix2 x ⟨6 * h.val + (3 + e.val), by omega⟩) = (-(c' e) : ℝ)) :
    scores (k0_pay129 q qx) (lanes h) k kx (ix2 x r) = (logit q' k' c c' : EReal) := by
  rw [scores_apply, sum_lanes (64 * h.val) 64 (by omega) _ _ (fun l => lanes_left h l),
    sum_lanes (6 * h.val) 6 (by omega) _ _ (fun l => lanes_right h l)]
  have h1 : ∀ d : Fin 64, k (ix2 x ⟨64 * h.val + d.val, by omega⟩) * k0_pay129 q qx (ix2 r ⟨64 * h.val + d.val, by omega⟩)
      = ((q' d * k' d * scale : ℝ) : EReal) := fun d => by
    have := query_left q qx r ⟨64 * h.val + d.val, by omega⟩
    dsimp only at this
    rw [this, hk, hq, scale_eq, ← EReal.coe_mul, ← EReal.coe_mul]
    congr 1; ring
  have h2 : ∀ e : Fin 6, k0_pay129 q qx (ix2 r ⟨128 + (6 * h.val + e.val), by omega⟩) = qx (ix2 r ⟨6 * h.val + e.val, by omega⟩) :=
    fun e => query_right q qx r ⟨6 * h.val + e.val, by omega⟩
  rw [Finset.sum_congr rfl fun d _ => h1 d]
  simp only [h2]
  rw [Fin.sum_univ_six, ← coe_sum]
  have a0 := hc 0; have a1 := hc 1; have a2 := hc 2
  have b0 := hc1 0; have b1 := hc1 1; have b2 := hc1 2
  have d0 := hk1 0; have d1 := hk1 1; have d2 := hk1 2
  have f0 := hkc 0; have f1 := hkc 1; have f2 := hkc 2
  simp only [Fin.isValue, Fin.coe_ofNat_eq_mod, Nat.reduceMod, Nat.reduceAdd] at a0 a1 a2 b0 b1 b2 d0 d1 d2 f0 f1 f2 ⊢
  rw [a0, a1, a2, b0, b1, b2, d0, d1, d2, f0, f1, f2]
  simp only [one_mul, mul_one, ← EReal.coe_add]
  congr 1
  unfold logit
  rw [Fin.sum_univ_three, Fin.sum_univ_three, ← Finset.sum_mul]
  ring

/-- A chunk brings the running pair up to date. -/
theorem chunk_inv {s : FVec Ideal S256x512 .f32} {v : Vec Ideal S80x256 .bf16} {m : FVec Ideal S1x512 .f32} {a : FVec Ideal S80x512 .f32}
    {d : Fin 80} {r : Fin 512} {T : ℝ} (hi : Inv (m (ix2 0 r)) (a (ix2 d r)) T) {σ : Fin 256 → EReal} {w : Fin 256 → ℝ}
    (hs : ∀ x, s (ix2 x r) = σ x) (hσ : ∀ x, σ x ≠ ⊤) (hv : ∀ x, v (ix2 d x) = (w x : EReal)) :
    Inv (top s m (ix2 0 r)) (acc s v m a (ix2 d r)) (T + ∑ x, w x * weight (σ x)) := by
  rw [acc_apply]
  simp only [hv, hs]
  refine hi.step σ w hσ ?_
  rw [top_apply, funext hs]

end Cert.FoxIdeal.Val

end
-- ==== Proof.FoxTrip.lean ====
module
public import proofs.«01_k».proof.Proof.FoxStep

/-! One trip of the forgetting attention's loop: four chunks of keys for each of the two heads. -/

@[expose] public section

set_option maxRecDepth 16384
set_option maxHeartbeats 2000000

noncomputable section

namespace Cert.FoxIdeal.Val

open Cert.FoxIdeal Cert.FoxIdeal.Gen Idealize.ShloMosaic Idealize.ShloMosaic.TcCoe Idealize.SL.Sem Idealize.ShloMosaic.Tactic
open Cert.Softmax

variable {F : FTy → Type} [FloatOps F] [Named F]

/-- The running maximum and sums of a head. -/
abbrev Pair (F : FTy → Type) := FVec F S1x512 .f32 × FVec F S80x512 .f32

/-- A chunk's logits and values taken up. -/
def absorb (s : FVec F S256x512 .f32) (v : Vec F S80x256 .bf16) (p : Pair F) : Pair F := (top s p.1, acc s v p.1 p.2)

/-- A head's slot of the two scratch buffers. -/
def slot0 (X : Vec F S1x1x512 .f32) (Y : Vec F S1x80x512 .f32) : Pair F :=
  (shapeCast S1x512 X shapeCasts_S1x1x512_S1x512, shapeCast S80x512 Y shapeCasts_S1x80x512_S80x512)

/-- A pair as the two scratch buffers store it. -/
def store10 (p : Pair F) : FVec F S1x1x512 .f32 := shapeCast S1x1x512 p.1 shapeCasts_S1x512_S1x1x512

def store11 (p : Pair F) : FVec F S1x80x512 .f32 := shapeCast S1x80x512 p.2 shapeCasts_S80x512_S1x80x512

/-- The four chunks of a trip. -/
def four (q2 : FVec F S512x256 .bf16) (msk : IVec S1x256 1) (k kx : Fin 4 → Vec F S256x128 .bf16) (v : Fin 4 → Vec F S80x256 .bf16) (p : Pair F) : Pair F :=
  absorb (scores q2 msk (k 3) (kx 3)) (v 3) <| absorb (scores q2 msk (k 2) (kx 2)) (v 2) <|
    absorb (scores q2 msk (k 1) (kx 1)) (v 1) <| absorb (scores q2 msk (k 0) (kx 0)) (v 0) p

section Trip

variable (𝒱 : Variants) (c : Dev nD) (bd : Option 𝒱.V) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S160x4096 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x80x512 .f32) (harg11 : arg11.IsWhole) (arg2 : BitVec 32) (v14 : FVec F S512x256 .bf16) (v15 : IVec S1x256 32) (v26 : IVec S1x256 1) (v31 : IVec S1x256 1) (v33 : IVec S1x256 1) (c140_i32 : BitVec 32) (X_arg5 : BufTy.Contents (Elt F) arg5.view.ty) (X_arg6 : BufTy.Contents (Elt F) arg6.view.ty) (X_arg7 : BufTy.Contents (Elt F) arg7.view.ty) (k : Fin (k0_t1_loop i).trips) (f_arg10 : BufTy.Contents (Elt F) arg10.view.ty) (f_arg11 : BufTy.Contents (Elt F) arg11.view.ty)

theorem trip_eq : tripL_k0_t1 (F := F) 𝒱 c bd i arg3 harg3 arg4 harg4 arg5 harg5 arg6 harg6 arg7 harg7 arg8 harg8 arg9 harg9 arg10 harg10 arg11 harg11 arg2 v14 v15 v26 v31 v33 c140_i32 X_arg5 X_arg6 X_arg7 k f_arg10 f_arg11
    = (let p0 := four v14 v26 ![(arg5.view.readAt (Elt F) (Rect.unit (s := S4096x128) (k0_off1 i k 0#32) S256x128.size (k0_off1_inb i k 0)).toLoadRect X_arg5), (arg5.view.readAt (Elt F) (Rect.unit (s := S4096x128) (k0_off1 i k 1#32) S256x128.size (k0_off1_inb i k 1)).toLoadRect X_arg5), (arg5.view.readAt (Elt F) (Rect.unit (s := S4096x128) (k0_off2 i k 0#32) S256x128.size (k0_off2_inb i k 0)).toLoadRect X_arg5), (arg5.view.readAt (Elt F) (Rect.unit (s := S4096x128) (k0_off2 i k 1#32) S256x128.size (k0_off2_inb i k 1)).toLoadRect X_arg5)] ![(arg6.view.readAt (Elt F) (Rect.unit (s := S4096x128) (k0_off1 i k 0#32) S256x128.size (k0_off1_inb i k 0)).toLoadRect X_arg6), (arg6.view.readAt (Elt F) (Rect.unit (s := S4096x128) (k0_off1 i k 1#32) S256x128.size (k0_off1_inb i k 1)).toLoadRect X_arg6), (arg6.view.readAt (Elt F) (Rect.unit (s := S4096x128) (k0_off2 i k 0#32) S256x128.size (k0_off2_inb i k 0)).toLoadRect X_arg6), (arg6.view.readAt (Elt F) (Rect.unit (s := S4096x128) (k0_off2 i k 1#32) S256x128.size (k0_off2_inb i k 1)).toLoadRect X_arg6)] ![(arg7.view.readAt (Elt F) (Rect.unit (s := S160x4096) (k0_off3 i k 0#32) S80x256.size (k0_off3_inb i k 0)).toLoadRect X_arg7), (arg7.view.readAt (Elt F) (Rect.unit (s := S160x4096) (k0_off3 i k 1#32) S80x256.size (k0_off3_inb i k 1)).toLoadRect X_arg7), (arg7.view.readAt (Elt F) (Rect.unit (s := S160x4096) (k0_off5 i k 0#32) S80x256.size (k0_off5_inb i k 0)).toLoadRect X_arg7), (arg7.view.readAt (Elt F) (Rect.unit (s := S160x4096) (k0_off5 i k 1#32) S80x256.size (k0_off5_inb i k 1)).toLoadRect X_arg7)] (slot0 (arg10.view.readAt (Elt F) (Rect.unit (s := S2x1x512) ![0, 0, 0] S1x1x512.size inb_S2x1x512_S1x1x512_0_0_0).toLoadRect f_arg10) (arg11.view.readAt (Elt F) (Rect.unit (s := S2x80x512) ![0, 0, 0] S1x80x512.size inb_S2x80x512_S1x80x512_0_0_0).toLoadRect f_arg11))
       let p1 := four v14 (k0_pay133 v15 v31 v33 c140_i32) ![(arg5.view.readAt (Elt F) (Rect.unit (s := S4096x128) (k0_off1 i k 0#32) S256x128.size (k0_off1_inb i k 0)).toLoadRect X_arg5), (arg5.view.readAt (Elt F) (Rect.unit (s := S4096x128) (k0_off1 i k 1#32) S256x128.size (k0_off1_inb i k 1)).toLoadRect X_arg5), (arg5.view.readAt (Elt F) (Rect.unit (s := S4096x128) (k0_off2 i k 0#32) S256x128.size (k0_off2_inb i k 0)).toLoadRect X_arg5), (arg5.view.readAt (Elt F) (Rect.unit (s := S4096x128) (k0_off2 i k 1#32) S256x128.size (k0_off2_inb i k 1)).toLoadRect X_arg5)] ![(arg6.view.readAt (Elt F) (Rect.unit (s := S4096x128) (k0_off1 i k 0#32) S256x128.size (k0_off1_inb i k 0)).toLoadRect X_arg6), (arg6.view.readAt (Elt F) (Rect.unit (s := S4096x128) (k0_off1 i k 1#32) S256x128.size (k0_off1_inb i k 1)).toLoadRect X_arg6), (arg6.view.readAt (Elt F) (Rect.unit (s := S4096x128) (k0_off2 i k 0#32) S256x128.size (k0_off2_inb i k 0)).toLoadRect X_arg6), (arg6.view.readAt (Elt F) (Rect.unit (s := S4096x128) (k0_off2 i k 1#32) S256x128.size (k0_off2_inb i k 1)).toLoadRect X_arg6)] ![(arg7.view.readAt (Elt F) (Rect.unit (s := S160x4096) (k0_off4 i k 0#32) S80x256.size (k0_off4_inb i k 0)).toLoadRect X_arg7), (arg7.view.readAt (Elt F) (Rect.unit (s := S160x4096) (k0_off4 i k 1#32) S80x256.size (k0_off4_inb i k 1)).toLoadRect X_arg7), (arg7.view.readAt (Elt F) (Rect.unit (s := S160x4096) (k0_off6 i k 0#32) S80x256.size (k0_off6_inb i k 0)).toLoadRect X_arg7), (arg7.view.readAt (Elt F) (Rect.unit (s := S160x4096) (k0_off6 i k 1#32) S80x256.size (k0_off6_inb i k 1)).toLoadRect X_arg7)] (slot0 (arg10.view.readAt (Elt F) (Rect.unit (s := S2x1x512) ![1, 0, 0] S1x1x512.size inb_S2x1x512_S1x1x512_1_0_0).toLoadRect f_arg10) (arg11.view.readAt (Elt F) (Rect.unit (s := S2x80x512) ![1, 0, 0] S1x80x512.size inb_S2x80x512_S1x80x512_1_0_0).toLoadRect f_arg11))
       ([⟨Rect.unit (s := S2x1x512) ![1, 0, 0] S1x1x512.size inb_S2x1x512_S1x1x512_1_0_0, store10 p1⟩, ⟨Rect.unit (s := S2x1x512) ![0, 0, 0] S1x1x512.size inb_S2x1x512_S1x1x512_0_0_0, store10 p0⟩],
        [⟨Rect.unit (s := S2x80x512) ![1, 0, 0] S1x80x512.size inb_S2x80x512_S1x80x512_1_0_0, store11 p1⟩, ⟨Rect.unit (s := S2x80x512) ![0, 0, 0] S1x80x512.size inb_S2x80x512_S1x80x512_0_0_0, store11 p0⟩])) := by
  unfold tripL_k0_t1
  unfold trip_k0_t1
  dsimp only
  sl_unfold_words
  rfl

end Trip

end Cert.FoxIdeal.Val

end
-- ==== Proof.FoxLoad.lean ====
module
public import proofs.«01_k».proof.Proof.FoxTrip
public import Idealize.ShloMosaic.Lib.WritesUnit

/-! The forgetting attention read key by key: what a chunk adds to a query's sums, and the scratch buffers head by head. -/

@[expose] public section

set_option maxRecDepth 16384

noncomputable section

namespace Cert.FoxIdeal.Val

open Cert.FoxIdeal Cert.FoxIdeal.Gen Idealize.ShloMosaic Idealize.ShloMosaic.TcCoe Idealize.SL.Sem Idealize.ShloMosaic.Tactic
open Cert.Softmax

/-- The real numbers that the blocks of a grid point hold: queries, keys, values, and the cumulative log gates in three parts. -/
structure Data where
  q : Fin 2 → Fin 512 → Fin 64 → ℝ
  k : Fin 2 → ℕ → Fin 64 → ℝ
  c : Fin 2 → Fin 512 → Fin 3 → ℝ
  c' : Fin 2 → ℕ → Fin 3 → ℝ
  w : Fin 2 → Fin 80 → ℕ → ℝ
  /-- the position of the first query -/
  base : ℕ

/-- The blocks hold these numbers. -/
structure Data.Holds (D : Data) (x0 x1 : Vec Ideal S512x128 .bf16) (x2 x3 : Vec Ideal S4096x128 .bf16) (x4 : Vec Ideal S160x4096 .bf16) : Prop where
  hq : ∀ (h : Fin 2) (r : Fin 512) (d : Fin 64), x0 (ix2 r ⟨64 * h.val + d.val, by omega⟩) = (D.q h r d : EReal)
  hc : ∀ (h : Fin 2) (r : Fin 512) (e : Fin 3), x1 (ix2 r ⟨6 * h.val + e.val, by omega⟩) = (D.c h r e : EReal)
  hc1 : ∀ (h : Fin 2) (r : Fin 512) (e : Fin 3), x1 (ix2 r ⟨6 * h.val + (3 + e.val), by omega⟩) = 1
  hk : ∀ (h : Fin 2) (s : Fin 4096) (d : Fin 64), x2 (ix2 s ⟨64 * h.val + d.val, by omega⟩) = (D.k h s.val d : EReal)
  hk1 : ∀ (h : Fin 2) (s : Fin 4096) (e : Fin 3), x3 (ix2 s ⟨6 * h.val + e.val, by omega⟩) = 1
  hkc : ∀ (h : Fin 2) (s : Fin 4096) (e : Fin 3), x3 (ix2 s ⟨6 * h.val + (3 + e.val), by omega⟩) = (-(D.c' h s.val e) : ℝ)
  hw : ∀ (h : Fin 2) (d : Fin 80) (s : Fin 4096), d.val < 65 → x4 (ix2 ⟨80 * h.val + d.val, by omega⟩ s) = (D.w h d s.val : EReal)

/-- The logit of a key at a query, ⊥ where the key comes after the query. -/
def Data.sig (D : Data) (h : Fin 2) (r : Fin 512) (s : ℕ) : EReal :=
  if s ≤ D.base + r.val then (logit (D.q h r) (D.k h s) (D.c h r) (D.c' h s) : EReal) else ⊥

theorem Data.sig_ne_top (D : Data) (h : Fin 2) (r : Fin 512) (s : ℕ) : D.sig h r s ≠ ⊤ := by
  unfold Data.sig
  split_ifs
  · exact EReal.coe_ne_top _
  · exact bot_ne_top

/-- The weighted sum over the first `n` keys. -/
def Data.tot (D : Data) (h : Fin 2) (d : Fin 80) (r : Fin 512) (n : ℕ) : ℝ :=
  ∑ s ∈ Finset.range n, D.w h d s * weight (D.sig h r s)

theorem Data.tot_add (D : Data) (h : Fin 2) (d : Fin 80) (r : Fin 512) (n m : ℕ) :
    D.tot h d r (n + m) = D.tot h d r n + ∑ x : Fin m, D.w h d (n + x.val) * weight (D.sig h r (n + x.val)) := by
  unfold Data.tot
  rw [Finset.sum_range_add, Finset.sum_range (f := fun x => D.w h d (n + x) * weight (D.sig h r (n + x)))]

/-- The pair of a query column after the first `n` keys, in the rows that are read. -/
def Data.After (D : Data) (h : Fin 2) (n : ℕ) (p : Pair Ideal) : Prop :=
  ∀ (d : Fin 80) (r : Fin 512), d.val < 65 → Inv (p.1 (ix2 0 r)) (p.2 (ix2 d r)) (D.tot h d r n)

section Chunk

variable {D : Data} {x0 x1 : Vec Ideal S512x128 .bf16} {x2 x3 : Vec Ideal S4096x128 .bf16} {x4 : Vec Ideal S160x4096 .bf16}

/-- A chunk of keys that starts at key `n`. -/
structure Chunk (x2 x3 : Vec Ideal S4096x128 .bf16) (x4 : Vec Ideal S160x4096 .bf16) (h : Fin 2) (n : ℕ)
    (k kx : Vec Ideal S256x128 .bf16) (v : Vec Ideal S80x256 .bf16) : Prop where
  le : n + 256 ≤ 4096
  hk : ∀ (x : Fin 256) (l : Fin 128), k (ix2 x l) = x2 (ix2 ⟨n + x.val, by omega⟩ l)
  hkx : ∀ (x : Fin 256) (l : Fin 128), kx (ix2 x l) = x3 (ix2 ⟨n + x.val, by omega⟩ l)
  hv : ∀ (d : Fin 80) (x : Fin 256), v (ix2 d x) = x4 (ix2 ⟨80 * h.val + d.val, by omega⟩ ⟨n + x.val, by omega⟩)

variable {h : Fin 2} {n : ℕ} {k kx : Vec Ideal S256x128 .bf16} {v : Vec Ideal S80x256 .bf16} {p : Pair Ideal}

theorem Chunk.scores (C : Chunk x2 x3 x4 h n k kx v) (H : D.Holds x0 x1 x2 x3 x4) (x : Fin 256) (r : Fin 512) :
    Val.scores (k0_pay129 x0 x1) (lanes h) k kx (ix2 x r) = (logit (D.q h r) (D.k h (n + x.val)) (D.c h r) (D.c' h (n + x.val)) : EReal) := by
  have hn := C.le
  refine scores_real h x r (fun d => H.hq h r d) (fun d => ?_) (fun e => H.hc h r e) (fun e => H.hc1 h r e) (fun e => ?_) (fun e => ?_)
  · rw [C.hk]; exact H.hk h ⟨n + x.val, by omega⟩ d
  · rw [C.hkx]; exact H.hk1 h ⟨n + x.val, by omega⟩ e
  · rw [C.hkx]; exact H.hkc h ⟨n + x.val, by omega⟩ e

theorem Chunk.step (C : Chunk x2 x3 x4 h n k kx v) (H : D.Holds x0 x1 x2 x3 x4) (P : D.After h n p) {s : FVec Ideal S256x512 .f32}
    (hs : ∀ x r, s (ix2 x r) = D.sig h r (n + x.val)) : D.After h (n + 256) (absorb s v p) := by
  intro d r hd
  have hn := C.le
  rw [D.tot_add]
  refine chunk_inv (P d r hd) (fun x => hs x r) (fun x => D.sig_ne_top h r _) fun x => ?_
  rw [C.hv]; exact H.hw h d ⟨n + x.val, by omega⟩ hd

/-- A chunk before the first query. -/
theorem Chunk.free (C : Chunk x2 x3 x4 h n k kx v) (H : D.Holds x0 x1 x2 x3 x4) (P : D.After h n p) (hb : n + 256 ≤ D.base) :
    D.After h (n + 256) (absorb (Val.scores (k0_pay129 x0 x1) (lanes h) k kx) v p) := by
  refine C.step H P fun x r => ?_
  rw [C.scores H]
  exact (if_pos (by have := x.isLt; omega)).symm

/-- A chunk `o` keys after the first query. -/
theorem Chunk.cut (o : ℕ) (ho : o ≤ 256) (C : Chunk x2 x3 x4 h n k kx v) (H : D.Holds x0 x1 x2 x3 x4) (P : D.After h n p) (hb : n = D.base + o) :
    D.After h (n + 256) (absorb (masked (BitVec.ofNat 32 o) (Val.scores (k0_pay129 x0 x1) (lanes h) k kx)) v p) := by
  refine C.step H P fun x r => ?_
  rw [masked_apply o ho, C.scores H]
  unfold Data.sig
  by_cases hx : o + x.val ≤ r.val
  · rw [if_pos hx, if_pos (by omega)]
  · rw [if_neg hx, if_neg (by omega)]

/-- Four chunks before the first query. -/
theorem four_after (H : D.Holds x0 x1 x2 x3 x4) {k kx : Fin 4 → Vec Ideal S256x128 .bf16} {v : Fin 4 → Vec Ideal S80x256 .bf16}
    (C : ∀ j : Fin 4, Chunk x2 x3 x4 h (n + 256 * j.val) (k j) (kx j) (v j)) (P : D.After h n p) (hb : n + 1024 ≤ D.base) :
    D.After h (n + 1024) (four (k0_pay129 x0 x1) (lanes h) k kx v p) := by
  have s0 := (C 0).free H (p := p) (by simpa using P) (by simp; omega)
  have s1 := (C 1).free H (p := _) (by simpa using s0) (by simp; omega)
  have s2 := (C 2).free H (p := _) (by simpa using s1) (by simp; omega)
  have s3 := (C 3).free H (p := _) (by simpa using s2) (by simp; omega)
  simpa [four] using s3

end Chunk

section Loads

variable {F : FTy → Type} [FloatOps F] [Named F]

theorem load_keys (M : Memref sig .tc .vmem S4096x128 .bf16) (hM : M.IsWhole) (X : Vec F S4096x128 .bf16) {off : Fin 2 → ℕ}
    (inb : ∀ a, off a + S256x128.size a ≤ S4096x128.size a) (o : ℕ) (ho : off = ![o, 0]) (x : Fin 256) (l : Fin 128) (hx : o + x.val < 4096) :
    M.view.readAt (Elt F) (Rect.unit (s := S4096x128) off S256x128.size inb).toLoadRect (hM.unread X) (ix2 x l) = X (ix2 ⟨o + x.val, hx⟩ l) := by
  subst ho
  rw [View.readAt_eq_ld, hM.read_unread]
  refine congrArg X (funext fun a => Fin.ext ?_)
  fin_cases a <;> simp [ix2]

theorem load_values (M : Memref sig .tc .vmem S160x4096 .bf16) (hM : M.IsWhole) (X : Vec F S160x4096 .bf16) {off : Fin 2 → ℕ}
    (inb : ∀ a, off a + S80x256.size a ≤ S160x4096.size a) (b o : ℕ) (ho : off = ![b, o]) (d : Fin 80) (x : Fin 256) (hd : b + d.val < 160) (hx : o + x.val < 4096) :
    M.view.readAt (Elt F) (Rect.unit (s := S160x4096) off S80x256.size inb).toLoadRect (hM.unread X) (ix2 d x) = X (ix2 ⟨b + d.val, hd⟩ ⟨o + x.val, hx⟩) := by
  subst ho
  rw [View.readAt_eq_ld, hM.read_unread]
  refine congrArg X (funext fun a => Fin.ext ?_)
  fin_cases a <;> simp [ix2]

/-- The loads of a chunk, at offsets that name its first key. -/
theorem chunk_of_loads (M5 : Memref sig .tc .vmem S4096x128 .bf16) (h5 : M5.IsWhole) (M6 : Memref sig .tc .vmem S4096x128 .bf16) (h6 : M6.IsWhole)
    (M7 : Memref sig .tc .vmem S160x4096 .bf16) (h7 : M7.IsWhole) (x2 x3 : Vec Ideal S4096x128 .bf16) (x4 : Vec Ideal S160x4096 .bf16)
    (h : Fin 2) (n : ℕ) {off off' : Fin 2 → ℕ} (inb : ∀ a, off a + S256x128.size a ≤ S4096x128.size a)
    (inb' : ∀ a, off' a + S80x256.size a ≤ S160x4096.size a) (ho : off = ![n, 0]) (ho' : off' = ![80 * h.val, n]) :
    Chunk x2 x3 x4 h n (M5.view.readAt (Elt Ideal) (Rect.unit (s := S4096x128) off S256x128.size inb).toLoadRect (h5.unread x2))
      (M6.view.readAt (Elt Ideal) (Rect.unit (s := S4096x128) off S256x128.size inb).toLoadRect (h6.unread x3))
      (M7.view.readAt (Elt Ideal) (Rect.unit (s := S160x4096) off' S80x256.size inb').toLoadRect (h7.unread x4)) := by
  have hn : n + 256 ≤ 4096 := by have := inb 0; rw [ho] at this; exact this
  exact ⟨hn, fun x l => load_keys M5 h5 x2 inb n ho x l _, fun x l => load_keys M6 h6 x3 inb n ho x l _,
    fun d x => load_values M7 h7 x4 inb' _ n ho' d x _ _⟩

end Loads

section Slots

variable {F : FTy → Type} [FloatOps F] [Named F]

/-- The pieces that store the two heads' pairs. -/
abbrev pieces10 (p0 p1 : Pair F) (L : List (View.Piece (Elt F) S2x1x512 .f32)) : List (View.Piece (Elt F) S2x1x512 .f32) :=
  ⟨Rect.unit (s := S2x1x512) ![1, 0, 0] S1x1x512.size inb_S2x1x512_S1x1x512_1_0_0, store10 p1⟩ ::
    ⟨Rect.unit (s := S2x1x512) ![0, 0, 0] S1x1x512.size inb_S2x1x512_S1x1x512_0_0_0, store10 p0⟩ :: L

abbrev pieces11 (p0 p1 : Pair F) (L : List (View.Piece (Elt F) S2x80x512 .f32)) : List (View.Piece (Elt F) S2x80x512 .f32) :=
  ⟨Rect.unit (s := S2x80x512) ![1, 0, 0] S1x80x512.size inb_S2x80x512_S1x80x512_1_0_0, store11 p1⟩ ::
    ⟨Rect.unit (s := S2x80x512) ![0, 0, 0] S1x80x512.size inb_S2x80x512_S1x80x512_0_0_0, store11 p0⟩ :: L

end Slots

/-- The contents of the two scratch buffers, read head by head. -/
def pairAt (h : Fin 2) (X : S2x1x512.Idx → Elt Ideal .f32) (Y : S2x80x512.Idx → Elt Ideal .f32) : Pair Ideal :=
  (fun y => X (ix3 h 0 (y 1)), fun y => Y (ix3 h (y 0) (y 1)))

variable (M : Memref sig .tc .vmem S2x1x512 .f32) (M' : Memref sig .tc .vmem S2x80x512 .f32)

theorem pieces10_zero (f : M.view.ty.Contents (Elt Ideal)) (p0 p1 : Pair Ideal) (L : List (View.Piece (Elt Ideal) S2x1x512 .f32)) (r : Fin 512) :
    M.view.read (Elt Ideal) (M.view.writes (Elt Ideal) f (pieces10 p0 p1 L)) (ix3 0 0 r) = p0.1 (ix2 0 r) := by
  refine (View.read_writes_cons_unit_of_not_mem (off' := ![1, 0, 0]) M.view f inb_S2x1x512_S1x1x512_1_0_0 (store10 p1) _ _ rfl 0 (.inl (by simp [ix3]))).trans ?_
  refine (View.read_writes_cons_unit_of_mem (off' := ![0, 0, 0]) M.view f inb_S2x1x512_S1x1x512_0_0_0 (store10 p0) _ _ (ix3 0 0 r : S1x1x512.Idx) rfl (fun a => by fin_cases a <;> simp [ix3])).trans ?_
  pointwise [store10]

theorem pieces10_one (f : M.view.ty.Contents (Elt Ideal)) (p0 p1 : Pair Ideal) (L : List (View.Piece (Elt Ideal) S2x1x512 .f32)) (r : Fin 512) :
    M.view.read (Elt Ideal) (M.view.writes (Elt Ideal) f (pieces10 p0 p1 L)) (ix3 1 0 r) = p1.1 (ix2 0 r) := by
  refine (View.read_writes_cons_unit_of_mem (off' := ![1, 0, 0]) M.view f inb_S2x1x512_S1x1x512_1_0_0 (store10 p1) _ _ (ix3 0 0 r : S1x1x512.Idx) rfl (fun a => by fin_cases a <;> simp [ix3])).trans ?_
  pointwise [store10]

theorem pieces11_zero (f : M'.view.ty.Contents (Elt Ideal)) (p0 p1 : Pair Ideal) (L : List (View.Piece (Elt Ideal) S2x80x512 .f32)) (d : Fin 80) (r : Fin 512) :
    M'.view.read (Elt Ideal) (M'.view.writes (Elt Ideal) f (pieces11 p0 p1 L)) (ix3 0 d r) = p0.2 (ix2 d r) := by
  refine (View.read_writes_cons_unit_of_not_mem (off' := ![1, 0, 0]) M'.view f inb_S2x80x512_S1x80x512_1_0_0 (store11 p1) _ _ rfl 0 (.inl (by simp [ix3]))).trans ?_
  refine (View.read_writes_cons_unit_of_mem (off' := ![0, 0, 0]) M'.view f inb_S2x80x512_S1x80x512_0_0_0 (store11 p0) _ _ (ix3 0 d r : S1x80x512.Idx) rfl (fun a => by fin_cases a <;> simp [ix3])).trans ?_
  pointwise [store11]

theorem pieces11_one (f : M'.view.ty.Contents (Elt Ideal)) (p0 p1 : Pair Ideal) (L : List (View.Piece (Elt Ideal) S2x80x512 .f32)) (d : Fin 80) (r : Fin 512) :
    M'.view.read (Elt Ideal) (M'.view.writes (Elt Ideal) f (pieces11 p0 p1 L)) (ix3 1 d r) = p1.2 (ix2 d r) := by
  refine (View.read_writes_cons_unit_of_mem (off' := ![1, 0, 0]) M'.view f inb_S2x80x512_S1x80x512_1_0_0 (store11 p1) _ _ (ix3 0 d r : S1x80x512.Idx) rfl (fun a => by fin_cases a <;> simp [ix3])).trans ?_
  pointwise [store11]

end Cert.FoxIdeal.Val

end
-- ==== Proof.FoxLoop.lean ====
module
public import proofs.«01_k».proof.Proof.FoxLoad

/-! The loop of the forgetting attention: after `k` trips each head's slot holds the sums over the first `1024 k` keys. -/

@[expose] public section

set_option maxRecDepth 16384
set_option maxHeartbeats 1000000

noncomputable section

namespace Cert.FoxIdeal.Val

open Cert.FoxIdeal Cert.FoxIdeal.Gen Idealize.ShloMosaic Idealize.ShloMosaic.TcCoe Idealize.SL.Sem Idealize.ShloMosaic.Tactic
open Cert.Softmax

/-- The grid point whose third coordinate is `a`. -/
def at3 (a : Fin 8) : grid0.Coords := fun j => match j with
  | 0 => (0 : Fin 4)
  | 1 => (0 : Fin 4)
  | 2 => a

theorem trips1 (i : grid0.Coords) : (k0_t1_loop i).trips = (i 2).val / 2 := by
  have key : ∀ a : Fin 8, (k0_t1_loop (at3 a)).trips = a.val / 2 := by decide +kernel
  exact key (i 2)

theorem trips2 (i : grid0.Coords) : (k0_t2_loop i).trips = 0 := by
  have key : ∀ a : Fin 8, (k0_t2_loop (at3 a)).trips = 0 := by decide +kernel
  exact key (i 2)

theorem off1_eq (i : grid0.Coords) (k : Fin (k0_t1_loop i).trips) (c : Fin 2) : k0_off1 i k (BitVec.ofNat 32 c.val) = ![1024 * k.val + 256 * c.val, 0] := by
  have key : ∀ (a : Fin 8) (k : Fin (k0_t1_loop (at3 a)).trips) (c : Fin 2), k0_off1 (at3 a) k (BitVec.ofNat 32 c.val) 0 = 1024 * k.val + 256 * c.val := by decide +kernel
  have e := key (i 2) k c
  funext a
  fin_cases a
  · exact e
  · rfl

theorem off2_eq (i : grid0.Coords) (k : Fin (k0_t1_loop i).trips) (c : Fin 2) : k0_off2 i k (BitVec.ofNat 32 c.val) = ![1024 * k.val + 512 + 256 * c.val, 0] := by
  have key : ∀ (a : Fin 8) (k : Fin (k0_t1_loop (at3 a)).trips) (c : Fin 2), k0_off2 (at3 a) k (BitVec.ofNat 32 c.val) 0 = 1024 * k.val + 512 + 256 * c.val := by decide +kernel
  have e := key (i 2) k c
  funext a
  fin_cases a
  · exact e
  · rfl

theorem off3_eq (i : grid0.Coords) (k : Fin (k0_t1_loop i).trips) (c : Fin 2) : k0_off3 i k (BitVec.ofNat 32 c.val) = ![0, 1024 * k.val + 256 * c.val] := by
  have key : ∀ (a : Fin 8) (k : Fin (k0_t1_loop (at3 a)).trips) (c : Fin 2), k0_off3 (at3 a) k (BitVec.ofNat 32 c.val) 1 = 1024 * k.val + 256 * c.val := by decide +kernel
  have e := key (i 2) k c
  funext a
  fin_cases a
  · rfl
  · exact e

theorem off4_eq (i : grid0.Coords) (k : Fin (k0_t1_loop i).trips) (c : Fin 2) : k0_off4 i k (BitVec.ofNat 32 c.val) = ![80, 1024 * k.val + 256 * c.val] := by
  have key : ∀ (a : Fin 8) (k : Fin (k0_t1_loop (at3 a)).trips) (c : Fin 2), k0_off4 (at3 a) k (BitVec.ofNat 32 c.val) 1 = 1024 * k.val + 256 * c.val := by decide +kernel
  have e := key (i 2) k c
  funext a
  fin_cases a
  · rfl
  · exact e

theorem off5_eq (i : grid0.Coords) (k : Fin (k0_t1_loop i).trips) (c : Fin 2) : k0_off5 i k (BitVec.ofNat 32 c.val) = ![0, 1024 * k.val + 512 + 256 * c.val] := by
  have key : ∀ (a : Fin 8) (k : Fin (k0_t1_loop (at3 a)).trips) (c : Fin 2), k0_off5 (at3 a) k (BitVec.ofNat 32 c.val) 1 = 1024 * k.val + 512 + 256 * c.val := by decide +kernel
  have e := key (i 2) k c
  funext a
  fin_cases a
  · rfl
  · exact e

theorem off6_eq (i : grid0.Coords) (k : Fin (k0_t1_loop i).trips) (c : Fin 2) : k0_off6 i k (BitVec.ofNat 32 c.val) = ![80, 1024 * k.val + 512 + 256 * c.val] := by
  have key : ∀ (a : Fin 8) (k : Fin (k0_t1_loop (at3 a)).trips) (c : Fin 2), k0_off6 (at3 a) k (BitVec.ofNat 32 c.val) 1 = 1024 * k.val + 512 + 256 * c.val := by decide +kernel
  have e := key (i 2) k c
  funext a
  fin_cases a
  · rfl
  · exact e

theorem off13_eq (i : grid0.Coords) (c : Fin 2) (hi : 1 ≤ (i 2).val) : k0_off13 i (BitVec.ofNat 32 c.val) = ![512 * (i 2).val - 512 + 256 * c.val, 0] := by
  have key : ∀ (a : Fin 8) (c : Fin 2), 1 ≤ a.val → k0_off13 (at3 a) (BitVec.ofNat 32 c.val) 0 = 512 * a.val - 512 + 256 * c.val := by decide +kernel
  have e := key (i 2) c hi
  funext a
  fin_cases a
  · exact e
  · rfl

theorem off14_eq (i : grid0.Coords) (c : Fin 2) : k0_off14 i (BitVec.ofNat 32 c.val) = ![512 * (i 2).val + 256 * c.val, 0] := by
  have key : ∀ (a : Fin 8) (c : Fin 2), k0_off14 (at3 a) (BitVec.ofNat 32 c.val) 0 = 512 * a.val + 256 * c.val := by decide +kernel
  have e := key (i 2) c
  funext a
  fin_cases a
  · exact e
  · rfl

theorem off15_eq (i : grid0.Coords) (c : Fin 2) (hi : 1 ≤ (i 2).val) : k0_off15 i (BitVec.ofNat 32 c.val) = ![0, 512 * (i 2).val - 512 + 256 * c.val] := by
  have key : ∀ (a : Fin 8) (c : Fin 2), 1 ≤ a.val → k0_off15 (at3 a) (BitVec.ofNat 32 c.val) 1 = 512 * a.val - 512 + 256 * c.val := by decide +kernel
  have e := key (i 2) c hi
  funext a
  fin_cases a
  · rfl
  · exact e

theorem off16_eq (i : grid0.Coords) (c : Fin 2) (hi : 1 ≤ (i 2).val) : k0_off16 i (BitVec.ofNat 32 c.val) = ![80, 512 * (i 2).val - 512 + 256 * c.val] := by
  have key : ∀ (a : Fin 8) (c : Fin 2), 1 ≤ a.val → k0_off16 (at3 a) (BitVec.ofNat 32 c.val) 1 = 512 * a.val - 512 + 256 * c.val := by decide +kernel
  have e := key (i 2) c hi
  funext a
  fin_cases a
  · rfl
  · exact e

theorem off17_eq (i : grid0.Coords) (c : Fin 2) : k0_off17 i (BitVec.ofNat 32 c.val) = ![0, 512 * (i 2).val + 256 * c.val] := by
  have key : ∀ (a : Fin 8) (c : Fin 2), k0_off17 (at3 a) (BitVec.ofNat 32 c.val) 1 = 512 * a.val + 256 * c.val := by decide +kernel
  have e := key (i 2) c
  funext a
  fin_cases a
  · rfl
  · exact e

theorem off18_eq (i : grid0.Coords) (c : Fin 2) : k0_off18 i (BitVec.ofNat 32 c.val) = ![80, 512 * (i 2).val + 256 * c.val] := by
  have key : ∀ (a : Fin 8) (c : Fin 2), k0_off18 (at3 a) (BitVec.ofNat 32 c.val) 1 = 512 * a.val + 256 * c.val := by decide +kernel
  have e := key (i 2) c
  funext a
  fin_cases a
  · rfl
  · exact e

theorem off19_eq (i : grid0.Coords) (c : Fin 2) : k0_off19 i (BitVec.ofNat 32 c.val) = ![512 * (i 2).val + 256 * c.val, 0] := by
  have key : ∀ (a : Fin 8) (c : Fin 2), k0_off19 (at3 a) (BitVec.ofNat 32 c.val) 0 = 512 * a.val + 256 * c.val := by decide +kernel
  have e := key (i 2) c
  funext a
  fin_cases a
  · exact e
  · rfl

theorem off20_eq (i : grid0.Coords) (c : Fin 2) : k0_off20 i (BitVec.ofNat 32 c.val) = ![0, 512 * (i 2).val + 256 * c.val] := by
  have key : ∀ (a : Fin 8) (c : Fin 2), k0_off20 (at3 a) (BitVec.ofNat 32 c.val) 1 = 512 * a.val + 256 * c.val := by decide +kernel
  have e := key (i 2) c
  funext a
  fin_cases a
  · rfl
  · exact e

theorem off21_eq (i : grid0.Coords) (c : Fin 2) : k0_off21 i (BitVec.ofNat 32 c.val) = ![80, 512 * (i 2).val + 256 * c.val] := by
  have key : ∀ (a : Fin 8) (c : Fin 2), k0_off21 (at3 a) (BitVec.ofNat 32 c.val) 1 = 512 * a.val + 256 * c.val := by decide +kernel
  have e := key (i 2) c
  funext a
  fin_cases a
  · rfl
  · exact e

variable {F : FTy → Type} [FloatOps F] [Named F]

/-- A head's slot, loaded. -/
theorem slot_zero (M : Memref sig .tc .vmem S2x1x512 .f32) (M' : Memref sig .tc .vmem S2x80x512 .f32) (f : M.view.ty.Contents (Elt Ideal)) (f' : M'.view.ty.Contents (Elt Ideal)) :
    slot0 (M.view.readAt (Elt Ideal) (Rect.unit (s := S2x1x512) ![0, 0, 0] S1x1x512.size inb_S2x1x512_S1x1x512_0_0_0).toLoadRect f)
      (M'.view.readAt (Elt Ideal) (Rect.unit (s := S2x80x512) ![0, 0, 0] S1x80x512.size inb_S2x80x512_S1x80x512_0_0_0).toLoadRect f')
      = pairAt 0 (M.view.read (Elt Ideal) f) (M'.view.read (Elt Ideal) f') := by
  rw [View.readAt_eq_ld, View.readAt_eq_ld]
  generalize M.view.read (Elt Ideal) f = X
  generalize M'.view.read (Elt Ideal) f' = Y
  refine Prod.ext (funext fun y => ?_) (funext fun y => ?_)
  · obtain ⟨z, r, rfl⟩ : ∃ z r, y = ix2 z r := ⟨y 0, y 1, by funext a; fin_cases a <;> rfl⟩
    obtain rfl : z = 0 := Subsingleton.elim _ _
    pointwise [slot0, pairAt]
  · obtain ⟨d, r, rfl⟩ : ∃ z r, y = ix2 z r := ⟨y 0, y 1, by funext a; fin_cases a <;> rfl⟩
    pointwise [slot0, pairAt]

theorem slot_one (M : Memref sig .tc .vmem S2x1x512 .f32) (M' : Memref sig .tc .vmem S2x80x512 .f32) (f : M.view.ty.Contents (Elt Ideal)) (f' : M'.view.ty.Contents (Elt Ideal)) :
    slot0 (M.view.readAt (Elt Ideal) (Rect.unit (s := S2x1x512) ![1, 0, 0] S1x1x512.size inb_S2x1x512_S1x1x512_1_0_0).toLoadRect f)
      (M'.view.readAt (Elt Ideal) (Rect.unit (s := S2x80x512) ![1, 0, 0] S1x80x512.size inb_S2x80x512_S1x80x512_1_0_0).toLoadRect f')
      = pairAt 1 (M.view.read (Elt Ideal) f) (M'.view.read (Elt Ideal) f') := by
  rw [View.readAt_eq_ld, View.readAt_eq_ld]
  generalize M.view.read (Elt Ideal) f = X
  generalize M'.view.read (Elt Ideal) f' = Y
  refine Prod.ext (funext fun y => ?_) (funext fun y => ?_)
  · obtain ⟨z, r, rfl⟩ : ∃ z r, y = ix2 z r := ⟨y 0, y 1, by funext a; fin_cases a <;> rfl⟩
    obtain rfl : z = 0 := Subsingleton.elim _ _
    pointwise [slot0, pairAt]
  · obtain ⟨d, r, rfl⟩ : ∃ z r, y = ix2 z r := ⟨y 0, y 1, by funext a; fin_cases a <;> rfl⟩
    pointwise [slot0, pairAt]

/-- What the first writes leave. -/
abbrev init10 : View.Piece (Elt F) S2x1x512 .f32 := ⟨Rect.unit (s := S2x1x512) ![0, 0, 0] S2x1x512.size inb_S2x1x512_S2x1x512_0_0_0, k0_pay127⟩

abbrev init11 : View.Piece (Elt F) S2x80x512 .f32 := ⟨Rect.unit (s := S2x80x512) ![0, 0, 0] S2x80x512.size inb_S2x80x512_S2x80x512_0_0_0, k0_pay128⟩

section Loop

variable (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S160x4096 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x80x512 .f32) (harg11 : arg11.IsWhole)
  (x0 x1 : Vec F S512x128 .bf16) (x2 x3 : Vec F S4096x128 .bf16) (x4 : Vec F S160x4096 .bf16)

/-- The pieces of the first `k` trips. -/
abbrev loopPieces (k : ℕ) := pb_k0_t1 (F := F) Variants.none c none i arg3 harg3 arg4 harg4 arg5 harg5 arg6 harg6 arg7 harg7 arg8 harg8 arg9 harg9 arg10 harg10 arg11 harg11 (BitVec.ofNat 32 (i 2).val) (k0_pay129 x0 x1)
  (iota .tc S1x256 32 [1] iota_S1x256_d1_w32) k0_pay130 k0_pay131 k0_pay132 140#32 (harg5.unread x2) (harg6.unread x3) (harg7.unread x4)
  (arg10.view.writes (Elt F) arg10.view.junk [init10]) (arg11.view.writes (Elt F) arg11.view.junk [init11]) k

end Loop

section After

variable (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S160x4096 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x80x512 .f32) (harg11 : arg11.IsWhole)
  {x0 x1 : Vec Ideal S512x128 .bf16} {x2 x3 : Vec Ideal S4096x128 .bf16} {x4 : Vec Ideal S160x4096 .bf16} {D : Data}

/-- A head's slot once the pieces `P` are written after the first ones. -/
abbrev slotAfter (h : Fin 2) (P : List (View.Piece (Elt Ideal) S2x1x512 .f32) × List (View.Piece (Elt Ideal) S2x80x512 .f32)) : Pair Ideal :=
  pairAt h (arg10.view.read (Elt Ideal) (arg10.view.writes (Elt Ideal) arg10.view.junk (P.1 ++ [init10])))
    (arg11.view.read (Elt Ideal) (arg11.view.writes (Elt Ideal) arg11.view.junk (P.2 ++ [init11])))

theorem loop_after (H : D.Holds x0 x1 x2 x3 x4) (hb : D.base = 512 * (i 2).val) (k : ℕ) (hk : k ≤ (k0_t1_loop i).trips) (h : Fin 2) :
    D.After h (1024 * k) (slotAfter arg10 arg11 h (loopPieces c i arg3 harg3 arg4 harg4 arg5 harg5 arg6 harg6 arg7 harg7 arg8 harg8 arg9 harg9 arg10 harg10 arg11 harg11 x0 x1 x2 x3 x4 k)) := by
  induction k generalizing h with
  | zero =>
    intro d r hd
    have e10 : (slotAfter arg10 arg11 h (loopPieces c i arg3 harg3 arg4 harg4 arg5 harg5 arg6 harg6 arg7 harg7 arg8 harg8 arg9 harg9 arg10 harg10 arg11 harg11 x0 x1 x2 x3 x4 0)).1 (ix2 0 r) = ⊥ := by
      refine (View.read_writes_cons_unit_of_mem (Val := Elt Ideal) (off' := ![0, 0, 0]) arg10.view _ inb_S2x1x512_S2x1x512_0_0_0 (k0_pay127 (F := Ideal)) [] (ix3 h 0 r) (ix3 h 0 r : S2x1x512.Idx) rfl
        (fun a => by fin_cases a <;> simp [ix3])).trans ?_
      pointwise [k0_pay127]
      exact neg_inf_eq
    have e11 : (slotAfter arg10 arg11 h (loopPieces c i arg3 harg3 arg4 harg4 arg5 harg5 arg6 harg6 arg7 harg7 arg8 harg8 arg9 harg9 arg10 harg10 arg11 harg11 x0 x1 x2 x3 x4 0)).2 (ix2 d r) = 0 := by
      refine (View.read_writes_cons_unit_of_mem (Val := Elt Ideal) (off' := ![0, 0, 0]) arg11.view _ inb_S2x80x512_S2x80x512_0_0_0 (k0_pay128 (F := Ideal)) [] (ix3 h d r) (ix3 h d r : S2x80x512.Idx) rfl
        (fun a => by fin_cases a <;> simp [ix3])).trans ?_
      pointwise [k0_pay128]
    rw [e10, e11, show D.tot h d r (1024 * 0) = 0 from by simp [Data.tot]]
    exact Inv.start
  | succ k ih =>
    have ih := ih (by omega)
    have ht := trips1 i
    have hs : loopPieces c i arg3 harg3 arg4 harg4 arg5 harg5 arg6 harg6 arg7 harg7 arg8 harg8 arg9 harg9 arg10 harg10 arg11 harg11 x0 x1 x2 x3 x4 (k + 1) = _ := pb_k0_t1_succ (F := Ideal) Variants.none c none i arg3 harg3 arg4 harg4 arg5 harg5 arg6 harg6 arg7 harg7 arg8 harg8 arg9 harg9 arg10 harg10 arg11 harg11 (BitVec.ofNat 32 (i 2).val) (k0_pay129 x0 x1)
      (iota .tc S1x256 32 [1] iota_S1x256_d1_w32) k0_pay130 k0_pay131 k0_pay132 140#32 (harg5.unread x2) (harg6.unread x3) (harg7.unread x4)
      (arg10.view.writes (Elt Ideal) arg10.view.junk [init10]) (arg11.view.writes (Elt Ideal) arg11.view.junk [init11]) ⟨k, by omega⟩
    rw [hs, trip_eq]
    dsimp only
    rw [slot_zero, slot_one, ← View.writes_append, ← View.writes_append]
    have C : ∀ h' : Fin 2, 1024 * k + 1024 ≤ D.base := fun _ => by omega
    have F0 := four_after (h := 0) (n := 1024 * k) H (p := slotAfter arg10 arg11 0 (loopPieces c i arg3 harg3 arg4 harg4 arg5 harg5 arg6 harg6 arg7 harg7 arg8 harg8 arg9 harg9 arg10 harg10 arg11 harg11 x0 x1 x2 x3 x4 k)) (k := ![(arg5.view.readAt (Elt Ideal) (Rect.unit (s := S4096x128) (k0_off1 i ⟨k, by omega⟩ 0#32) S256x128.size (k0_off1_inb i ⟨k, by omega⟩ 0)).toLoadRect (harg5.unread x2)), (arg5.view.readAt (Elt Ideal) (Rect.unit (s := S4096x128) (k0_off1 i ⟨k, by omega⟩ 1#32) S256x128.size (k0_off1_inb i ⟨k, by omega⟩ 1)).toLoadRect (harg5.unread x2)), (arg5.view.readAt (Elt Ideal) (Rect.unit (s := S4096x128) (k0_off2 i ⟨k, by omega⟩ 0#32) S256x128.size (k0_off2_inb i ⟨k, by omega⟩ 0)).toLoadRect (harg5.unread x2)), (arg5.view.readAt (Elt Ideal) (Rect.unit (s := S4096x128) (k0_off2 i ⟨k, by omega⟩ 1#32) S256x128.size (k0_off2_inb i ⟨k, by omega⟩ 1)).toLoadRect (harg5.unread x2))]) (kx := ![(arg6.view.readAt (Elt Ideal) (Rect.unit (s := S4096x128) (k0_off1 i ⟨k, by omega⟩ 0#32) S256x128.size (k0_off1_inb i ⟨k, by omega⟩ 0)).toLoadRect (harg6.unread x3)), (arg6.view.readAt (Elt Ideal) (Rect.unit (s := S4096x128) (k0_off1 i ⟨k, by omega⟩ 1#32) S256x128.size (k0_off1_inb i ⟨k, by omega⟩ 1)).toLoadRect (harg6.unread x3)), (arg6.view.readAt (Elt Ideal) (Rect.unit (s := S4096x128) (k0_off2 i ⟨k, by omega⟩ 0#32) S256x128.size (k0_off2_inb i ⟨k, by omega⟩ 0)).toLoadRect (harg6.unread x3)), (arg6.view.readAt (Elt Ideal) (Rect.unit (s := S4096x128) (k0_off2 i ⟨k, by omega⟩ 1#32) S256x128.size (k0_off2_inb i ⟨k, by omega⟩ 1)).toLoadRect (harg6.unread x3))]) (v := ![(arg7.view.readAt (Elt Ideal) (Rect.unit (s := S160x4096) (k0_off3 i ⟨k, by omega⟩ 0#32) S80x256.size (k0_off3_inb i ⟨k, by omega⟩ 0)).toLoadRect (harg7.unread x4)), (arg7.view.readAt (Elt Ideal) (Rect.unit (s := S160x4096) (k0_off3 i ⟨k, by omega⟩ 1#32) S80x256.size (k0_off3_inb i ⟨k, by omega⟩ 1)).toLoadRect (harg7.unread x4)), (arg7.view.readAt (Elt Ideal) (Rect.unit (s := S160x4096) (k0_off5 i ⟨k, by omega⟩ 0#32) S80x256.size (k0_off5_inb i ⟨k, by omega⟩ 0)).toLoadRect (harg7.unread x4)), (arg7.view.readAt (Elt Ideal) (Rect.unit (s := S160x4096) (k0_off5 i ⟨k, by omega⟩ 1#32) S80x256.size (k0_off5_inb i ⟨k, by omega⟩ 1)).toLoadRect (harg7.unread x4))])
      (fun j => by
        fin_cases j
        · exact chunk_of_loads arg5 harg5 arg6 harg6 arg7 harg7 x2 x3 x4 0 _ _ _ ((off1_eq i ⟨k, by omega⟩ 0).trans (by simp)) ((off3_eq i ⟨k, by omega⟩ 0).trans (by simp))
        · exact chunk_of_loads arg5 harg5 arg6 harg6 arg7 harg7 x2 x3 x4 0 _ _ _ ((off1_eq i ⟨k, by omega⟩ 1).trans (by simp)) ((off3_eq i ⟨k, by omega⟩ 1).trans (by simp))
        · exact chunk_of_loads arg5 harg5 arg6 harg6 arg7 harg7 x2 x3 x4 0 _ _ _ ((off2_eq i ⟨k, by omega⟩ 0).trans (by simp)) ((off5_eq i ⟨k, by omega⟩ 0).trans (by simp))
        · exact chunk_of_loads arg5 harg5 arg6 harg6 arg7 harg7 x2 x3 x4 0 _ _ _ ((off2_eq i ⟨k, by omega⟩ 1).trans (by simp [Nat.add_assoc])) ((off5_eq i ⟨k, by omega⟩ 1).trans (by simp [Nat.add_assoc])))
      (ih 0) (by omega)
    have F1 := four_after (h := 1) (n := 1024 * k) H (p := slotAfter arg10 arg11 1 (loopPieces c i arg3 harg3 arg4 harg4 arg5 harg5 arg6 harg6 arg7 harg7 arg8 harg8 arg9 harg9 arg10 harg10 arg11 harg11 x0 x1 x2 x3 x4 k)) (k := ![(arg5.view.readAt (Elt Ideal) (Rect.unit (s := S4096x128) (k0_off1 i ⟨k, by omega⟩ 0#32) S256x128.size (k0_off1_inb i ⟨k, by omega⟩ 0)).toLoadRect (harg5.unread x2)), (arg5.view.readAt (Elt Ideal) (Rect.unit (s := S4096x128) (k0_off1 i ⟨k, by omega⟩ 1#32) S256x128.size (k0_off1_inb i ⟨k, by omega⟩ 1)).toLoadRect (harg5.unread x2)), (arg5.view.readAt (Elt Ideal) (Rect.unit (s := S4096x128) (k0_off2 i ⟨k, by omega⟩ 0#32) S256x128.size (k0_off2_inb i ⟨k, by omega⟩ 0)).toLoadRect (harg5.unread x2)), (arg5.view.readAt (Elt Ideal) (Rect.unit (s := S4096x128) (k0_off2 i ⟨k, by omega⟩ 1#32) S256x128.size (k0_off2_inb i ⟨k, by omega⟩ 1)).toLoadRect (harg5.unread x2))]) (kx := ![(arg6.view.readAt (Elt Ideal) (Rect.unit (s := S4096x128) (k0_off1 i ⟨k, by omega⟩ 0#32) S256x128.size (k0_off1_inb i ⟨k, by omega⟩ 0)).toLoadRect (harg6.unread x3)), (arg6.view.readAt (Elt Ideal) (Rect.unit (s := S4096x128) (k0_off1 i ⟨k, by omega⟩ 1#32) S256x128.size (k0_off1_inb i ⟨k, by omega⟩ 1)).toLoadRect (harg6.unread x3)), (arg6.view.readAt (Elt Ideal) (Rect.unit (s := S4096x128) (k0_off2 i ⟨k, by omega⟩ 0#32) S256x128.size (k0_off2_inb i ⟨k, by omega⟩ 0)).toLoadRect (harg6.unread x3)), (arg6.view.readAt (Elt Ideal) (Rect.unit (s := S4096x128) (k0_off2 i ⟨k, by omega⟩ 1#32) S256x128.size (k0_off2_inb i ⟨k, by omega⟩ 1)).toLoadRect (harg6.unread x3))]) (v := ![(arg7.view.readAt (Elt Ideal) (Rect.unit (s := S160x4096) (k0_off4 i ⟨k, by omega⟩ 0#32) S80x256.size (k0_off4_inb i ⟨k, by omega⟩ 0)).toLoadRect (harg7.unread x4)), (arg7.view.readAt (Elt Ideal) (Rect.unit (s := S160x4096) (k0_off4 i ⟨k, by omega⟩ 1#32) S80x256.size (k0_off4_inb i ⟨k, by omega⟩ 1)).toLoadRect (harg7.unread x4)), (arg7.view.readAt (Elt Ideal) (Rect.unit (s := S160x4096) (k0_off6 i ⟨k, by omega⟩ 0#32) S80x256.size (k0_off6_inb i ⟨k, by omega⟩ 0)).toLoadRect (harg7.unread x4)), (arg7.view.readAt (Elt Ideal) (Rect.unit (s := S160x4096) (k0_off6 i ⟨k, by omega⟩ 1#32) S80x256.size (k0_off6_inb i ⟨k, by omega⟩ 1)).toLoadRect (harg7.unread x4))])
      (fun j => by
        fin_cases j
        · exact chunk_of_loads arg5 harg5 arg6 harg6 arg7 harg7 x2 x3 x4 1 _ _ _ ((off1_eq i ⟨k, by omega⟩ 0).trans (by simp)) ((off4_eq i ⟨k, by omega⟩ 0).trans (by simp))
        · exact chunk_of_loads arg5 harg5 arg6 harg6 arg7 harg7 x2 x3 x4 1 _ _ _ ((off1_eq i ⟨k, by omega⟩ 1).trans (by simp)) ((off4_eq i ⟨k, by omega⟩ 1).trans (by simp))
        · exact chunk_of_loads arg5 harg5 arg6 harg6 arg7 harg7 x2 x3 x4 1 _ _ _ ((off2_eq i ⟨k, by omega⟩ 0).trans (by simp)) ((off6_eq i ⟨k, by omega⟩ 0).trans (by simp))
        · exact chunk_of_loads arg5 harg5 arg6 harg6 arg7 harg7 x2 x3 x4 1 _ _ _ ((off2_eq i ⟨k, by omega⟩ 1).trans (by simp [Nat.add_assoc])) ((off6_eq i ⟨k, by omega⟩ 1).trans (by simp [Nat.add_assoc])))
      (ih 1) (by omega)
    intro d r hd
    fin_cases h
    · have i0 := F0 d r hd
      rw [← pieces10_zero arg10 arg10.view.junk, ← pieces11_zero arg11 arg11.view.junk] at i0
      exact i0
    · have i1 := F1 d r hd
      rw [← pieces10_one arg10 arg10.view.junk, ← pieces11_one arg11 arg11.view.junk] at i1
      exact i1

end After

end Cert.FoxIdeal.Val

end
-- ==== Proof.FoxRun.lean ====
module
public import proofs.«01_k».proof.Proof.FoxLoop

/-! What the forgetting attention's body writes at one grid point, in its two cases. -/

@[expose] public section

set_option maxRecDepth 16384
set_option maxHeartbeats 4000000

noncomputable section

namespace Cert.FoxIdeal.Val

open Cert.FoxIdeal Cert.FoxIdeal.Gen Idealize.ShloMosaic Idealize.ShloMosaic.TcCoe Idealize.SL.Sem Idealize.ShloMosaic.Tactic
open Cert.Softmax

variable {F : FTy → Type} [FloatOps F] [Named F]

/-- The second loop makes no trip. -/
theorem none_left (𝒱 : Variants) (c : Dev nD) (bd : Option 𝒱.V) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S160x4096 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x80x512 .f32) (harg11 : arg11.IsWhole) (arg2 : BitVec 32) (v14 : FVec F S512x256 .bf16) (v15 : IVec S1x256 32) (v26 : IVec S1x256 1) (v31 : IVec S1x256 1) (v33 : IVec S1x256 1) (c140_i32 : BitVec 32) (v59 : BitVec 32) (X_arg5 : BufTy.Contents (Elt F) arg5.view.ty) (X_arg6 : BufTy.Contents (Elt F) arg6.view.ty) (X_arg7 : BufTy.Contents (Elt F) arg7.view.ty) (G_arg10 : BufTy.Contents (Elt F) arg10.view.ty) (G_arg11 : BufTy.Contents (Elt F) arg11.view.ty) (n : ℕ) (hn : n = 0) : pb_k0_t2 (F := F) 𝒱 c bd i arg3 harg3 arg4 harg4 arg5 harg5 arg6 harg6 arg7 harg7 arg8 harg8 arg9 harg9 arg10 harg10 arg11 harg11 arg2 v14 v15 v26 v31 v33 c140_i32 v59 X_arg5 X_arg6 X_arg7 G_arg10 G_arg11 n = ([], []) := by
  subst hn
  rfl

variable (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S160x4096 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x80x512 .f32) (harg11 : arg11.IsWhole)
  (x0 x1 : Vec F S512x128 .bf16) (x2 x3 : Vec F S4096x128 .bf16) (x4 : Vec F S160x4096 .bf16) (x5 : Vec F S512x128 .bf16)

theorem runA (hc0 : ¬cond0_0 i) (hc1 : cond0_1 i) :
    (kernelRun0_A (F := F) c i arg3 harg3 arg4 harg4 arg5 harg5 arg6 harg6 arg7 harg7 arg8 harg8 arg9 harg9 arg10 harg10 arg11 harg11 hc0 hc1 x0 x1 x2 x3 x4 x5).1
      = (let X0 : Vec F S512x128 .bf16 := arg3.view.readAt (Elt F) (Rect.unit (s := S512x128) ![0, 0] S512x128.size inb_S512x128_S512x128_0_0).toLoadRect (harg3.unread x0)
         let X1 : Vec F S512x128 .bf16 := arg4.view.readAt (Elt F) (Rect.unit (s := S512x128) ![0, 0] S512x128.size inb_S512x128_S512x128_0_0).toLoadRect (harg4.unread x1)
         let p0 := (absorb (masked 256#32 (scores (k0_pay129 X0 X1) k0_pay130 (arg5.view.readAt (Elt F) (Rect.unit (s := S4096x128) (k0_off19 i 1#32) S256x128.size (k0_off19_inb i hc1 1)).toLoadRect (harg5.unread x2)) (arg6.view.readAt (Elt F) (Rect.unit (s := S4096x128) (k0_off19 i 1#32) S256x128.size (k0_off19_inb i hc1 1)).toLoadRect (harg6.unread x3)))) (arg7.view.readAt (Elt F) (Rect.unit (s := S160x4096) (k0_off20 i 1#32) S80x256.size (k0_off20_inb i hc1 1)).toLoadRect (harg7.unread x4)) (absorb (masked 0#32 (scores (k0_pay129 X0 X1) k0_pay130 (arg5.view.readAt (Elt F) (Rect.unit (s := S4096x128) (k0_off19 i 0#32) S256x128.size (k0_off19_inb i hc1 0)).toLoadRect (harg5.unread x2)) (arg6.view.readAt (Elt F) (Rect.unit (s := S4096x128) (k0_off19 i 0#32) S256x128.size (k0_off19_inb i hc1 0)).toLoadRect (harg6.unread x3)))) (arg7.view.readAt (Elt F) (Rect.unit (s := S160x4096) (k0_off20 i 0#32) S80x256.size (k0_off20_inb i hc1 0)).toLoadRect (harg7.unread x4)) (slot0 (arg10.view.readCov ((loopPieces c i arg3 harg3 arg4 harg4 arg5 harg5 arg6 harg6 arg7 harg7 arg8 harg8 arg9 harg9 arg10 harg10 arg11 harg11 X0 X1 x2 x3 x4 (k0_t1_loop i).trips).1 ++ [init10]) (Rect.unit (s := S2x1x512) ![0, 0, 0] S1x1x512.size inb_S2x1x512_S1x1x512_0_0_0).toLoadRect) (arg11.view.readCov ((loopPieces c i arg3 harg3 arg4 harg4 arg5 harg5 arg6 harg6 arg7 harg7 arg8 harg8 arg9 harg9 arg10 harg10 arg11 harg11 X0 X1 x2 x3 x4 (k0_t1_loop i).trips).2 ++ [init11]) (Rect.unit (s := S2x80x512) ![0, 0, 0] S1x80x512.size inb_S2x80x512_S1x80x512_0_0_0).toLoadRect))))
         let p1 := (absorb (masked 256#32 (scores (k0_pay129 X0 X1) (k0_pay133 (iota .tc S1x256 32 [1] iota_S1x256_d1_w32) k0_pay131 k0_pay132 140#32) (arg5.view.readAt (Elt F) (Rect.unit (s := S4096x128) (k0_off19 i 1#32) S256x128.size (k0_off19_inb i hc1 1)).toLoadRect (harg5.unread x2)) (arg6.view.readAt (Elt F) (Rect.unit (s := S4096x128) (k0_off19 i 1#32) S256x128.size (k0_off19_inb i hc1 1)).toLoadRect (harg6.unread x3)))) (arg7.view.readAt (Elt F) (Rect.unit (s := S160x4096) (k0_off21 i 1#32) S80x256.size (k0_off21_inb i hc1 1)).toLoadRect (harg7.unread x4)) (absorb (masked 0#32 (scores (k0_pay129 X0 X1) (k0_pay133 (iota .tc S1x256 32 [1] iota_S1x256_d1_w32) k0_pay131 k0_pay132 140#32) (arg5.view.readAt (Elt F) (Rect.unit (s := S4096x128) (k0_off19 i 0#32) S256x128.size (k0_off19_inb i hc1 0)).toLoadRect (harg5.unread x2)) (arg6.view.readAt (Elt F) (Rect.unit (s := S4096x128) (k0_off19 i 0#32) S256x128.size (k0_off19_inb i hc1 0)).toLoadRect (harg6.unread x3)))) (arg7.view.readAt (Elt F) (Rect.unit (s := S160x4096) (k0_off21 i 0#32) S80x256.size (k0_off21_inb i hc1 0)).toLoadRect (harg7.unread x4)) (slot0 (arg10.view.readCov ((loopPieces c i arg3 harg3 arg4 harg4 arg5 harg5 arg6 harg6 arg7 harg7 arg8 harg8 arg9 harg9 arg10 harg10 arg11 harg11 X0 X1 x2 x3 x4 (k0_t1_loop i).trips).1 ++ [init10]) (Rect.unit (s := S2x1x512) ![1, 0, 0] S1x1x512.size inb_S2x1x512_S1x1x512_1_0_0).toLoadRect) (arg11.view.readCov ((loopPieces c i arg3 harg3 arg4 harg4 arg5 harg5 arg6 harg6 arg7 harg7 arg8 harg8 arg9 harg9 arg10 harg10 arg11 harg11 X0 X1 x2 x3 x4 (k0_t1_loop i).trips).2 ++ [init11]) (Rect.unit (s := S2x80x512) ![1, 0, 0] S1x80x512.size inb_S2x80x512_S1x80x512_1_0_0).toLoadRect))))
         let L := pieces11 p0 p1 ((loopPieces c i arg3 harg3 arg4 harg4 arg5 harg5 arg6 harg6 arg7 harg7 arg8 harg8 arg9 harg9 arg10 harg10 arg11 harg11 X0 X1 x2 x3 x4 (k0_t1_loop i).trips).2 ++ [init11])
         [⟨Rect.unit (s := S512x128) ![0, 0] S512x128.size inb_S512x128_S512x128_0_0,
           k0_pay1 (k0_pay144 (arg11.view.readCov L (Rect.unit (s := S2x80x512) ![0, 0, 0] S1x80x512.size inb_S2x80x512_S1x80x512_0_0_0).toLoadRect)
             (arg11.view.readCov L (Rect.unit (s := S2x80x512) ![1, 0, 0] S1x80x512.size inb_S2x80x512_S1x80x512_1_0_0).toLoadRect)
             (arg8.view.readAt (Elt F) (Rect.unit (s := S512x128) ![0, 0] S512x128.size inb_S512x128_S512x128_0_0).toLoadRect (harg8.unread x5)))⟩]) := by
  unfold kernelRun0_A
  dsimp only
  sl_unfold_words
  rw [none_left]
  · rfl
  · exact trips2 i

theorem runB (hc0 : cond0_0 i) (hc1 : ¬cond0_1 i) :
    (kernelRun0_B (F := F) c i arg3 harg3 arg4 harg4 arg5 harg5 arg6 harg6 arg7 harg7 arg8 harg8 arg9 harg9 arg10 harg10 arg11 harg11 hc0 hc1 x0 x1 x2 x3 x4 x5).1
      = (let X0 : Vec F S512x128 .bf16 := arg3.view.readAt (Elt F) (Rect.unit (s := S512x128) ![0, 0] S512x128.size inb_S512x128_S512x128_0_0).toLoadRect (harg3.unread x0)
         let X1 : Vec F S512x128 .bf16 := arg4.view.readAt (Elt F) (Rect.unit (s := S512x128) ![0, 0] S512x128.size inb_S512x128_S512x128_0_0).toLoadRect (harg4.unread x1)
         let p0 := (absorb (masked 256#32 (scores (k0_pay129 X0 X1) k0_pay130 (arg5.view.readAt (Elt F) (Rect.unit (s := S4096x128) (k0_off14 i 1#32) S256x128.size (k0_off14_inb i hc0 1)).toLoadRect (harg5.unread x2)) (arg6.view.readAt (Elt F) (Rect.unit (s := S4096x128) (k0_off14 i 1#32) S256x128.size (k0_off14_inb i hc0 1)).toLoadRect (harg6.unread x3)))) (arg7.view.readAt (Elt F) (Rect.unit (s := S160x4096) (k0_off17 i 1#32) S80x256.size (k0_off17_inb i hc0 1)).toLoadRect (harg7.unread x4)) (absorb (masked 0#32 (scores (k0_pay129 X0 X1) k0_pay130 (arg5.view.readAt (Elt F) (Rect.unit (s := S4096x128) (k0_off14 i 0#32) S256x128.size (k0_off14_inb i hc0 0)).toLoadRect (harg5.unread x2)) (arg6.view.readAt (Elt F) (Rect.unit (s := S4096x128) (k0_off14 i 0#32) S256x128.size (k0_off14_inb i hc0 0)).toLoadRect (harg6.unread x3)))) (arg7.view.readAt (Elt F) (Rect.unit (s := S160x4096) (k0_off17 i 0#32) S80x256.size (k0_off17_inb i hc0 0)).toLoadRect (harg7.unread x4)) (absorb (scores (k0_pay129 X0 X1) k0_pay130 (arg5.view.readAt (Elt F) (Rect.unit (s := S4096x128) (k0_off13 i 1#32) S256x128.size (k0_off13_inb i hc0 1)).toLoadRect (harg5.unread x2)) (arg6.view.readAt (Elt F) (Rect.unit (s := S4096x128) (k0_off13 i 1#32) S256x128.size (k0_off13_inb i hc0 1)).toLoadRect (harg6.unread x3))) (arg7.view.readAt (Elt F) (Rect.unit (s := S160x4096) (k0_off15 i 1#32) S80x256.size (k0_off15_inb i hc0 1)).toLoadRect (harg7.unread x4)) (absorb (scores (k0_pay129 X0 X1) k0_pay130 (arg5.view.readAt (Elt F) (Rect.unit (s := S4096x128) (k0_off13 i 0#32) S256x128.size (k0_off13_inb i hc0 0)).toLoadRect (harg5.unread x2)) (arg6.view.readAt (Elt F) (Rect.unit (s := S4096x128) (k0_off13 i 0#32) S256x128.size (k0_off13_inb i hc0 0)).toLoadRect (harg6.unread x3))) (arg7.view.readAt (Elt F) (Rect.unit (s := S160x4096) (k0_off15 i 0#32) S80x256.size (k0_off15_inb i hc0 0)).toLoadRect (harg7.unread x4)) (slot0 (arg10.view.readCov ((loopPieces c i arg3 harg3 arg4 harg4 arg5 harg5 arg6 harg6 arg7 harg7 arg8 harg8 arg9 harg9 arg10 harg10 arg11 harg11 X0 X1 x2 x3 x4 (k0_t1_loop i).trips).1 ++ [init10]) (Rect.unit (s := S2x1x512) ![0, 0, 0] S1x1x512.size inb_S2x1x512_S1x1x512_0_0_0).toLoadRect) (arg11.view.readCov ((loopPieces c i arg3 harg3 arg4 harg4 arg5 harg5 arg6 harg6 arg7 harg7 arg8 harg8 arg9 harg9 arg10 harg10 arg11 harg11 X0 X1 x2 x3 x4 (k0_t1_loop i).trips).2 ++ [init11]) (Rect.unit (s := S2x80x512) ![0, 0, 0] S1x80x512.size inb_S2x80x512_S1x80x512_0_0_0).toLoadRect))))))
         let p1 := (absorb (masked 256#32 (scores (k0_pay129 X0 X1) (k0_pay133 (iota .tc S1x256 32 [1] iota_S1x256_d1_w32) k0_pay131 k0_pay132 140#32) (arg5.view.readAt (Elt F) (Rect.unit (s := S4096x128) (k0_off14 i 1#32) S256x128.size (k0_off14_inb i hc0 1)).toLoadRect (harg5.unread x2)) (arg6.view.readAt (Elt F) (Rect.unit (s := S4096x128) (k0_off14 i 1#32) S256x128.size (k0_off14_inb i hc0 1)).toLoadRect (harg6.unread x3)))) (arg7.view.readAt (Elt F) (Rect.unit (s := S160x4096) (k0_off18 i 1#32) S80x256.size (k0_off18_inb i hc0 1)).toLoadRect (harg7.unread x4)) (absorb (masked 0#32 (scores (k0_pay129 X0 X1) (k0_pay133 (iota .tc S1x256 32 [1] iota_S1x256_d1_w32) k0_pay131 k0_pay132 140#32) (arg5.view.readAt (Elt F) (Rect.unit (s := S4096x128) (k0_off14 i 0#32) S256x128.size (k0_off14_inb i hc0 0)).toLoadRect (harg5.unread x2)) (arg6.view.readAt (Elt F) (Rect.unit (s := S4096x128) (k0_off14 i 0#32) S256x128.size (k0_off14_inb i hc0 0)).toLoadRect (harg6.unread x3)))) (arg7.view.readAt (Elt F) (Rect.unit (s := S160x4096) (k0_off18 i 0#32) S80x256.size (k0_off18_inb i hc0 0)).toLoadRect (harg7.unread x4)) (absorb (scores (k0_pay129 X0 X1) (k0_pay133 (iota .tc S1x256 32 [1] iota_S1x256_d1_w32) k0_pay131 k0_pay132 140#32) (arg5.view.readAt (Elt F) (Rect.unit (s := S4096x128) (k0_off13 i 1#32) S256x128.size (k0_off13_inb i hc0 1)).toLoadRect (harg5.unread x2)) (arg6.view.readAt (Elt F) (Rect.unit (s := S4096x128) (k0_off13 i 1#32) S256x128.size (k0_off13_inb i hc0 1)).toLoadRect (harg6.unread x3))) (arg7.view.readAt (Elt F) (Rect.unit (s := S160x4096) (k0_off16 i 1#32) S80x256.size (k0_off16_inb i hc0 1)).toLoadRect (harg7.unread x4)) (absorb (scores (k0_pay129 X0 X1) (k0_pay133 (iota .tc S1x256 32 [1] iota_S1x256_d1_w32) k0_pay131 k0_pay132 140#32) (arg5.view.readAt (Elt F) (Rect.unit (s := S4096x128) (k0_off13 i 0#32) S256x128.size (k0_off13_inb i hc0 0)).toLoadRect (harg5.unread x2)) (arg6.view.readAt (Elt F) (Rect.unit (s := S4096x128) (k0_off13 i 0#32) S256x128.size (k0_off13_inb i hc0 0)).toLoadRect (harg6.unread x3))) (arg7.view.readAt (Elt F) (Rect.unit (s := S160x4096) (k0_off16 i 0#32) S80x256.size (k0_off16_inb i hc0 0)).toLoadRect (harg7.unread x4)) (slot0 (arg10.view.readCov ((loopPieces c i arg3 harg3 arg4 harg4 arg5 harg5 arg6 harg6 arg7 harg7 arg8 harg8 arg9 harg9 arg10 harg10 arg11 harg11 X0 X1 x2 x3 x4 (k0_t1_loop i).trips).1 ++ [init10]) (Rect.unit (s := S2x1x512) ![1, 0, 0] S1x1x512.size inb_S2x1x512_S1x1x512_1_0_0).toLoadRect) (arg11.view.readCov ((loopPieces c i arg3 harg3 arg4 harg4 arg5 harg5 arg6 harg6 arg7 harg7 arg8 harg8 arg9 harg9 arg10 harg10 arg11 harg11 X0 X1 x2 x3 x4 (k0_t1_loop i).trips).2 ++ [init11]) (Rect.unit (s := S2x80x512) ![1, 0, 0] S1x80x512.size inb_S2x80x512_S1x80x512_1_0_0).toLoadRect))))))
         let L := pieces11 p0 p1 ((loopPieces c i arg3 harg3 arg4 harg4 arg5 harg5 arg6 harg6 arg7 harg7 arg8 harg8 arg9 harg9 arg10 harg10 arg11 harg11 X0 X1 x2 x3 x4 (k0_t1_loop i).trips).2 ++ [init11])
         [⟨Rect.unit (s := S512x128) ![0, 0] S512x128.size inb_S512x128_S512x128_0_0,
           k0_pay1 (k0_pay144 (arg11.view.readCov L (Rect.unit (s := S2x80x512) ![0, 0, 0] S1x80x512.size inb_S2x80x512_S1x80x512_0_0_0).toLoadRect)
             (arg11.view.readCov L (Rect.unit (s := S2x80x512) ![1, 0, 0] S1x80x512.size inb_S2x80x512_S1x80x512_1_0_0).toLoadRect)
             (arg8.view.readAt (Elt F) (Rect.unit (s := S512x128) ![0, 0] S512x128.size inb_S512x128_S512x128_0_0).toLoadRect (harg8.unread x5)))⟩]) := by
  unfold kernelRun0_B
  dsimp only
  sl_unfold_words
  rw [none_left]
  · rfl
  · exact trips2 i

end Cert.FoxIdeal.Val

end
-- ==== Proof.FoxPoint.lean ====
module
public import proofs.«01_k».proof.Proof.FoxRun

/-! What the forgetting attention's body writes at one grid point: each head's quotient of sums, gated. -/

@[expose] public section

set_option maxRecDepth 16384
set_option maxHeartbeats 1000000

noncomputable section

namespace Cert.FoxIdeal.Val

open Cert.FoxIdeal Cert.FoxIdeal.Gen Idealize.ShloMosaic Idealize.ShloMosaic.TcCoe Idealize.SL.Sem Idealize.ShloMosaic.Tactic
open Cert.Softmax

theorem gated_zero (A0 A1 : Vec Ideal S1x80x512 .f32) (g : Vec Ideal S512x128 .bf16) (d : Fin 64) (r : Fin 512) :
    k0_pay1 (k0_pay144 A0 A1 g) (ix2 r ⟨64 * (0 : Fin 2).val + d.val, by omega⟩)
      = Ideal.div (A0 (ix3 0 ⟨d.val, by omega⟩ r)) (A0 (ix3 0 64 r))
        * (g (ix2 r ⟨64 * (0 : Fin 2).val + d.val, by omega⟩) * Ideal.logistic (g (ix2 r ⟨64 * (0 : Fin 2).val + d.val, by omega⟩))) := by
  have e : (⟨64 * (0 : Fin 2).val + d.val, by omega⟩ : Fin 128) = ⟨d.val, by omega⟩ := Fin.ext (by simp)
  rw [e, ← sigmoid_eq, ← half_eq]
  pointwise [k0_pay1, k0_pay144]

theorem gated_one (A0 A1 : Vec Ideal S1x80x512 .f32) (g : Vec Ideal S512x128 .bf16) (d : Fin 64) (r : Fin 512) :
    k0_pay1 (k0_pay144 A0 A1 g) (ix2 r ⟨64 * (1 : Fin 2).val + d.val, by omega⟩)
      = Ideal.div (A1 (ix3 0 ⟨d.val, by omega⟩ r)) (A1 (ix3 0 64 r))
        * (g (ix2 r ⟨64 * (1 : Fin 2).val + d.val, by omega⟩) * Ideal.logistic (g (ix2 r ⟨64 * (1 : Fin 2).val + d.val, by omega⟩))) := by
  have e : (⟨64 * (1 : Fin 2).val + d.val, by omega⟩ : Fin 128) = ⟨64 + d.val, by omega⟩ := Fin.ext (by simp)
  rw [e, ← sigmoid_eq, ← half_eq]
  pointwise [k0_pay1, k0_pay144]

theorem slots_zero (M : Memref sig .tc .vmem S2x80x512 .f32) (f : M.view.ty.Contents (Elt Ideal)) {d : Fin 80} {r : Fin 512} :
    M.view.readAt (Elt Ideal) (Rect.unit (s := S2x80x512) ![0, 0, 0] S1x80x512.size inb_S2x80x512_S1x80x512_0_0_0).toLoadRect f (ix3 0 d r)
      = M.view.read (Elt Ideal) f (ix3 0 d r) := by
  rw [View.readAt_eq_ld]
  refine congrArg (M.view.read (Elt Ideal) f) (funext fun a => Fin.ext ?_)
  fin_cases a <;> simp [ix3]

theorem slots_one (M : Memref sig .tc .vmem S2x80x512 .f32) (f : M.view.ty.Contents (Elt Ideal)) {d : Fin 80} {r : Fin 512} :
    M.view.readAt (Elt Ideal) (Rect.unit (s := S2x80x512) ![1, 0, 0] S1x80x512.size inb_S2x80x512_S1x80x512_1_0_0).toLoadRect f (ix3 0 d r)
      = M.view.read (Elt Ideal) f (ix3 1 d r) := by
  rw [View.readAt_eq_ld]
  refine congrArg (M.view.read (Elt Ideal) f) (funext fun a => Fin.ext ?_)
  fin_cases a <;> simp [ix3]

theorem load_tile (M : Memref sig .tc .vmem S512x128 .bf16) (hM : M.IsWhole) (X : Vec Ideal S512x128 .bf16) :
    M.view.readAt (Elt Ideal) (Rect.unit (s := S512x128) ![0, 0] S512x128.size inb_S512x128_S512x128_0_0).toLoadRect (hM.unread X) = X := by
  rw [View.readAt_eq_ld, hM.read_unread]
  refine funext fun y => congrArg X (funext fun a => Fin.ext ?_)
  fin_cases a <;> simp

/-- A head's gated quotient over the first `n` keys. -/
def Data.result (D : Data) (h : Fin 2) (d : Fin 64) (r : Fin 512) (n : ℕ) (g : EReal) : EReal :=
  ((D.tot h ⟨d.val, by omega⟩ r n / D.tot h 64 r n : ℝ) : EReal) * (g * Ideal.logistic g)

theorem Data.tot_pos (D : Data) (hone : ∀ h s, D.w h 64 s = 1) (h : Fin 2) (r : Fin 512) (n : ℕ) (hn : 0 < n) : 0 < D.tot h 64 r n := by
  unfold Data.tot
  refine Finset.sum_pos' (fun s _ => ?_) ⟨0, Finset.mem_range.2 hn, ?_⟩
  · rw [hone, one_mul]; exact weight_nonneg _
  · rw [hone, one_mul]
    refine weight_pos ?_
    unfold Data.sig
    rw [if_pos (Nat.zero_le _)]
    exact EReal.coe_ne_bot _

theorem Data.result_eq (D : Data) (hone : ∀ h s, D.w h 64 s = 1) (h : Fin 2) (d : Fin 64) (r : Fin 512) (n : ℕ) (hn : 0 < n) {p : Pair Ideal}
    (P : D.After h n p) {a b : EReal} (ha : a = p.2 (ix2 ⟨d.val, by omega⟩ r)) (hb : b = p.2 (ix2 64 r)) (g : EReal) :
    Ideal.div a b * (g * Ideal.logistic g) = D.result h d r n g := by
  rw [ha, hb, Inv.quotient (P _ r (by show d.val < 65; omega)) (P _ r (by decide)) (D.tot_pos hone h r n hn)]
  rfl

section Point

variable (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S160x4096 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x80x512 .f32) (harg11 : arg11.IsWhole)
  {x0 x1 : Vec Ideal S512x128 .bf16} {x2 x3 : Vec Ideal S4096x128 .bf16} {x4 : Vec Ideal S160x4096 .bf16} (x5 : Vec Ideal S512x128 .bf16) {D : Data}

theorem afterA0 (hc1 : cond0_1 i) (hp : (i 2).val % 2 = 0) (H : D.Holds x0 x1 x2 x3 x4) (hb : D.base = 512 * (i 2).val) :
    D.After 0 (512 * (i 2).val + 256 + 256) (absorb (masked 256#32 (scores (k0_pay129 x0 x1) (lanes 0) (arg5.view.readAt (Elt Ideal) (Rect.unit (s := S4096x128) (k0_off19 i 1#32) S256x128.size (k0_off19_inb i hc1 1)).toLoadRect (harg5.unread x2)) (arg6.view.readAt (Elt Ideal) (Rect.unit (s := S4096x128) (k0_off19 i 1#32) S256x128.size (k0_off19_inb i hc1 1)).toLoadRect (harg6.unread x3)))) (arg7.view.readAt (Elt Ideal) (Rect.unit (s := S160x4096) (k0_off20 i 1#32) S80x256.size (k0_off20_inb i hc1 1)).toLoadRect (harg7.unread x4)) (absorb (masked 0#32 (scores (k0_pay129 x0 x1) (lanes 0) (arg5.view.readAt (Elt Ideal) (Rect.unit (s := S4096x128) (k0_off19 i 0#32) S256x128.size (k0_off19_inb i hc1 0)).toLoadRect (harg5.unread x2)) (arg6.view.readAt (Elt Ideal) (Rect.unit (s := S4096x128) (k0_off19 i 0#32) S256x128.size (k0_off19_inb i hc1 0)).toLoadRect (harg6.unread x3)))) (arg7.view.readAt (Elt Ideal) (Rect.unit (s := S160x4096) (k0_off20 i 0#32) S80x256.size (k0_off20_inb i hc1 0)).toLoadRect (harg7.unread x4)) (slotAfter arg10 arg11 0 (loopPieces c i arg3 harg3 arg4 harg4 arg5 harg5 arg6 harg6 arg7 harg7 arg8 harg8 arg9 harg9 arg10 harg10 arg11 harg11 x0 x1 x2 x3 x4 (k0_t1_loop i).trips)))) := by
  have e0 : 1024 * (k0_t1_loop i).trips = 512 * (i 2).val := by rw [trips1]; omega
  have s0 := loop_after c i arg3 harg3 arg4 harg4 arg5 harg5 arg6 harg6 arg7 harg7 arg8 harg8 arg9 harg9 arg10 harg10 arg11 harg11 H hb (k0_t1_loop i).trips le_rfl 0
  rw [e0] at s0
  have s1 := Chunk.cut 0 (by omega) (chunk_of_loads arg5 harg5 arg6 harg6 arg7 harg7 x2 x3 x4 0 _ (k0_off19_inb i hc1 0) (k0_off20_inb i hc1 0) ((off19_eq i 0).trans (by simp)) ((off20_eq i 0).trans (by simp))) H s0 (by simp [hb])
  have s2 := Chunk.cut 256 (by omega) (chunk_of_loads arg5 harg5 arg6 harg6 arg7 harg7 x2 x3 x4 0 _ (k0_off19_inb i hc1 1) (k0_off20_inb i hc1 1) ((off19_eq i 1).trans (by simp)) ((off20_eq i 1).trans (by simp))) H s1 (by simp [hb])
  exact s2

theorem afterA1 (hc1 : cond0_1 i) (hp : (i 2).val % 2 = 0) (H : D.Holds x0 x1 x2 x3 x4) (hb : D.base = 512 * (i 2).val) :
    D.After 1 (512 * (i 2).val + 256 + 256) (absorb (masked 256#32 (scores (k0_pay129 x0 x1) (lanes 1) (arg5.view.readAt (Elt Ideal) (Rect.unit (s := S4096x128) (k0_off19 i 1#32) S256x128.size (k0_off19_inb i hc1 1)).toLoadRect (harg5.unread x2)) (arg6.view.readAt (Elt Ideal) (Rect.unit (s := S4096x128) (k0_off19 i 1#32) S256x128.size (k0_off19_inb i hc1 1)).toLoadRect (harg6.unread x3)))) (arg7.view.readAt (Elt Ideal) (Rect.unit (s := S160x4096) (k0_off21 i 1#32) S80x256.size (k0_off21_inb i hc1 1)).toLoadRect (harg7.unread x4)) (absorb (masked 0#32 (scores (k0_pay129 x0 x1) (lanes 1) (arg5.view.readAt (Elt Ideal) (Rect.unit (s := S4096x128) (k0_off19 i 0#32) S256x128.size (k0_off19_inb i hc1 0)).toLoadRect (harg5.unread x2)) (arg6.view.readAt (Elt Ideal) (Rect.unit (s := S4096x128) (k0_off19 i 0#32) S256x128.size (k0_off19_inb i hc1 0)).toLoadRect (harg6.unread x3)))) (arg7.view.readAt (Elt Ideal) (Rect.unit (s := S160x4096) (k0_off21 i 0#32) S80x256.size (k0_off21_inb i hc1 0)).toLoadRect (harg7.unread x4)) (slotAfter arg10 arg11 1 (loopPieces c i arg3 harg3 arg4 harg4 arg5 harg5 arg6 harg6 arg7 harg7 arg8 harg8 arg9 harg9 arg10 harg10 arg11 harg11 x0 x1 x2 x3 x4 (k0_t1_loop i).trips)))) := by
  have e0 : 1024 * (k0_t1_loop i).trips = 512 * (i 2).val := by rw [trips1]; omega
  have s0 := loop_after c i arg3 harg3 arg4 harg4 arg5 harg5 arg6 harg6 arg7 harg7 arg8 harg8 arg9 harg9 arg10 harg10 arg11 harg11 H hb (k0_t1_loop i).trips le_rfl 1
  rw [e0] at s0
  have s1 := Chunk.cut 0 (by omega) (chunk_of_loads arg5 harg5 arg6 harg6 arg7 harg7 x2 x3 x4 1 _ (k0_off19_inb i hc1 0) (k0_off21_inb i hc1 0) ((off19_eq i 0).trans (by simp)) ((off21_eq i 0).trans (by simp))) H s0 (by simp [hb])
  have s2 := Chunk.cut 256 (by omega) (chunk_of_loads arg5 harg5 arg6 harg6 arg7 harg7 x2 x3 x4 1 _ (k0_off19_inb i hc1 1) (k0_off21_inb i hc1 1) ((off19_eq i 1).trans (by simp)) ((off21_eq i 1).trans (by simp))) H s1 (by simp [hb])
  exact s2

theorem afterB0 (hc0 : cond0_0 i) (hp : (i 2).val % 2 = 1) (H : D.Holds x0 x1 x2 x3 x4) (hb : D.base = 512 * (i 2).val) :
    D.After 0 (512 * (i 2).val + 256 + 256) (absorb (masked 256#32 (scores (k0_pay129 x0 x1) (lanes 0) (arg5.view.readAt (Elt Ideal) (Rect.unit (s := S4096x128) (k0_off14 i 1#32) S256x128.size (k0_off14_inb i hc0 1)).toLoadRect (harg5.unread x2)) (arg6.view.readAt (Elt Ideal) (Rect.unit (s := S4096x128) (k0_off14 i 1#32) S256x128.size (k0_off14_inb i hc0 1)).toLoadRect (harg6.unread x3)))) (arg7.view.readAt (Elt Ideal) (Rect.unit (s := S160x4096) (k0_off17 i 1#32) S80x256.size (k0_off17_inb i hc0 1)).toLoadRect (harg7.unread x4)) (absorb (masked 0#32 (scores (k0_pay129 x0 x1) (lanes 0) (arg5.view.readAt (Elt Ideal) (Rect.unit (s := S4096x128) (k0_off14 i 0#32) S256x128.size (k0_off14_inb i hc0 0)).toLoadRect (harg5.unread x2)) (arg6.view.readAt (Elt Ideal) (Rect.unit (s := S4096x128) (k0_off14 i 0#32) S256x128.size (k0_off14_inb i hc0 0)).toLoadRect (harg6.unread x3)))) (arg7.view.readAt (Elt Ideal) (Rect.unit (s := S160x4096) (k0_off17 i 0#32) S80x256.size (k0_off17_inb i hc0 0)).toLoadRect (harg7.unread x4)) (absorb (scores (k0_pay129 x0 x1) (lanes 0) (arg5.view.readAt (Elt Ideal) (Rect.unit (s := S4096x128) (k0_off13 i 1#32) S256x128.size (k0_off13_inb i hc0 1)).toLoadRect (harg5.unread x2)) (arg6.view.readAt (Elt Ideal) (Rect.unit (s := S4096x128) (k0_off13 i 1#32) S256x128.size (k0_off13_inb i hc0 1)).toLoadRect (harg6.unread x3))) (arg7.view.readAt (Elt Ideal) (Rect.unit (s := S160x4096) (k0_off15 i 1#32) S80x256.size (k0_off15_inb i hc0 1)).toLoadRect (harg7.unread x4)) (absorb (scores (k0_pay129 x0 x1) (lanes 0) (arg5.view.readAt (Elt Ideal) (Rect.unit (s := S4096x128) (k0_off13 i 0#32) S256x128.size (k0_off13_inb i hc0 0)).toLoadRect (harg5.unread x2)) (arg6.view.readAt (Elt Ideal) (Rect.unit (s := S4096x128) (k0_off13 i 0#32) S256x128.size (k0_off13_inb i hc0 0)).toLoadRect (harg6.unread x3))) (arg7.view.readAt (Elt Ideal) (Rect.unit (s := S160x4096) (k0_off15 i 0#32) S80x256.size (k0_off15_inb i hc0 0)).toLoadRect (harg7.unread x4)) (slotAfter arg10 arg11 0 (loopPieces c i arg3 harg3 arg4 harg4 arg5 harg5 arg6 harg6 arg7 harg7 arg8 harg8 arg9 harg9 arg10 harg10 arg11 harg11 x0 x1 x2 x3 x4 (k0_t1_loop i).trips)))))) := by
  have e0 : 1024 * (k0_t1_loop i).trips = 512 * (i 2).val - 512 := by rw [trips1]; omega
  have hi : 1 ≤ (i 2).val := by omega
  have e1 : 512 * (i 2).val - 512 + 256 + 256 = 512 * (i 2).val := by omega
  have s0 := loop_after c i arg3 harg3 arg4 harg4 arg5 harg5 arg6 harg6 arg7 harg7 arg8 harg8 arg9 harg9 arg10 harg10 arg11 harg11 H hb (k0_t1_loop i).trips le_rfl 0
  rw [e0] at s0
  have s1 := Chunk.free (chunk_of_loads arg5 harg5 arg6 harg6 arg7 harg7 x2 x3 x4 0 _ (k0_off13_inb i hc0 0) (k0_off15_inb i hc0 0) ((off13_eq i 0 hi).trans (by simp)) ((off15_eq i 0 hi).trans (by simp))) H s0 (by simp; omega)
  have s2 := Chunk.free (chunk_of_loads arg5 harg5 arg6 harg6 arg7 harg7 x2 x3 x4 0 _ (k0_off13_inb i hc0 1) (k0_off15_inb i hc0 1) ((off13_eq i 1 hi).trans (by simp)) ((off15_eq i 1 hi).trans (by simp))) H s1 (by simp; omega)
  simp only [e1] at s2
  have s3 := Chunk.cut 0 (by omega) (chunk_of_loads arg5 harg5 arg6 harg6 arg7 harg7 x2 x3 x4 0 _ (k0_off14_inb i hc0 0) (k0_off17_inb i hc0 0) ((off14_eq i 0).trans (by simp)) ((off17_eq i 0).trans (by simp))) H s2 (by simp [hb])
  have s4 := Chunk.cut 256 (by omega) (chunk_of_loads arg5 harg5 arg6 harg6 arg7 harg7 x2 x3 x4 0 _ (k0_off14_inb i hc0 1) (k0_off17_inb i hc0 1) ((off14_eq i 1).trans (by simp)) ((off17_eq i 1).trans (by simp))) H s3 (by simp [hb])
  exact s4

theorem afterB1 (hc0 : cond0_0 i) (hp : (i 2).val % 2 = 1) (H : D.Holds x0 x1 x2 x3 x4) (hb : D.base = 512 * (i 2).val) :
    D.After 1 (512 * (i 2).val + 256 + 256) (absorb (masked 256#32 (scores (k0_pay129 x0 x1) (lanes 1) (arg5.view.readAt (Elt Ideal) (Rect.unit (s := S4096x128) (k0_off14 i 1#32) S256x128.size (k0_off14_inb i hc0 1)).toLoadRect (harg5.unread x2)) (arg6.view.readAt (Elt Ideal) (Rect.unit (s := S4096x128) (k0_off14 i 1#32) S256x128.size (k0_off14_inb i hc0 1)).toLoadRect (harg6.unread x3)))) (arg7.view.readAt (Elt Ideal) (Rect.unit (s := S160x4096) (k0_off18 i 1#32) S80x256.size (k0_off18_inb i hc0 1)).toLoadRect (harg7.unread x4)) (absorb (masked 0#32 (scores (k0_pay129 x0 x1) (lanes 1) (arg5.view.readAt (Elt Ideal) (Rect.unit (s := S4096x128) (k0_off14 i 0#32) S256x128.size (k0_off14_inb i hc0 0)).toLoadRect (harg5.unread x2)) (arg6.view.readAt (Elt Ideal) (Rect.unit (s := S4096x128) (k0_off14 i 0#32) S256x128.size (k0_off14_inb i hc0 0)).toLoadRect (harg6.unread x3)))) (arg7.view.readAt (Elt Ideal) (Rect.unit (s := S160x4096) (k0_off18 i 0#32) S80x256.size (k0_off18_inb i hc0 0)).toLoadRect (harg7.unread x4)) (absorb (scores (k0_pay129 x0 x1) (lanes 1) (arg5.view.readAt (Elt Ideal) (Rect.unit (s := S4096x128) (k0_off13 i 1#32) S256x128.size (k0_off13_inb i hc0 1)).toLoadRect (harg5.unread x2)) (arg6.view.readAt (Elt Ideal) (Rect.unit (s := S4096x128) (k0_off13 i 1#32) S256x128.size (k0_off13_inb i hc0 1)).toLoadRect (harg6.unread x3))) (arg7.view.readAt (Elt Ideal) (Rect.unit (s := S160x4096) (k0_off16 i 1#32) S80x256.size (k0_off16_inb i hc0 1)).toLoadRect (harg7.unread x4)) (absorb (scores (k0_pay129 x0 x1) (lanes 1) (arg5.view.readAt (Elt Ideal) (Rect.unit (s := S4096x128) (k0_off13 i 0#32) S256x128.size (k0_off13_inb i hc0 0)).toLoadRect (harg5.unread x2)) (arg6.view.readAt (Elt Ideal) (Rect.unit (s := S4096x128) (k0_off13 i 0#32) S256x128.size (k0_off13_inb i hc0 0)).toLoadRect (harg6.unread x3))) (arg7.view.readAt (Elt Ideal) (Rect.unit (s := S160x4096) (k0_off16 i 0#32) S80x256.size (k0_off16_inb i hc0 0)).toLoadRect (harg7.unread x4)) (slotAfter arg10 arg11 1 (loopPieces c i arg3 harg3 arg4 harg4 arg5 harg5 arg6 harg6 arg7 harg7 arg8 harg8 arg9 harg9 arg10 harg10 arg11 harg11 x0 x1 x2 x3 x4 (k0_t1_loop i).trips)))))) := by
  have e0 : 1024 * (k0_t1_loop i).trips = 512 * (i 2).val - 512 := by rw [trips1]; omega
  have hi : 1 ≤ (i 2).val := by omega
  have e1 : 512 * (i 2).val - 512 + 256 + 256 = 512 * (i 2).val := by omega
  have s0 := loop_after c i arg3 harg3 arg4 harg4 arg5 harg5 arg6 harg6 arg7 harg7 arg8 harg8 arg9 harg9 arg10 harg10 arg11 harg11 H hb (k0_t1_loop i).trips le_rfl 1
  rw [e0] at s0
  have s1 := Chunk.free (chunk_of_loads arg5 harg5 arg6 harg6 arg7 harg7 x2 x3 x4 1 _ (k0_off13_inb i hc0 0) (k0_off16_inb i hc0 0) ((off13_eq i 0 hi).trans (by simp)) ((off16_eq i 0 hi).trans (by simp))) H s0 (by simp; omega)
  have s2 := Chunk.free (chunk_of_loads arg5 harg5 arg6 harg6 arg7 harg7 x2 x3 x4 1 _ (k0_off13_inb i hc0 1) (k0_off16_inb i hc0 1) ((off13_eq i 1 hi).trans (by simp)) ((off16_eq i 1 hi).trans (by simp))) H s1 (by simp; omega)
  simp only [e1] at s2
  have s3 := Chunk.cut 0 (by omega) (chunk_of_loads arg5 harg5 arg6 harg6 arg7 harg7 x2 x3 x4 1 _ (k0_off14_inb i hc0 0) (k0_off18_inb i hc0 0) ((off14_eq i 0).trans (by simp)) ((off18_eq i 0).trans (by simp))) H s2 (by simp [hb])
  have s4 := Chunk.cut 256 (by omega) (chunk_of_loads arg5 harg5 arg6 harg6 arg7 harg7 x2 x3 x4 1 _ (k0_off14_inb i hc0 1) (k0_off18_inb i hc0 1) ((off14_eq i 1).trans (by simp)) ((off18_eq i 1).trans (by simp))) H s3 (by simp [hb])
  exact s4

theorem pointA (hc0 : ¬cond0_0 i) (hc1 : cond0_1 i) (hp : (i 2).val % 2 = 0) (H : D.Holds x0 x1 x2 x3 x4) (hb : D.base = 512 * (i 2).val) (hone : ∀ h s, D.w h 64 s = 1)
    (h : Fin 2) (d : Fin 64) (r : Fin 512) :
    out0_A_6 (F := Ideal) c i arg3 harg3 arg4 harg4 arg5 harg5 arg6 harg6 arg7 harg7 arg8 harg8 arg9 harg9 arg10 harg10 arg11 harg11 hc0 hc1 x0 x1 x2 x3 x4 x5 (ix2 r ⟨64 * h.val + d.val, by omega⟩) = D.result h d r (512 * (i 2).val + 256 + 256) (x5 (ix2 r ⟨64 * h.val + d.val, by omega⟩)) := by
  unfold out0_A_6
  rw [runA (F := Ideal) c i arg3 harg3 arg4 harg4 arg5 harg5 arg6 harg6 arg7 harg7 arg8 harg8 arg9 harg9 arg10 harg10 arg11 harg11 x0 x1 x2 x3 x4 x5 hc0 hc1, load_tile, load_tile, load_tile]
  refine (View.read_writes_cons_unit_of_mem (Val := Elt Ideal) (off' := ![0, 0]) VO0_6 _ inb_S512x128_S512x128_0_0 _ [] _ (ix2 r ⟨64 * h.val + d.val, by omega⟩ : S512x128.Idx) rfl
    (fun a => by fin_cases a <;> simp [ix2])).trans ?_
  unfold View.readCov
  rw [slot_zero, slot_one]
  have a0 := afterA0 c i arg3 harg3 arg4 harg4 arg5 harg5 arg6 harg6 arg7 harg7 arg8 harg8 arg9 harg9 arg10 harg10 arg11 harg11 hc1 hp H hb
  have a1 := afterA1 c i arg3 harg3 arg4 harg4 arg5 harg5 arg6 harg6 arg7 harg7 arg8 harg8 arg9 harg9 arg10 harg10 arg11 harg11 hc1 hp H hb
  fin_cases h
  · refine (gated_zero _ _ _ d r).trans ?_
    refine Data.result_eq D hone 0 d r _ (by omega) a0 ?_ ?_ _
    · exact (slots_zero arg11 _).trans (pieces11_zero arg11 arg11.view.junk _ _ _ _ _)
    · exact (slots_zero arg11 _).trans (pieces11_zero arg11 arg11.view.junk _ _ _ _ _)
  · refine (gated_one _ _ _ d r).trans ?_
    refine Data.result_eq D hone 1 d r _ (by omega) a1 ?_ ?_ _
    · exact (slots_one arg11 _).trans (pieces11_one arg11 arg11.view.junk _ _ _ _ _)
    · exact (slots_one arg11 _).trans (pieces11_one arg11 arg11.view.junk _ _ _ _ _)

theorem pointB (hc0 : cond0_0 i) (hc1 : ¬cond0_1 i) (hp : (i 2).val % 2 = 1) (H : D.Holds x0 x1 x2 x3 x4) (hb : D.base = 512 * (i 2).val) (hone : ∀ h s, D.w h 64 s = 1)
    (h : Fin 2) (d : Fin 64) (r : Fin 512) :
    out0_B_6 (F := Ideal) c i arg3 harg3 arg4 harg4 arg5 harg5 arg6 harg6 arg7 harg7 arg8 harg8 arg9 harg9 arg10 harg10 arg11 harg11 hc0 hc1 x0 x1 x2 x3 x4 x5 (ix2 r ⟨64 * h.val + d.val, by omega⟩) = D.result h d r (512 * (i 2).val + 256 + 256) (x5 (ix2 r ⟨64 * h.val + d.val, by omega⟩)) := by
  unfold out0_B_6
  rw [runB (F := Ideal) c i arg3 harg3 arg4 harg4 arg5 harg5 arg6 harg6 arg7 harg7 arg8 harg8 arg9 harg9 arg10 harg10 arg11 harg11 x0 x1 x2 x3 x4 x5 hc0 hc1, load_tile, load_tile, load_tile]
  refine (View.read_writes_cons_unit_of_mem (Val := Elt Ideal) (off' := ![0, 0]) VO0_6 _ inb_S512x128_S512x128_0_0 _ [] _ (ix2 r ⟨64 * h.val + d.val, by omega⟩ : S512x128.Idx) rfl
    (fun a => by fin_cases a <;> simp [ix2])).trans ?_
  unfold View.readCov
  rw [slot_zero, slot_one]
  have a0 := afterB0 c i arg3 harg3 arg4 harg4 arg5 harg5 arg6 harg6 arg7 harg7 arg8 harg8 arg9 harg9 arg10 harg10 arg11 harg11 hc0 hp H hb
  have a1 := afterB1 c i arg3 harg3 arg4 harg4 arg5 harg5 arg6 harg6 arg7 harg7 arg8 harg8 arg9 harg9 arg10 harg10 arg11 harg11 hc0 hp H hb
  fin_cases h
  · refine (gated_zero _ _ _ d r).trans ?_
    refine Data.result_eq D hone 0 d r _ (by omega) a0 ?_ ?_ _
    · exact (slots_zero arg11 _).trans (pieces11_zero arg11 arg11.view.junk _ _ _ _ _)
    · exact (slots_zero arg11 _).trans (pieces11_zero arg11 arg11.view.junk _ _ _ _ _)
  · refine (gated_one _ _ _ d r).trans ?_
    refine Data.result_eq D hone 1 d r _ (by omega) a1 ?_ ?_ _
    · exact (slots_one arg11 _).trans (pieces11_one arg11 arg11.view.junk _ _ _ _ _)
    · exact (slots_one arg11 _).trans (pieces11_one arg11 arg11.view.junk _ _ _ _ _)

end Point

end Cert.FoxIdeal.Val

end
-- ==== Proof.FoxRef.lean ====
module
public import proofs.«01_k».proof.Proof.FoxStep
public import proofs.«01_k».proof.Proof.Gen.FoxReferenceIdeal.Read

/-! The forgetting attention: what the reference gives, in real numbers. -/

@[expose] public section

set_option maxRecDepth 16384

noncomputable section

namespace Cert.FoxRef

open Idealize.ShloMosaic Idealize.ShloMosaic.TcCoe
open Cert.Softmax Cert.FoxReferenceIdeal Cert.FoxReferenceIdeal.Read

theorem log_two_pos : 0 < Real.log 2 := Real.log_pos (by norm_num)

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h]
  show (if (2 : ℝ) ≤ 0 then ⊥ else (Real.log 2 : EReal)) = _
  rw [if_neg (by norm_num)]

theorem eighth : Ideal.ofBits .f32 0x3E000000#32 = ((1 / 8 : ℝ) : EReal) := by
  simp [Ideal.ofBits, Ideal.ieee, -EReal.coe_mul]
  norm_num

/-- The sum of a row's gate parts, scaled. -/
theorem parts_apply {x1 : Vec Ideal S16384x512 .bf16} {C : Fin 16384 → Fin 8 → Fin 3 → ℝ}
    (hc : ∀ R H (e : Fin 3), x1 (ix2 R ⟨H.val / 2 * 128 + (H.val % 2 * 6 + e.val), by omega⟩) = (C R H e : EReal))
    (b : Fin 4) (H : Fin 8) (s : Fin 4096) :
    val_main_v20 (F := Ideal) x1 (ix3 b H s) = (((∑ e, C ⟨b.val * 4096 + s.val, by omega⟩ H e) * Real.log 2 : ℝ) : EReal) := by
  pointwise [val_main_v20, val_main_v19, val_main_v18, val_main_v17, val_main_v16, val_main_v15, val_main_v14, val_main_v13, val_main_v12,
    val_main_v11, val_main_cst, val_main_cst_0]
  rw [log_two, Finset.sum_congr rfl fun e _ => hc _ H e, ← coe_sum, ← EReal.coe_mul]

/-- The comparison of two positions. -/
theorem sle_apply (a b : Fin 4096) (x y : EReal) :
    Scalar.select (IntOp.cmpi .sle (BitVec.ofNat 32 a.val) (BitVec.ofNat 32 b.val)) x y = if a.val ≤ b.val then x else y := by
  have ha := a.isLt
  have hb := b.isLt
  have h1 : (BitVec.ofNat 32 a.val).toInt = ((a.val : ℕ) : ℤ) := by
    rw [BitVec.toInt_eq_toNat_of_lt] <;> rw [BitVec.toNat_ofNat, Nat.mod_eq_of_lt] <;> omega
  have h2 : (BitVec.ofNat 32 b.val).toInt = ((b.val : ℕ) : ℤ) := by
    rw [BitVec.toInt_eq_toNat_of_lt] <;> rw [BitVec.toNat_ofNat, Nat.mod_eq_of_lt] <;> omega
  by_cases h : a.val ≤ b.val
  · have : (BitVec.ofNat 32 a.val).sle (BitVec.ofNat 32 b.val) = true := by
      rw [BitVec.sle_eq_decide, h1, h2]; simp only [decide_eq_true_eq, Nat.cast_le]; exact h
    simp [IntOp.cmpi, this, h, Scalar.select]
  · have : (BitVec.ofNat 32 a.val).sle (BitVec.ofNat 32 b.val) = false := by
      rw [BitVec.sle_eq_decide, h1, h2]; simp only [decide_eq_false_iff_not, Nat.cast_le]; exact h
    simp [IntOp.cmpi, this, h, Scalar.select]

/-- The arrays hold these numbers. -/
structure Holds (Q K : Fin 16384 → Fin 512 → ℝ) (C : Fin 16384 → Fin 8 → Fin 3 → ℝ) (x0 : Vec Ideal S16384x12288 .bf16)
    (x1 : Vec Ideal S16384x512 .bf16) : Prop where
  hq : ∀ R (l : Fin 512), x0 (ix2 R ⟨3072 + l.val, by omega⟩) = (Q R l : EReal)
  hk : ∀ R (l : Fin 512), x0 (ix2 R ⟨3584 + l.val, by omega⟩) = (K R l : EReal)
  hc : ∀ R H (e : Fin 3), x1 (ix2 R ⟨H.val / 2 * 128 + (H.val % 2 * 6 + e.val), by omega⟩) = (C R H e : EReal)

/-- The logit of a key at a query, ⊥ where the key comes after the query. -/
def sig (Q K : Fin 16384 → Fin 512 → ℝ) (C : Fin 16384 → Fin 8 → Fin 3 → ℝ) (b : Fin 4) (H : Fin 8) (q s : Fin 4096) : EReal :=
  if s.val ≤ q.val then
    (FoxIdeal.Val.logit (fun d => Q ⟨b.val * 4096 + q.val, by omega⟩ ⟨H.val * 64 + d.val, by omega⟩)
      (fun d => K ⟨b.val * 4096 + s.val, by omega⟩ ⟨H.val * 64 + d.val, by omega⟩)
      (C ⟨b.val * 4096 + q.val, by omega⟩ H) (C ⟨b.val * 4096 + s.val, by omega⟩ H) : EReal)
  else ⊥

theorem sig_ne_top (Q K : Fin 16384 → Fin 512 → ℝ) (C : Fin 16384 → Fin 8 → Fin 3 → ℝ) (b : Fin 4) (H : Fin 8) (q s : Fin 4096) : sig Q K C b H q s ≠ ⊤ := by
  unfold sig
  split_ifs
  · exact EReal.coe_ne_top _
  · exact bot_ne_top

theorem sig_zero (Q K : Fin 16384 → Fin 512 → ℝ) (C : Fin 16384 → Fin 8 → Fin 3 → ℝ) (b : Fin 4) (H : Fin 8) (q : Fin 4096) :
    sig Q K C b H q ⟨0, by omega⟩ ≠ ⊥ := by
  unfold sig
  rw [if_pos (Nat.zero_le _)]
  exact EReal.coe_ne_bot _

/-- A row of the softmax, weighted and gated. -/
theorem row_of {N : ℕ} (σ : Fin N → EReal) (v : Fin N → ℝ) (hσ : ∀ k, σ k ≠ ⊤) (hne : ∃ k, σ k ≠ ⊥)
    (s : Fin N → EReal) (hs : ∀ k, s k = ((Real.log 2 : ℝ) : EReal) * σ k) (w : Fin N → EReal) (hw : ∀ k, w k = (v k : EReal))
    (B : EReal) (hB : B = ⊥) (g u : EReal) (hu : u = Ideal.logistic g) :
    (∑ k, w k * Ideal.div (Ideal.exp (s k - Finset.univ.fold max B s)) (∑ j, Ideal.exp (s j - Finset.univ.fold max B s))) * (g * u)
      = (((∑ k, v k * weight (σ k)) / (∑ k, weight (σ k)) : ℝ) : EReal) * (g * Ideal.logistic g) := by
  subst hB hu
  rw [← softmax_row σ v hσ hne s hs rfl rfl]
  congr 1
  refine Finset.sum_congr rfl fun x _ => ?_
  rw [hw]
  exact mul_comm _ _

section Rows

variable {Q K : Fin 16384 → Fin 512 → ℝ} {C : Fin 16384 → Fin 8 → Fin 3 → ℝ} {x0 : Vec Ideal S16384x12288 .bf16} {x1 : Vec Ideal S16384x512 .bf16}

theorem score_apply (A : Holds Q K C x0 x1) (b : Fin 4) (H : Fin 8) (q s : Fin 4096) :
    val_main_v34 (F := Ideal) x0 x1 (ix4 b H q s) = ((Real.log 2 : ℝ) : EReal) * sig Q K C b H q s := by
  pointwise [val_main_v34, val_main_call0_v2, val_main_call0_v1, val_main_call0_v0, val_main_cst_2, val_main_v33, val_main_v32, val_main_v31,
    val_main_v30, val_main_v29, val_main_v28, val_main_v27, val_main_v26, val_main_v25, val_main_v24, val_main_v23, val_main_v22, val_main_v21,
    val_main_cst_1, val_main_v5, val_main_v4, val_main_v3, val_main_v2, val_main_v1, val_main_v0]
  rw [sle_apply]
  unfold sig
  split_ifs
  · have e : ∀ x : Fin 64, x0 (ix2 (⟨b.val * 4096 + q.val, by omega⟩ : Fin 16384) ⟨3072 + (H.val * 64 + x.val), by omega⟩)
        * x0 (ix2 (⟨b.val * 4096 + s.val, by omega⟩ : Fin 16384) ⟨3584 + (H.val * 64 + x.val), by omega⟩)
        = (Q ⟨b.val * 4096 + q.val, by omega⟩ ⟨H.val * 64 + x.val, by omega⟩ * K ⟨b.val * 4096 + s.val, by omega⟩ ⟨H.val * 64 + x.val, by omega⟩ : ℝ) := fun x =>
      (congrArg₂ (· * ·) (A.hq ⟨b.val * 4096 + q.val, by omega⟩ ⟨H.val * 64 + x.val, by omega⟩)
        (A.hk ⟨b.val * 4096 + s.val, by omega⟩ ⟨H.val * 64 + x.val, by omega⟩)).trans (EReal.coe_mul _ _).symm
    rw [parts_apply A.hc, parts_apply A.hc, eighth, Finset.sum_congr rfl fun x _ => e x, ← coe_sum, ← EReal.coe_mul, ← EReal.coe_add, ← EReal.coe_sub, ← EReal.coe_mul]
    congr 1
    unfold FoxIdeal.Val.logit FoxIdeal.Val.scale
    have := log_two_pos.ne'
    field_simp
    ring
  · rw [EReal.coe_mul_bot_of_pos log_two_pos]
    exact neg_inf_eq

/-- The reference's result at an index. -/
theorem ref_apply (A : Holds Q K C x0 x1) {x3 : Vec Ideal S2560x4096 .bf16} (R : Fin 16384) (l : Fin 512) {v : Fin 4096 → ℝ}
    (hv : ∀ s, x3 (ix2 ⟨R.val / 4096 * 640 + l.val / 64 * 80 + l.val % 64, by omega⟩ s) = (v s : EReal)) :
    val_main_v55 (F := Ideal) x0 x1 x3 (ix2 R l)
      = (((∑ s, v s * weight (sig Q K C ⟨R.val / 4096, by omega⟩ ⟨l.val / 64, by omega⟩ ⟨R.val % 4096, by omega⟩ s))
          / ∑ s, weight (sig Q K C ⟨R.val / 4096, by omega⟩ ⟨l.val / 64, by omega⟩ ⟨R.val % 4096, by omega⟩ s) : ℝ) : EReal)
        * (x0 (ix2 R ⟨4608 + l.val, by omega⟩) * Ideal.logistic (x0 (ix2 R ⟨4608 + l.val, by omega⟩))) := by
  pointwise [val_main_v55, val_main_v54, val_main_v53, val_main_v52, val_main_v51, val_main_v50, val_main_v49, val_main_v48, val_main_v47,
    val_main_v46, val_main_v45, val_main_v44, val_main_v43, val_main_v42, val_main_v41, val_main_v40, val_main_v39, val_main_v38, val_main_v37,
    val_main_v36, val_main_v35, val_main_v10, val_main_v9, val_main_v8, val_main_v7, val_main_v6, val_main_cst_3, val_main_cst_4, val_main_cst_5, val_main_cst_6]
  exact row_of _ v (sig_ne_top Q K C _ _ _) ⟨⟨0, by omega⟩, sig_zero Q K C _ _ _⟩
    (fun s => val_main_v34 (F := Ideal) x0 x1 (ix4 ⟨R.val / 4096, by omega⟩ ⟨l.val / 64, by omega⟩ ⟨R.val % 4096, by omega⟩ s))
    (fun s => score_apply A _ _ _ s)
    (fun s => x3 (ix2 ⟨R.val / 4096 * 640 + l.val / 64 * 80 + l.val % 64, by omega⟩ s)) hv _ neg_inf_eq _ _ rfl

end Rows

end Cert.FoxRef

end
-- ==== Proof.FoxPre.lean ====
module
public import proofs.«01_k».proof.Proof.Softmax
public import proofs.«01_k».proof.Proof.Gen.Pre_fox_inputs
public import Idealize.ShloMosaic.Lib.ReduceAll
public import Idealize.ShloMosaic.Lib.Pointwise

/-! What the precondition of the forgetting attention says. -/

@[expose] public section

set_option maxRecDepth 16384

noncomputable section

namespace Cert.FoxPre

open Idealize.ShloMosaic Idealize.ShloMosaic.TcCoe
open Cert.Softmax Cert.Pre_fox_inputs

instance : Subsingleton S_.Idx := ⟨fun _ _ => funext fun a => a.elim0⟩

theorem lt_top_of_cmp {x : EReal} (h : Ideal.cmp .olt (max x (-x)) (Ideal.ofBits .f32 0x7F800000#32) = 1#1) : max x (-x) < ⊤ := by
  rw [pos_inf_eq] at h
  by_contra hn
  simp [Ideal.cmp, hn] at h

theorem of_bit {p : Prop} [Decidable p] (h : BitVec.ofBool (decide p) = 1#1) : p := by
  by_contra hn
  simp [hn] at h

/-- The lane of a head's extra lane. -/
abbrev lane (H : Fin 8) (e : Fin 6) : Fin 512 := ⟨H.val / 2 * 128 + (H.val % 2 * 6 + e.val), by omega⟩

/-- The precondition, array by array. -/
structure Says (x0 : Vec Ideal S16384x12288 .bf16) (x1 x2 : Vec Ideal S16384x512 .bf16) (x3 : Vec Ideal S2560x4096 .bf16) : Prop where
  z : ∀ (R : Fin 16384) (l : Fin 1024), x0 (ix2 R ⟨3072 + l.val, by omega⟩) = ((x0 (ix2 R ⟨3072 + l.val, by omega⟩)).toReal : EReal)
  c : ∀ (R : Fin 16384) (H : Fin 8) (e : Fin 3), x1 (ix2 R (lane H ⟨e.val, by omega⟩)) = ((x1 (ix2 R (lane H ⟨e.val, by omega⟩))).toReal : EReal)
  c1 : ∀ (R : Fin 16384) (H : Fin 8) (e : Fin 3), x1 (ix2 R (lane H ⟨3 + e.val, by omega⟩)) = 1
  k1 : ∀ (R : Fin 16384) (H : Fin 8) (e : Fin 3), x2 (ix2 R (lane H ⟨e.val, by omega⟩)) = 1
  kc : ∀ (R : Fin 16384) (H : Fin 8) (e : Fin 3), x2 (ix2 R (lane H ⟨3 + e.val, by omega⟩)) = -x1 (ix2 R (lane H ⟨e.val, by omega⟩))
  v : ∀ (g : Fin 32) (d : Fin 64) (s : Fin 4096), x3 (ix2 ⟨g.val * 80 + d.val, by omega⟩ s) = ((x3 (ix2 ⟨g.val * 80 + d.val, by omega⟩ s)).toReal : EReal)
  v1 : ∀ (g : Fin 32) (s : Fin 4096), x3 (ix2 ⟨g.val * 80 + 64, by omega⟩ s) = 1

theorem inputs_real {x0 : Vec Ideal S16384x12288 .bf16} {x1 x2 : Vec Ideal S16384x512 .bf16} {x3 : Vec Ideal S2560x4096 .bf16}
    (h : Pre_fox_inputs.fn (F := Ideal) x0 x1 x2 x3 = fun _ => 1#1) : Says x0 x1 x2 x3 := by
  have h' := congrFun h (fun a => a.elim0)
  unfold Pre_fox_inputs.fn at h'
  dsimp only at h'
  unfold Pre_fox_inputs.fn_part1 at h'
  dsimp only at h'
  unfold Pre_fox_inputs.fn_part2 at h'
  dsimp only at h'
  obtain ⟨h', h7⟩ := IntOp.andi_eq_one.1 h'
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h1, h2⟩ := IntOp.andi_eq_one.1 h'
  refine ⟨fun R l => ?_, fun R H e => ?_, fun R H e => ?_, fun R H e => ?_, fun R H e => ?_, fun g d s => ?_, fun g s => ?_⟩
  · have e := Host.reduce_andi_all _ _ _ _ _ h1 (ix2 R l)
    pointwise at e
    exact coe_toReal_of_abs (lt_top_of_cmp e)
  · have e := Host.reduce_andi_all _ _ _ _ _ h2 (ix3 R H e)
    pointwise at e
    exact coe_toReal_of_abs (lt_top_of_cmp e)
  · have e := Host.reduce_andi_all _ _ _ _ _ h3 (ix3 R H e)
    pointwise at e
    exact of_bit e
  · have e := Host.reduce_andi_all _ _ _ _ _ h4 (ix3 R H e)
    pointwise at e
    exact of_bit e
  · have e := Host.reduce_andi_all _ _ _ _ _ h5 (ix3 R H e)
    pointwise at e
    exact of_bit e
  · have e := Host.reduce_andi_all _ _ _ _ _ h6 (ix3 g d s)
    pointwise at e
    exact coe_toReal_of_abs (lt_top_of_cmp e)
  · have e := Host.reduce_andi_all _ _ _ _ _ h7 (ix2 g s)
    pointwise at e
    exact of_bit e

end Cert.FoxPre

end
-- ==== Proof.FoxClaim.lean ====
module
public import proofs.«01_k».proof.Defs
public import proofs.«01_k».proof.Proof.FoxPoint
public import proofs.«01_k».proof.Proof.FoxRef
public import proofs.«01_k».proof.Proof.FoxPre
public import proofs.«01_k».proof.Proof.Gen.FoxIdeal.Value
public import Idealize.ShloMosaic.Lib.Pipeline.ValueKit.Geometry

/-! The forgetting attention: the launch's result is the reference's. -/

@[expose] public section

set_option maxRecDepth 16384

noncomputable section

namespace Cert.FoxClaims

open Idealize.ShloMosaic Idealize.ShloMosaic.TcCoe Idealize.SL.Sem
open Cert.Softmax Cert.FoxIdeal.Val
open Cert.FoxReferenceIdeal.Read

/-- A sum whose later terms are zero. -/
theorem sum_all {n N : ℕ} (hn : n ≤ N) (f : ℕ → ℝ) (h0 : ∀ s, n ≤ s → f s = 0) : ∑ s ∈ Finset.range n, f s = ∑ s : Fin N, f s.val := by
  rw [← Finset.sum_range]
  refine Finset.sum_subset (Finset.range_subset_range.2 hn) fun s _ hs => h0 s ?_
  rw [Finset.mem_range] at hs
  omega

section Block

variable (Q K : Fin 16384 → Fin 512 → ℝ) (C : Fin 16384 → Fin 8 → Fin 3 → ℝ) (V : Fin 32 → Fin 80 → Fin 4096 → ℝ) (b p : Fin 4) (i : Fin 8)

/-- What the blocks of a grid point hold: batch entry `b`, pair of heads `p`, block of queries `i`. -/
def data : Data where
  q h r d := Q ⟨b.val * 4096 + (512 * i.val + r.val), by omega⟩ ⟨(2 * p.val + h.val) * 64 + d.val, by omega⟩
  k h s d := K ⟨b.val * 4096 + s % 4096, by omega⟩ ⟨(2 * p.val + h.val) * 64 + d.val, by omega⟩
  c h r := C ⟨b.val * 4096 + (512 * i.val + r.val), by omega⟩ ⟨2 * p.val + h.val, by omega⟩
  c' h s := C ⟨b.val * 4096 + s % 4096, by omega⟩ ⟨2 * p.val + h.val, by omega⟩
  w h d s := V ⟨b.val * 8 + (2 * p.val + h.val), by omega⟩ d ⟨s % 4096, by omega⟩
  base := 512 * i.val

theorem sig_eq (h : Fin 2) (r : Fin 512) (s : Fin 4096) :
    (data Q K C V b p i).sig h r s.val = FoxRef.sig Q K C b ⟨2 * p.val + h.val, by omega⟩ ⟨512 * i.val + r.val, by omega⟩ s := by
  have e : s.val % 4096 = s.val := Nat.mod_eq_of_lt s.isLt
  unfold Data.sig FoxRef.sig data
  simp only [e]

theorem tot_eq (h : Fin 2) (d : Fin 80) (r : Fin 512) :
    (data Q K C V b p i).tot h d r (512 * i.val + 256 + 256)
      = ∑ s : Fin 4096, V ⟨b.val * 8 + (2 * p.val + h.val), by omega⟩ d s
          * weight (FoxRef.sig Q K C b ⟨2 * p.val + h.val, by omega⟩ ⟨512 * i.val + r.val, by omega⟩ s) := by
  unfold Data.tot
  rw [sum_all (N := 4096) (by omega) _ fun s hs => ?_]
  · refine Finset.sum_congr rfl fun s _ => ?_
    rw [sig_eq]
    congr 1
    exact congrArg (V _ d) (Fin.ext (Nat.mod_eq_of_lt s.isLt))
  · have : (data Q K C V b p i).sig h r s = ⊥ := by
      unfold Data.sig
      rw [if_neg]
      show ¬s ≤ 512 * i.val + r.val
      have := r.isLt
      omega
    rw [this, weight_bot, mul_zero]

theorem result_all (hone : ∀ g s, V g 64 s = 1) (h : Fin 2) (d : Fin 64) (r : Fin 512) (g : EReal) :
    (data Q K C V b p i).result h d r (512 * i.val + 256 + 256) g
      = (((∑ s : Fin 4096, V ⟨b.val * 8 + (2 * p.val + h.val), by omega⟩ ⟨d.val, by omega⟩ s
            * weight (FoxRef.sig Q K C b ⟨2 * p.val + h.val, by omega⟩ ⟨512 * i.val + r.val, by omega⟩ s))
          / ∑ s : Fin 4096, weight (FoxRef.sig Q K C b ⟨2 * p.val + h.val, by omega⟩ ⟨512 * i.val + r.val, by omega⟩ s) : ℝ) : EReal)
        * (g * Ideal.logistic g) := by
  unfold Data.result
  rw [tot_eq, tot_eq]
  simp only [hone, one_mul]

end Block

/-- The reference's result, by batch entry, head and position. -/
theorem ref_at {Q K : Fin 16384 → Fin 512 → ℝ} {C : Fin 16384 → Fin 8 → Fin 3 → ℝ} {x0 : Vec Ideal FoxReferenceIdeal.S16384x12288 .bf16}
    {x1 : Vec Ideal FoxReferenceIdeal.S16384x512 .bf16} {x3 : Vec Ideal FoxReferenceIdeal.S2560x4096 .bf16} (A : FoxRef.Holds Q K C x0 x1)
    (R : Fin 16384) (l : Fin 512) (b : Fin 4) (H : Fin 8) (q : Fin 4096) (hb : R.val / 4096 = b.val) (hH : l.val / 64 = H.val) (hq : R.val % 4096 = q.val)
    {v : Fin 4096 → ℝ} (hv : ∀ s, x3 (ix2 ⟨(b.val * 8 + H.val) * 80 + l.val % 64, by omega⟩ s) = (v s : EReal)) :
    val_main_v55 (F := Ideal) x0 x1 x3 (ix2 R l)
      = (((∑ s, v s * weight (FoxRef.sig Q K C b H q s)) / ∑ s, weight (FoxRef.sig Q K C b H q s) : ℝ) : EReal)
        * (x0 (ix2 R ⟨4608 + l.val, by omega⟩) * Ideal.logistic (x0 (ix2 R ⟨4608 + l.val, by omega⟩))) := by
  obtain ⟨b, hb'⟩ := b
  obtain ⟨H, hH'⟩ := H
  obtain ⟨q, hq'⟩ := q
  dsimp only at hb hH hq
  subst hb hH hq
  refine FoxRef.ref_apply A R l fun s => (congrArg (fun j => x3 (ix2 j s)) (Fin.ext ?_)).trans (hv s)
  show R.val / 4096 * 640 + l.val / 64 * 80 + l.val % 64 = (R.val / 4096 * 8 + l.val / 64) * 80 + l.val % 64
  omega

section Launch

open Cert.FoxIdeal Cert.FoxIdeal.Gen

variable (m : (ℓ : Loc nD τ sig) → Buf (Elt Ideal) ℓ)

theorem e0 : ∀ t : Fin cfg0.N, win0_0.index t = ![t.val / 32 * 8 + t.val % 8, 24 + t.val / 8 % 4] := (by decide +kernel : ∀ t : Fin grid0.N, _)
theorem e1 : ∀ t : Fin cfg0.N, win0_1.index t = ![t.val / 32 * 8 + t.val % 8, t.val / 8 % 4] := (by decide +kernel : ∀ t : Fin grid0.N, _)
theorem e2 : ∀ t : Fin cfg0.N, win0_2.index t = ![t.val / 32, 28 + t.val / 8 % 4] := (by decide +kernel : ∀ t : Fin grid0.N, _)
theorem e3 : ∀ t : Fin cfg0.N, win0_3.index t = ![t.val / 32, t.val / 8 % 4] := (by decide +kernel : ∀ t : Fin grid0.N, _)
theorem e4 : ∀ t : Fin cfg0.N, win0_4.index t = ![t.val / 8, 0] := (by decide +kernel : ∀ t : Fin grid0.N, _)
theorem e5 : ∀ t : Fin cfg0.N, win0_5.index t = ![t.val / 32 * 8 + t.val % 8, 36 + t.val / 8 % 4] := (by decide +kernel : ∀ t : Fin grid0.N, _)
theorem e6 : ∀ t : Fin cfg0.N, win0_6.index t = ![t.val / 32 * 8 + t.val % 8, t.val / 8 % 4] := (by decide +kernel : ∀ t : Fin grid0.N, _)
theorem ei : ∀ t : Fin cfg0.N, ((grid0.coords t) 2).val = t.val % 8 := (by decide +kernel : ∀ t : Fin grid0.N, _)

/-- What the arrays hold, in real numbers. -/
structure Arrays (Q K : Fin 16384 → Fin 512 → ℝ) (C : Fin 16384 → Fin 8 → Fin 3 → ℝ) (V : Fin 32 → Fin 80 → Fin 4096 → ℝ)
    (x0 : Vec Ideal S16384x12288 .bf16) (x1 x2 : Vec Ideal S16384x512 .bf16) (x3 : Vec Ideal S2560x4096 .bf16) : Prop where
  A : FoxRef.Holds Q K C x0 x1
  c1 : ∀ (R : Fin 16384) (H : Fin 8) (e : Fin 3), x1 (ix2 R (FoxPre.lane H ⟨3 + e.val, by omega⟩)) = 1
  k1 : ∀ (R : Fin 16384) (H : Fin 8) (e : Fin 3), x2 (ix2 R (FoxPre.lane H ⟨e.val, by omega⟩)) = 1
  kc : ∀ (R : Fin 16384) (H : Fin 8) (e : Fin 3), x2 (ix2 R (FoxPre.lane H ⟨3 + e.val, by omega⟩)) = (-(C R H e) : ℝ)
  v : ∀ (g : Fin 32) (d : Fin 80) (s : Fin 4096), d.val < 65 → x3 (ix2 ⟨g.val * 80 + d.val, by omega⟩ s) = (V g d s : EReal)
  v1 : ∀ g s, V g 64 s = 1

theorem arrays_of {x0 : Vec Ideal S16384x12288 .bf16} {x1 x2 : Vec Ideal S16384x512 .bf16} {x3 : Vec Ideal S2560x4096 .bf16}
    (P : FoxPre.Says x0 x1 x2 x3) :
    Arrays (fun R l => (x0 (ix2 R ⟨3072 + l.val, by omega⟩)).toReal) (fun R l => (x0 (ix2 R ⟨3584 + l.val, by omega⟩)).toReal)
      (fun R H e => (x1 (ix2 R (FoxPre.lane H ⟨e.val, by omega⟩))).toReal) (fun g d s => (x3 (ix2 ⟨g.val * 80 + d.val, by omega⟩ s)).toReal)
      x0 x1 x2 x3 := by
  have hz : ∀ (R : Fin 16384) (j : Fin 12288), 3072 ≤ j.val → j.val < 4096 → x0 (ix2 R j) = ((x0 (ix2 R j)).toReal : EReal) := fun R j h1 h2 => by
    have e : (⟨3072 + (j.val - 3072), by omega⟩ : Fin 12288) = j := Fin.ext (by show 3072 + (j.val - 3072) = j.val; omega)
    have := P.z R ⟨j.val - 3072, by omega⟩
    dsimp only at this
    rw [e] at this
    exact this
  refine ⟨⟨fun R l => hz R _ (Nat.le_add_right _ _) (by show 3072 + l.val < 4096; omega),
    fun R l => hz R _ (by show 3072 ≤ 3584 + l.val; omega) (by show 3584 + l.val < 4096; omega), P.c⟩, P.c1, P.k1, fun R H e => ?_, fun g d s hd => ?_, fun g s => ?_⟩
  · rw [EReal.coe_neg]
    exact (P.kc R H e).trans (congrArg Neg.neg (P.c R H e))
  · by_cases h : d.val < 64
    · exact P.v g ⟨d.val, h⟩ s
    · obtain rfl : d = 64 := Fin.ext (by show d.val = 64; omega)
      have e : x3 (ix2 ⟨g.val * 80 + (64 : Fin 80).val, by omega⟩ s) = 1 := P.v1 g s
      rw [e]
      rfl
  · have e : x3 (ix2 ⟨g.val * 80 + (64 : Fin 80).val, by omega⟩ s) = 1 := P.v1 g s
    show (x3 (ix2 ⟨g.val * 80 + (64 : Fin 80).val, by omega⟩ s)).toReal = 1
    rw [e]
    rfl

section Point

variable {Q K : Fin 16384 → Fin 512 → ℝ} {C : Fin 16384 → Fin 8 → Fin 3 → ℝ} {V : Fin 32 → Fin 80 → Fin 4096 → ℝ} (c : Dev nD)
  (B : Arrays Q K C V (m ((c : Thread nD τ).loc main_arg0)) (m ((c : Thread nD τ).loc main_arg1)) (m ((c : Thread nD τ).loc main_arg2)) (m ((c : Thread nD τ).loc main_arg3)))
  (t : Fin cfg0.N) (ht : t.val < 128)

include B in
theorem holds : (data Q K C V ⟨t.val / 32, by omega⟩ ⟨t.val / 8 % 4, by omega⟩ ⟨t.val % 8, by omega⟩).Holds
    (iblk m c 0 t) (iblk m c 1 t) (iblk m c 2 t) (iblk m c 3 t) (iblk m c 4 t) := by
  refine ⟨fun h r d => ?_, fun h r e => ?_, fun h r e => ?_, fun h s d => ?_, fun h s e => ?_, fun h s e => ?_, fun h d s hd => ?_⟩
  · refine Eq.trans ?_ (B.A.hq ⟨t.val / 32 * 4096 + (512 * (t.val % 8) + r.val), by omega⟩ ⟨(2 * (t.val / 8 % 4) + h.val) * 64 + d.val, by omega⟩)
    blk_simp [iblk]
    exact congrArg _ (by blk_ext [e0])
  · refine Eq.trans ?_ (B.A.hc ⟨t.val / 32 * 4096 + (512 * (t.val % 8) + r.val), by omega⟩ ⟨2 * (t.val / 8 % 4) + h.val, by omega⟩ e)
    blk_simp [iblk]
    exact congrArg _ (by blk_ext [e1])
  · refine Eq.trans ?_ (B.c1 ⟨t.val / 32 * 4096 + (512 * (t.val % 8) + r.val), by omega⟩ ⟨2 * (t.val / 8 % 4) + h.val, by omega⟩ e)
    blk_simp [iblk]
    exact congrArg _ (by blk_ext [e1])
  · refine Eq.trans ?_ (B.A.hk ⟨t.val / 32 * 4096 + s.val % 4096, by omega⟩ ⟨(2 * (t.val / 8 % 4) + h.val) * 64 + d.val, by omega⟩)
    blk_simp [iblk]
    exact congrArg _ (by blk_ext [e2])
  · refine Eq.trans ?_ (B.k1 ⟨t.val / 32 * 4096 + s.val % 4096, by omega⟩ ⟨2 * (t.val / 8 % 4) + h.val, by omega⟩ e)
    blk_simp [iblk]
    exact congrArg _ (by blk_ext [e3])
  · refine Eq.trans ?_ (B.kc ⟨t.val / 32 * 4096 + s.val % 4096, by omega⟩ ⟨2 * (t.val / 8 % 4) + h.val, by omega⟩ e)
    blk_simp [iblk]
    exact congrArg _ (by blk_ext [e3])
  · refine Eq.trans ?_ (B.v ⟨t.val / 32 * 8 + (2 * (t.val / 8 % 4) + h.val), by omega⟩ d ⟨s.val % 4096, by omega⟩ hd)
    blk_simp [iblk]
    exact congrArg _ (by blk_ext [e4])

include B in
theorem point (h : Fin 2) (d : Fin 64) (r : Fin 512) :
    outsAt0 m c t.val t.isLt (ix2 r ⟨64 * h.val + d.val, by omega⟩)
      = (data Q K C V ⟨t.val / 32, by omega⟩ ⟨t.val / 8 % 4, by omega⟩ ⟨t.val % 8, by omega⟩).result h d r (512 * (t.val % 8) + 256 + 256)
          (iblk m c 5 t (ix2 r ⟨64 * h.val + d.val, by omega⟩)) := by
  have hb : (data Q K C V ⟨t.val / 32, by omega⟩ ⟨t.val / 8 % 4, by omega⟩ ⟨t.val % 8, by omega⟩).base = 512 * ((grid0.coords t) 2).val := by
    rw [ei]
    rfl
  by_cases hp : t.val % 2 = 0
  · rw [outsAt0_A m c t (by omega) hp]
    refine (pointA c (grid0.coords t) _ _ _ _ _ _ _ _ _ _ _ _ _ _ _ _ _ _ _ _ _ (by rw [ei]; omega) (holds m c B t ht) hb (fun h s => B.v1 _ _) h d r).trans ?_
    rw [ei]
  · rw [outsAt0_B m c t (by omega) hp]
    refine (pointB c (grid0.coords t) _ _ _ _ _ _ _ _ _ _ _ _ _ _ _ _ _ _ _ _ _ (by rw [ei]; omega) (holds m c B t ht) hb (fun h s => B.v1 _ _) h d r).trans ?_
    rw [ei]

end Point

/-- Where the arrays hold these numbers, the launch's result is the reference's. -/
theorem final (c : Dev nD) {Q K : Fin 16384 → Fin 512 → ℝ} {C : Fin 16384 → Fin 8 → Fin 3 → ℝ} {V : Fin 32 → Fin 80 → Fin 4096 → ℝ}
    (B : Arrays Q K C V (m ((c : Thread nD τ).loc main_arg0)) (m ((c : Thread nD τ).loc main_arg1)) (m ((c : Thread nD τ).loc main_arg2)) (m ((c : Thread nD τ).loc main_arg3))) :
    (dats m 0 c).arrAt 6 cfg0.N
      = val_main_v55 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6]
  have hy : ∃ (r : Fin 512) (l : Fin 128), y = ix2 r l := ⟨y 0, y 1, funext fun a => by fin_cases a <;> rfl⟩
  obtain ⟨r, l, rfl⟩ := hy
  obtain ⟨h, d, rfl⟩ : ∃ (h : Fin 2) (d : Fin 64), l = ⟨64 * h.val + d.val, by omega⟩ :=
    ⟨⟨l.val / 64, by omega⟩, ⟨l.val % 64, by omega⟩, Fin.ext (by show l.val = 64 * (l.val / 64) + l.val % 64; omega)⟩
  have ht : t.val < 128 := t.isLt
  have he : (win0_6.blk t).view.emb (ix2 r (⟨64 * h.val + d.val, by omega⟩ : Fin 128))
      = ix2 (⟨t.val / 32 * 4096 + (512 * (t.val % 8) + r.val), by omega⟩ : Fin 16384) (⟨(2 * (t.val / 8 % 4) + h.val) * 64 + d.val, by omega⟩ : Fin 512) := by
    blk_ext [e6]
  rw [he, point m c B t ht h d r]
  have hg : iblk m c 5 t (ix2 r (⟨64 * h.val + d.val, by omega⟩ : Fin 128))
      = m ((c : Thread nD τ).loc main_arg0) (ix2 (⟨t.val / 32 * 4096 + (512 * (t.val % 8) + r.val), by omega⟩ : Fin 16384)
          (⟨4608 + ((2 * (t.val / 8 % 4) + h.val) * 64 + d.val), by omega⟩ : Fin 12288)) := by
    blk_simp [iblk]
    exact congrArg _ (by blk_ext [e5])
  rw [hg]
  refine (result_all Q K C V ⟨t.val / 32, by omega⟩ ⟨t.val / 8 % 4, by omega⟩ ⟨t.val % 8, by omega⟩ B.v1 h d r _).trans ?_
  refine (ref_at (x3 := m ((c : Thread nD τ).loc main_arg3))
      (v := fun s => V ⟨t.val / 32 * 8 + (2 * (t.val / 8 % 4) + h.val), by omega⟩ ⟨d.val, by omega⟩ s) B.A
      ⟨t.val / 32 * 4096 + (512 * (t.val % 8) + r.val), by omega⟩ ⟨(2 * (t.val / 8 % 4) + h.val) * 64 + d.val, by omega⟩
      ⟨t.val / 32, by omega⟩ ⟨2 * (t.val / 8 % 4) + h.val, by omega⟩ ⟨512 * (t.val % 8) + r.val, by omega⟩ ?_ ?_ ?_ fun s => ?_).symm
  · show (t.val / 32 * 4096 + (512 * (t.val % 8) + r.val)) / 4096 = t.val / 32
    omega
  · show ((2 * (t.val / 8 % 4) + h.val) * 64 + d.val) / 64 = 2 * (t.val / 8 % 4) + h.val
    omega
  · show (t.val / 32 * 4096 + (512 * (t.val % 8) + r.val)) % 4096 = 512 * (t.val % 8) + r.val
    omega
  · refine Eq.trans (congrArg (fun j => m ((c : Thread nD τ).loc main_arg3) (ix2 j s)) (Fin.ext ?_))
      (B.v ⟨t.val / 32 * 8 + (2 * (t.val / 8 % 4) + h.val), by omega⟩ ⟨d.val, by omega⟩ s (by show d.val < 65; omega))
    show (t.val / 32 * 8 + (2 * (t.val / 8 % 4) + h.val)) * 80 + ((2 * (t.val / 8 % 4) + h.val) * 64 + d.val) % 64
      = (t.val / 32 * 8 + (2 * (t.val / 8 % 4) + h.val)) * 80 + d.val
    omega

theorem algebraic : Cert.algebraic_FoxIdeal_FoxReferenceIdeal_pre_fox_inputs := by
  intro m ρ m' ρ' hpre hagree
  refine ⟨fun c => (dats m 0 c).arrAt 6 cfg0.N, Cert.FoxIdeal.Value.run_blocks m ρ, ?_⟩
  refine (θ_run Cert.FoxReferenceIdeal.defs _ _).mono (fun _ h c => ⟨(h c).1.trans ?_, (h c).2⟩)
    (Cert.FoxReferenceIdeal.Value.run (F := Ideal) m' ρ')
  rw [val_main_v55_eq, (hagree c).1, (hagree c).2.1, (hagree c).2.2.2]
  exact (final m c (arrays_of (FoxPre.inputs_real (hpre c)))).symm

end Launch

end Cert.FoxClaims

end
-- ==== Proof.InProjIdealFrame.lean ====
module
public import proofs.«01_k».proof.Proof.Gen.InProjIdeal.Frame
public import proofs.«01_k».proof.Proof.Gen.InProjIdeal.Skeleton
public import Idealize.ShloMosaic.Lib.ValueLayout
public import Idealize.ShloMosaic.Lib.Pipeline.ValueKit.Geometry
public import Idealize.ShloMosaic.Lib.Pipeline.Value
public import Idealize.ShloMosaic.Lib.Pipeline.TableIdle
public import Idealize.ShloMosaic.Lib.Claim
public import Idealize.ShloMosaic.Lib.Pointwise

/-! The input projection: what the body leaves at each point, and the run of the launch.

The grid is 16 blocks of rows by 6 blocks of columns. At the first column of a row block the body normalises the rows into
its scratch and stores the narrow projection; at every column it multiplies the scratch with a block of the wide weight. -/

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one store of a whole view leaves, -/
theorem stored {S : Shape} {e : EltTy} (v : View sig .tc .vmem S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- and what a load of a whole view reads. -/
theorem loaded {S : Shape} {e : EltTy} (v : Memref sig .tc .vmem S e) (hv : v.IsWhole) {off : Fin S.rank → Nat} (h : off = fun _ => 0)
    (inb : ∀ a, off a + S.size a ≤ S.size a) (x : S.Idx → Elt F e) :
    View.readAt (Elt F) v.view (Rect.unit off S.size inb).toLoadRect (hv.unread x) = x := by
  rw [View.readAt_eq_ld, hv.read_unread, View.ld_unit_zero h]

/-- The body's branch is taken at the first column. -/
theorem first_iff : ∀ t : Fin cfg0.N, k0_cond1 (grid0.coords t) = 1#1 ↔ t.val % 6 = 0 :=
  (by decide +kernel : ∀ t : Fin grid0.N, k0_cond1 (grid0.coords t) = 1#1 ↔ t.val % 6 = 0)

theorem e0 : ∀ t : Fin cfg0.N, win0_0.index t = ![t.val / 6, 0] := (by decide +kernel : ∀ t : Fin grid0.N, win0_0.index t = ![t.val / 6, 0])
theorem e1 : ∀ t : Fin cfg0.N, win0_1.index t = ![0, 0] := (by decide +kernel : ∀ t : Fin grid0.N, win0_1.index t = ![0, 0])
theorem e3 : ∀ t : Fin cfg0.N, win0_3.index t = ![0, 0, 0] := (by decide +kernel : ∀ t : Fin grid0.N, win0_3.index t = ![0, 0, 0])

theorem zero2 : (![0, 0] : Fin 2 → Nat) = fun _ => 0 := funext fun a => by fin_cases a <;> rfl
theorem zero3 : (![0, 0, 0] : Fin 3 → Nat) = fun _ => 0 := funext fun a => by fin_cases a <;> rfl

theorem iblk0_eq (c : Dev nD) (t t' : Fin cfg0.N) (h : t.val / 6 = t'.val / 6) :
    (iblk m c 0 t : Vec F S1024x2048 .f32) = iblk m c 0 t' := funext fun y => by
  have hy : ∃ (r : Fin 1024) (l : Fin 2048), y = ix2 r l := ⟨y 0, y 1, funext fun a => by fin_cases a <;> rfl⟩
  obtain ⟨r, l, rfl⟩ := hy
  have ht : t'.val < 96 := t'.isLt
  have key : ∀ s : Fin cfg0.N, s.val / 6 = t'.val / 6 →
      iblk m c 0 s (ix2 r l) = V m c main_arg0 (ix2 (⟨t'.val / 6 * 1024 + r.val, by omega⟩ : Fin 16384) l) := fun s hs => by
    blk_simp [iblk]
    exact congrArg (V m c main_arg0) (by blk_ext [e0, hs])
  rw [key t h, key t' rfl]

theorem iblk1_eq (c : Dev nD) (t t' : Fin cfg0.N) : (iblk m c 1 t : Vec F S1x2048 .f32) = iblk m c 1 t' := funext fun y => by
  have hy : ∃ (r : Fin 1) (l : Fin 2048), y = ix2 r l := ⟨y 0, y 1, funext fun a => by fin_cases a <;> rfl⟩
  obtain ⟨r, l, rfl⟩ := hy
  have key : ∀ s : Fin cfg0.N, iblk m c 1 s (ix2 r l) = V m c main_v0 (ix2 r l) := fun s => by
    blk_simp [iblk]
    exact congrArg (V m c main_v0) (by blk_ext [e1])
  rw [key t, key t']

theorem iblk3_eq (c : Dev nD) (t t' : Fin cfg0.N) : (iblk m c 3 t : Vec F S1x128x2048 .bf16) = iblk m c 3 t' := funext fun y => by
  have hy : ∃ (g : Fin 1) (r : Fin 128) (l : Fin 2048), y = ix3 g r l := ⟨y 0, y 1, y 2, funext fun a => by fin_cases a <;> rfl⟩
  obtain ⟨g, r, l, rfl⟩ := hy
  have hg : g = 0 := Subsingleton.elim _ _
  subst hg
  have key : ∀ s : Fin cfg0.N, iblk m c 3 s (ix3 0 r l) = V m c main_arg3 (ix3 0 r l) := fun s => by
    blk_simp [iblk]
    exact congrArg (V m c main_arg3) (by blk_ext [e3])
  rw [key t, key t']

/-- The normalised rows of point `t`'s block, -/
def hval (c : Dev nD) (t : Fin cfg0.N) : Vec F S1024x2048 .bf16 := k0_pay2 (iblk m c 0 t) (iblk m c 1 t)
/-- its block of the wide projection, -/
def zval (c : Dev nD) (t : Fin cfg0.N) : Vec F S1024x2048 .bf16 := k0_pay4 (hval m c t) (iblk m c 2 t)
/-- and of the narrow one. -/
def sval (c : Dev nD) (t : Fin cfg0.N) : Vec F S1024x128 .f32 := k0_pay3 (iblk m c 0 t) (iblk m c 1 t) (iblk m c 3 t)

theorem hval_eq (c : Dev nD) (t t' : Fin cfg0.N) (h : t.val / 6 = t'.val / 6) : hval m c t = hval m c t' := by
  unfold hval; rw [iblk0_eq m c t t' h, iblk1_eq m c t t']
theorem sval_eq (c : Dev nD) (t t' : Fin cfg0.N) (h : t.val / 6 = t'.val / 6) : sval m c t = sval m c t' := by
  unfold sval; rw [iblk0_eq m c t t' h, iblk1_eq m c t t', iblk3_eq m c t t']

abbrev scr : Memref sig .tc .vmem S1024x2048 .bf16 := Memref.whole cc0_scratch0

theorem launch_inv (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; rfl

set_option maxHeartbeats 1000000 in
/-- The body at a first column. -/
theorem run_first (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x2048x2048 .bf16) (harg4 : arg4.IsWhole) (arg5 : Memref sig .tc .vmem S1x128x2048 .bf16) (harg5 : arg5.IsWhole)
    (arg6 : Memref sig .tc .vmem S1024x2048 .bf16) (harg6 : arg6.IsWhole) (arg7 : Memref sig .tc .vmem S1024x128 .f32) (harg7 : arg7.IsWhole)
    (arg8 : Memref sig .tc .vmem S1024x2048 .bf16) (harg8 : arg8.IsWhole) (hc0 : k0_cond1 i = 1#1)
    (x0 : Vec F S1024x2048 .f32) (x1 : Vec F S1x2048 .f32) (x2 : Vec F S1x2048x2048 .bf16) (x3 : Vec F S1x128x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 (k0_pay2 x0 x1) x2) ∗ owns (c : Thread nD τ) arg7 fullShare (k0_pay3 x0 x1 x3)
            ∗ owns (c : Thread nD τ) arg8 fullShare (k0_pay2 x0 x1)) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [stored _ _ zero2]
    sl_unfold_words
    rw [View.readCov_unit_zero _ zero2, loaded arg2 harg2 zero2, loaded arg3 harg3 zero2, loaded arg4 harg4 zero3]
  isplitl [H5]
  · iexists _; isplitr
    swap; · iexact H5
    ipureintro
    rw [stored _ _ zero2]
    sl_unfold_words
    rw [loaded arg2 harg2 zero2, loaded arg3 harg3 zero2, loaded arg5 harg5 zero3]
  iexists _; isplitr
  swap; · iexact H6
  ipureintro
  sl_unfold_words
  rw [stored _ _ zero2, loaded arg2 harg2 zero2, loaded arg3 harg3 zero2]

set_option maxHeartbeats 1000000 in
/-- The body at a later column: the scratch and the narrow block stay. -/
theorem run_later (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x2048x2048 .bf16) (harg4 : arg4.IsWhole) (arg5 : Memref sig .tc .vmem S1x128x2048 .bf16) (harg5 : arg5.IsWhole)
    (arg6 : Memref sig .tc .vmem S1024x2048 .bf16) (harg6 : arg6.IsWhole) (arg7 : Memref sig .tc .vmem S1024x128 .f32) (harg7 : arg7.IsWhole)
    (arg8 : Memref sig .tc .vmem S1024x2048 .bf16) (harg8 : arg8.IsWhole) (hc0 : ¬k0_cond1 i = 1#1)
    (x2 : Vec F S1x2048x2048 .bf16) (h : Vec F S1024x2048 .bf16) (K : PUnit → sProp 𝕄) :
    iprop(owns (c : Thread nD τ) arg4 fullShare x2 ∗ (∃ d, owns (c : Thread nD τ) arg6 fullShare d) ∗ owns (c : Thread nD τ) arg8 fullShare h
        ∗ (iprop(owns (c : Thread nD τ) arg4 fullShare x2 ∗ owns (c : Thread nD τ) arg6 fullShare (k0_pay4 h x2)
            ∗ owns (c : Thread nD τ) arg8 fullShare h) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f2, %hf2, H2⟩, ⟨%d4, %f4, -, H4⟩, ⟨%f6, %hf6, H6⟩, Hk⟩
  obtain rfl := harg4.eq_unread hf2; obtain rfl := harg8.eq_unread hf6
  sl_exec (disch := first | sl_exact hc0)
  sl_step
  iapply Hk
  isplitl [H2]
  · iexists _; isplitr; · ipureintro; exact harg4.read_unread _
    iexact H2
  isplitl [H4]
  · iexists _; isplitr
    swap; · iexact H4
    ipureintro
    rw [stored _ _ zero2]
    sl_unfold_words
    rw [loaded arg8 harg8 zero2, loaded arg4 harg4 zero3]
  iexists _; isplitr
  swap; · iexact H6
  ipureintro; exact harg8.read_unread _

/-- What the scratch holds before position `n`: anything before the first point, the rows' normalisation afterwards. -/
def Inv (c : Dev nD) : (n : ℕ) → n ≤ cfg0.N → sProp 𝕄
  | 0, _ => Pipeline.ΦA spec0 c
  | n + 1, hn => iprop(owns (c : Thread nD τ) scr fullShare (hval m c ⟨n, hn⟩) ∗ (∃ r, prngReg c r))

theorem Inv_forget (c : Dev nD) : (n : ℕ) → (hn : n ≤ cfg0.N) → Inv m c n hn ⊢ iprop((∃ d, owns (c : Thread nD τ) scr fullShare d) ∗ (∃ r, prngReg c r))
  | 0, _ => by
    show Pipeline.ΦA spec0 c ⊢ _
    rw [launch_inv]
    try exact Idealize.SL.BI.Entails.refl _
  | n + 1, hn => by
    show iprop(owns (c : Thread nD τ) scr fullShare (hval m c ⟨n, hn⟩) ∗ (∃ r, prngReg c r)) ⊢ _
    iintro ⟨H, Hg⟩
    isplitl [H]
    · iexists _; iexact H
    iexact Hg

theorem Inv_later (c : Dev nD) (t : Fin cfg0.N) (h0 : t.val % 6 ≠ 0) :
    Inv m c t.val (Nat.le_of_lt t.isLt) = iprop(owns (c : Thread nD τ) scr fullShare (hval m c t) ∗ (∃ r, prngReg c r)) := by
  obtain ⟨n, hn⟩ := t
  cases n with
  | zero => exact absurd rfl h0
  | succ n =>
    have e : hval m c ⟨n + 1, hn⟩ = hval m c ⟨n, Nat.lt_of_succ_lt hn⟩ := hval_eq m c _ _ (by
      show (n + 1) / 6 = n / 6
      have : (n + 1) % 6 ≠ 0 := h0
      omega)
    rw [e]; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => zval m c t
    | ⟨5, _⟩ => sval m c t
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = zval m c t := by dsimp only [dats]
theorem after5 (c : Dev nD) (t : Fin cfg0.N) : (dats m 0 c).after 5 t = sval m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The narrow block's buffer holds nothing of the body's only where a row block begins. -/
theorem fresh5 (n : ℕ) (h : n ≤ cfg0.N) : cfg0.fresh 5 n = decide (n % 6 = 0) :=
  cfg0.fresh_tab 5 (fun n => decide (n % 6 = 0)) rfl
    (by decide +kernel : ∀ t : Fin grid0.N, decide ((t.val + 1) % 6 = 0) = ((cfg0.win 5).flush t || (cfg0.idle 5 (cfg0.grid.coords t) && decide (t.val % 6 = 0)))) n h

/-- It is written back at a row block's last column only: before that its buffer keeps what the first left. -/
theorem before5 (c : Dev nD) (t : Fin cfg0.N) (h0 : t.val % 6 ≠ 0) (d) : (dats m 0 c).before 5 t d = sval m c t := by
  rw [Pipeline.Dat.before_out_traj (dats m 0 c) 5 rfl (fun _ _ => rfl) (fun s hs hi hf => by
      rw [fresh5 _ (Nat.le_of_lt s.isLt)] at hf
      have h6 : s.val % 6 ≠ 0 := of_decide_eq_false hf
      rw [after5, after5]
      exact sval_eq m c _ _ (by show s.val / 6 = (s.val - 1) / 6; omega)) t.val t rfl d,
    fresh5 _ (Nat.le_of_lt t.isLt), decide_eq_false h0, if_neg Bool.false_ne_true, after5]
  exact sval_eq m c _ _ (by show (t.val - 1) / 6 = t.val / 6; omega)

/-- What the obligation asks of the narrow block's buffer after a point: where the body passes it by, what it held. -/
def post5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem idle5 : ∀ t : Fin cfg0.N, cfg0.idle 5 (cfg0.grid.coords t) = true → t.val % 6 ≠ 0 :=
  (by decide +kernel : ∀ t : Fin grid0.N, cfg0.idle 5 (cfg0.grid.coords t) = true → t.val % 6 ≠ 0)

theorem post5_of (c : Dev nD) (t : Fin cfg0.N) : owns (c : Thread nD τ) (st0_5 t) fullShare (sval m c t) ⊢ post5 m c t := by
  unfold post5
  cases hi : cfg0.idle 5 (cfg0.grid.coords t)
  · show _ ⊢ owns (c : Thread nD τ) (st0_5 t) fullShare ((dats m 0 c).after 5 t)
    rw [after5]
  · cases hf : (cfg0.win 5).flush t
    · show _ ⊢ iprop(∃ d, owns (c : Thread nD τ) (st0_5 t) fullShare ((dats m 0 c).before 5 t d))
      simp only [before5 m c t (idle5 t hi)]
      iintro H
      iexists (sval m c t); iexact H
    · show _ ⊢ owns (c : Thread nD τ) (st0_5 t) fullShare ((dats m 0 c).after 5 t)
      rw [after5]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem Inv_succ (c : Dev nD) (t : Fin cfg0.N) :
    (dats m 0 c).Φ t.succ = iprop(owns (c : Thread nD τ) scr fullShare (hval m c t) ∗ (∃ r, prngReg c r)) := rfl

/-- What the body is called with at a point, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ post5 m c t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Inv_succ, Inv_castSucc, after0, after1, after2, after3, after4]
  simp only [before0, before1, before2, before3]
  unfold Dat.owesAt Pipeline.owesWithin
  rw [show (dats m 0 c).owed t.castSucc = 0 from rfl, show (dats m 0 c).owed t.succ = 0 from rfl]
  by_cases h0 : t.val % 6 = 0
  · iintro ⟨HI, HW, ⟨%d0, H0⟩, ⟨%d1, H1⟩, ⟨%d2, H2⟩, ⟨%d3, H3⟩, ⟨%d4, H4⟩, ⟨%d5, H5⟩⟩
    icases (Inv_forget m c t.val (Nat.le_of_lt t.isLt)) $$ HI with ⟨HS, Hg⟩
    iapply (run_first c (grid0.coords t) _ _ _ _ _ _ _ _ _ _ _ _ _ _ ((first_iff t).mpr h0) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [HW]; · iexact HW
    isplitl [H0]; · iexact H0
    isplitl [H1]; · iexact H1
    isplitl [H2]; · iexact H2
    isplitl [H3]; · iexact H3
    isplitl [H4]; · iexact H4
    iapply (post5_of m c t); iexact H5
  · rw [Inv_later m c t h0]
    simp only [before5 m c t h0]
    iintro ⟨⟨HS, Hg⟩, HW, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => h0 ((first_iff t).mp h)) (iblk m c 2 t) (hval m c t) _)
    isplitl [H2]; · iexact H2
    isplitl [H4]; · iexists _; iexact H4
    isplitl [HS]; · iexact HS
    iintro ⟨H2, H4, HS⟩
    isplitl [HS Hg]
    · isplitl [HS]; · iexact HS
      iexact Hg
    isplitl [HW]; · iexact HW
    isplitl [H0]; · iexact H0
    isplitl [H1]; · iexact H1
    isplitl [H2]; · iexact H2
    isplitl [H3]; · iexact H3
    isplitl [H4]; · iexact H4
    iapply (post5_of m c t); iexact H5

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦA spec0 c ⊢ (dats m 0 c).Φ 0 := by
  rw [show (dats m 0 c).Φ 0 = Inv m c 0 (Nat.zero_le _) from rfl]
  exact Idealize.SL.BI.Entails.refl _

theorem leave (c : Dev nD) : (dats m 0 c).Φ (Fin.last cfg0.N) ⊢ Pipeline.ΦA spec0 c := by
  rw [show (dats m 0 c).Φ (Fin.last cfg0.N) = Inv m c cfg0.N (Nat.le_refl _) from rfl, launch_inv]
  exact Inv_forget m c _ _

set_option backward.isDefEq.respectTransparency.types false in
/-- The launch: the arrays end at what the blocks say, and the counters at zero. -/
theorem run_main_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; split <;> rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiet m ρ)

/-- The frame: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiet m ρ))

end Cert.InProjIdeal.Hand

end
-- ==== Proof.InProjClaim.lean ====
module
public import proofs.«01_k».proof.Defs
public import proofs.«01_k».proof.Proof.InProjIdealFrame
public import proofs.«01_k».proof.Proof.Gen.InProjReferenceIdeal.Run
public import proofs.«01_k».proof.Proof.Gen.InProjReferenceIdeal.Read
public import Idealize.ShloMosaic.Lib.Pointwise

/-! The input projection: both results of the launch are the reference's. -/

@[expose] public section

set_option maxRecDepth 16384

noncomputable section

namespace Cert.InProjClaims

open Idealize.ShloMosaic Idealize.ShloMosaic.TcCoe Idealize.SL.Sem
open Cert.InProjReferenceIdeal.Read

/-- A row scaled to unit mean square, times the gain. -/
def unit (y gain : Fin 2048 → EReal) (l : Fin 2048) : EReal :=
  y l * Ideal.rsqrt (Ideal.div (∑ k, y k * y k) (Ideal.ofBits .f32 0x45000000#32) + Ideal.ofBits .f32 0x358637BD#32) * gain l

section
open Cert.InProjIdeal Cert.InProjIdeal.Gen

theorem rows_apply (x : Vec Ideal S1024x2048 .f32) (gain : Vec Ideal S1x2048 .f32) (r : Fin 1024) (l : Fin 2048) :
    k0_pay2 x gain (ix2 r l) = unit (fun k => x (ix2 r k)) (fun k => gain (ix2 0 k)) l := by
  pointwise [k0_pay2, k0_pay1]
  rfl

theorem wide_apply (h : Vec Ideal S1024x2048 .bf16) (w : Vec Ideal S1x2048x2048 .bf16) (r : Fin 1024) (l : Fin 2048) :
    k0_pay4 h w (ix2 r l) = ∑ k : Fin 2048, (h (ix2 r k) * w (ix3 0 l k) : EReal) := by
  pointwise [k0_pay4]

theorem narrow_apply (x : Vec Ideal S1024x2048 .f32) (gain : Vec Ideal S1x2048 .f32) (w : Vec Ideal S1x128x2048 .bf16) (r : Fin 1024) (l : Fin 128) :
    k0_pay3 x gain w (ix2 r l) = ∑ k : Fin 2048, (unit (fun k => x (ix2 r k)) (fun k => gain (ix2 0 k)) k * w (ix3 0 l k) : EReal) := by
  pointwise [k0_pay3, k0_pay1]
  rfl
end

theorem ref_wide (x0 : Vec Ideal InProjReferenceIdeal.S16384x2048 .f32) (x1 : Vec Ideal InProjReferenceIdeal.S2048 .f32)
    (x2 : Vec Ideal InProjReferenceIdeal.S2x12288x2048 .bf16) (r : Fin 16384) (l : Fin 12288) :
    val_main_v18 (F := Ideal) x0 x1 x2 (ix2 r l)
      = ∑ k : Fin 2048, (unit (fun k => x0 (ix2 r k)) (fun k => x1 (ix1 k)) k * x2 (ix3 0 l k) : EReal) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_narrow (x0 : Vec Ideal InProjReferenceIdeal.S16384x2048 .f32) (x1 : Vec Ideal InProjReferenceIdeal.S2048 .f32)
    (x3 : Vec Ideal InProjReferenceIdeal.S2x128x2048 .bf16) (r : Fin 16384) (l : Fin 128) :
    val_main_v23 (F := Ideal) x0 x1 x3 (ix2 r l)
      = ∑ k : Fin 2048, (unit (fun k => x0 (ix2 r k)) (fun k => x1 (ix1 k)) k * x3 (ix3 0 l k) : EReal) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

section Launch
open Cert.InProjIdeal Cert.InProjIdeal.Gen Cert.InProjIdeal.Hand

variable (m : (ℓ : Loc nD τ sig) → Buf (Elt Ideal) ℓ)

theorem V_v0 (c : Dev nD) (k : Fin 2048) : V m c main_v0 (ix2 0 k) = m ((c : Thread nD τ).loc main_arg1) (ix1 k) := by
  have h : V m c main_v0 = broadcastInDim S1x2048 ![1] bcast_S2048_S1x2048_1 (m ((c : Thread nD τ).loc main_arg1)) := by
    unfold_abbrev_sides
    after_results
  rw [h]
  pointwise

theorem e2 : ∀ t : Fin cfg0.N, win0_2.index t = ![0, t.val % 6, 0] := (by decide +kernel : ∀ t : Fin grid0.N, win0_2.index t = ![0, t.val % 6, 0])
theorem e4 : ∀ t : Fin cfg0.N, win0_4.index t = ![t.val / 6, t.val % 6] := (by decide +kernel : ∀ t : Fin grid0.N, win0_4.index t = ![t.val / 6, t.val % 6])
theorem e5 : ∀ t : Fin cfg0.N, win0_5.index t = ![t.val / 6, 0] := (by decide +kernel : ∀ t : Fin grid0.N, win0_5.index t = ![t.val / 6, 0])

theorem x_eq (c : Dev nD) (t : Fin cfg0.N) (r : Fin 1024) (hr : t.val / 6 * 1024 + r.val < 16384) (k : Fin 2048) :
    iblk m c 0 t (ix2 r k) = m ((c : Thread nD τ).loc main_arg0) (ix2 (⟨t.val / 6 * 1024 + r.val, hr⟩ : Fin 16384) k) := by
  blk_simp [iblk]
  exact congrArg _ (by blk_ext [e0])

theorem gain_eq (c : Dev nD) (t : Fin cfg0.N) (k : Fin 2048) : iblk m c 1 t (ix2 0 k) = m ((c : Thread nD τ).loc main_arg1) (ix1 k) := by
  rw [← V_v0 m c]
  blk_simp [iblk]
  exact congrArg (V m c main_v0) (by blk_ext [e1])

/-- The wide projection, -/
theorem final_wide (c : Dev nD) :
    (dats m 0 c).arrAt 4 cfg0.N
      = val_main_v18 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after4]
  have hy : ∃ (r : Fin 1024) (l : Fin 2048), y = ix2 r l := ⟨y 0, y 1, funext fun a => by fin_cases a <;> rfl⟩
  obtain ⟨r, l, rfl⟩ := hy
  have ht : t.val < 96 := t.isLt
  have hr : t.val / 6 * 1024 + r.val < 16384 := by omega
  have he : (win0_4.blk t).view.emb (ix2 r l) = ix2 (⟨t.val / 6 * 1024 + r.val, hr⟩ : Fin 16384) (⟨t.val % 6 * 2048 + l.val, by omega⟩ : Fin 12288) := by blk_ext [e4]
  rw [he, ref_wide]
  unfold zval
  refine (wide_apply _ _ r l).trans (Finset.sum_congr rfl fun k _ => ?_)
  have hw : iblk m c 2 t (ix3 0 l k) = m ((c : Thread nD τ).loc main_arg2) (ix3 (0 : Fin 2) (⟨t.val % 6 * 2048 + l.val, by omega⟩ : Fin 12288) k) := by
    blk_simp [iblk]
    exact congrArg _ (by blk_ext [e2])
  unfold hval
  rw [hw, rows_apply, funext (x_eq m c t r hr), funext (gain_eq m c t)]

/-- and the narrow one. -/
theorem final_narrow (c : Dev nD) :
    (dats m 0 c).arrAt 5 cfg0.N
      = val_main_v23 (F := Ideal) (m ((c : Thread nD τ).loc main_arg0)) (m ((c : Thread nD τ).loc main_arg1)) (m ((c : Thread nD τ).loc main_arg3)) := by
  refine (dats m 0 c).arrAt_eq_of_covers 5 _ (by decide +kernel) fun t hf y => ?_
  blk_simp
  rw [after5]
  have hy : ∃ (r : Fin 1024) (l : Fin 128), y = ix2 r l := ⟨y 0, y 1, funext fun a => by fin_cases a <;> rfl⟩
  obtain ⟨r, l, rfl⟩ := hy
  have ht : t.val < 96 := t.isLt
  have hr : t.val / 6 * 1024 + r.val < 16384 := by omega
  have he : (win0_5.blk t).view.emb (ix2 r l) = ix2 (⟨t.val / 6 * 1024 + r.val, hr⟩ : Fin 16384) l := by blk_ext [e5]
  rw [he, ref_narrow]
  unfold sval
  refine (narrow_apply _ _ _ r l).trans (Finset.sum_congr rfl fun k _ => ?_)
  have hw : iblk m c 3 t (ix3 0 l k) = m ((c : Thread nD τ).loc main_arg3) (ix3 (0 : Fin 2) l k) := by
    blk_simp [iblk]
    exact congrArg _ (by blk_ext [e3])
  rw [hw, funext (x_eq m c t r hr), funext (gain_eq m c t)]

/-- The launch, with the arrays its blocks leave. -/
theorem run_blocks (ρ : Dev nD → PrngReg) :
    θ_run defs (onTc (τ := τ) (main (F := Ideal))) ⟨m, fun _ => 0, ρ⟩ (fun r => ∀ c : Dev nD,
      r.2.mem ((c.tc : Thread nD τ).loc main_v1_0) = (dats m 0 c).arrAt 4 cfg0.N
      ∧ r.2.mem ((c.tc : Thread nD τ).loc main_v1_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, h.2 c⟩)
    (θ_run_and (run_main m ρ) (frame_of m ρ (dats m) (A_eq m) (run_main m ρ)))

theorem algebraic : Cert.algebraic_InProjIdeal_InProjReferenceIdeal := by
  intro m ρ m' ρ' _ hagree
  refine ⟨fun c => (dats m 0 c).arrAt 4 cfg0.N, fun c => (dats m 0 c).arrAt 5 cfg0.N, run_blocks m ρ, ?_⟩
  refine (θ_run Cert.InProjReferenceIdeal.defs _ _).mono (fun _ h c => ⟨(h c).1.trans ?_, (h c).2.1.trans ?_, (h c).2.2⟩)
    (Cert.InProjReferenceIdeal.Value.run (F := Ideal) m' ρ')
  · obtain ⟨h0, h1, h2, h3⟩ := hagree c
    rw [val_main_v18_eq, h0, h1, h2]
    exact (final_wide m c).symm
  · obtain ⟨h0, h1, h2, h3⟩ := hagree c
    rw [val_main_v23_eq, h0, h1, h3]
    exact (final_narrow m c).symm

end Launch

end Cert.InProjClaims

end
-- ==== Proof.InProjLastIdealFrame.lean ====
module
public import proofs.«01_k».proof.Proof.Gen.InProjLastIdeal.Frame
public import proofs.«01_k».proof.Proof.Gen.InProjLastIdeal.Skeleton
public import Idealize.ShloMosaic.Lib.ValueLayout
public import Idealize.ShloMosaic.Lib.Pipeline.ValueKit.Geometry
public import Idealize.ShloMosaic.Lib.Pipeline.Value
public import Idealize.ShloMosaic.Lib.Pipeline.TableIdle
public import Idealize.ShloMosaic.Lib.Claim
public import Idealize.ShloMosaic.Lib.Pointwise

/-! The input projection of the last layer: what the body leaves at each point, and the run of the launch.

The grid is 16 blocks of rows by 6 blocks of columns. At the first column of a row block the body normalises the rows into
its scratch and stores the narrow projection; at every column it multiplies the scratch with a block of the wide weight. -/

@[expose] public section

set_option maxRecDepth 16384

noncomputable section

namespace Cert.InProjLastIdeal.Hand

open Cert.InProjLastIdeal Cert.InProjLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one store of a whole view leaves, -/
theorem stored {S : Shape} {e : EltTy} (v : View sig .tc .vmem S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- and what a load of a whole view reads. -/
theorem loaded {S : Shape} {e : EltTy} (v : Memref sig .tc .vmem S e) (hv : v.IsWhole) {off : Fin S.rank → Nat} (h : off = fun _ => 0)
    (inb : ∀ a, off a + S.size a ≤ S.size a) (x : S.Idx → Elt F e) :
    View.readAt (Elt F) v.view (Rect.unit off S.size inb).toLoadRect (hv.unread x) = x := by
  rw [View.readAt_eq_ld, hv.read_unread, View.ld_unit_zero h]

/-- The body's branch is taken at the first column. -/
theorem first_iff : ∀ t : Fin cfg0.N, k0_cond1 (grid0.coords t) = 1#1 ↔ t.val % 6 = 0 :=
  (by decide +kernel : ∀ t : Fin grid0.N, k0_cond1 (grid0.coords t) = 1#1 ↔ t.val % 6 = 0)

theorem e0 : ∀ t : Fin cfg0.N, win0_0.index t = ![t.val / 6, 0] := (by decide +kernel : ∀ t : Fin grid0.N, win0_0.index t = ![t.val / 6, 0])
theorem e1 : ∀ t : Fin cfg0.N, win0_1.index t = ![0, 0] := (by decide +kernel : ∀ t : Fin grid0.N, win0_1.index t = ![0, 0])
theorem e3 : ∀ t : Fin cfg0.N, win0_3.index t = ![1, 0, 0] := (by decide +kernel : ∀ t : Fin grid0.N, win0_3.index t = ![1, 0, 0])

theorem zero2 : (![0, 0] : Fin 2 → Nat) = fun _ => 0 := funext fun a => by fin_cases a <;> rfl
theorem zero3 : (![0, 0, 0] : Fin 3 → Nat) = fun _ => 0 := funext fun a => by fin_cases a <;> rfl

theorem iblk0_eq (c : Dev nD) (t t' : Fin cfg0.N) (h : t.val / 6 = t'.val / 6) :
    (iblk m c 0 t : Vec F S1024x2048 .f32) = iblk m c 0 t' := funext fun y => by
  have hy : ∃ (r : Fin 1024) (l : Fin 2048), y = ix2 r l := ⟨y 0, y 1, funext fun a => by fin_cases a <;> rfl⟩
  obtain ⟨r, l, rfl⟩ := hy
  have ht : t'.val < 96 := t'.isLt
  have key : ∀ s : Fin cfg0.N, s.val / 6 = t'.val / 6 →
      iblk m c 0 s (ix2 r l) = V m c main_arg0 (ix2 (⟨t'.val / 6 * 1024 + r.val, by omega⟩ : Fin 16384) l) := fun s hs => by
    blk_simp [iblk]
    exact congrArg (V m c main_arg0) (by blk_ext [e0, hs])
  rw [key t h, key t' rfl]

theorem iblk1_eq (c : Dev nD) (t t' : Fin cfg0.N) : (iblk m c 1 t : Vec F S1x2048 .f32) = iblk m c 1 t' := funext fun y => by
  have hy : ∃ (r : Fin 1) (l : Fin 2048), y = ix2 r l := ⟨y 0, y 1, funext fun a => by fin_cases a <;> rfl⟩
  obtain ⟨r, l, rfl⟩ := hy
  have key : ∀ s : Fin cfg0.N, iblk m c 1 s (ix2 r l) = V m c main_v0 (ix2 r l) := fun s => by
    blk_simp [iblk]
    exact congrArg (V m c main_v0) (by blk_ext [e1])
  rw [key t, key t']

theorem iblk3_eq (c : Dev nD) (t t' : Fin cfg0.N) : (iblk m c 3 t : Vec F S1x128x2048 .bf16) = iblk m c 3 t' := funext fun y => by
  have hy : ∃ (g : Fin 1) (r : Fin 128) (l : Fin 2048), y = ix3 g r l := ⟨y 0, y 1, y 2, funext fun a => by fin_cases a <;> rfl⟩
  obtain ⟨g, r, l, rfl⟩ := hy
  have hg : g = 0 := Subsingleton.elim _ _
  subst hg
  have key : ∀ s : Fin cfg0.N, iblk m c 3 s (ix3 0 r l) = V m c main_arg3 (ix3 1 r l) := fun s => by
    blk_simp [iblk]
    exact congrArg (V m c main_arg3) (by blk_ext [e3])
  rw [key t, key t']

/-- The normalised rows of point `t`'s block, -/
def hval (c : Dev nD) (t : Fin cfg0.N) : Vec F S1024x2048 .bf16 := k0_pay2 (iblk m c 0 t) (iblk m c 1 t)
/-- its block of the wide projection, -/
def zval (c : Dev nD) (t : Fin cfg0.N) : Vec F S1024x2048 .bf16 := k0_pay4 (hval m c t) (iblk m c 2 t)
/-- and of the narrow one. -/
def sval (c : Dev nD) (t : Fin cfg0.N) : Vec F S1024x128 .f32 := k0_pay3 (iblk m c 0 t) (iblk m c 1 t) (iblk m c 3 t)

theorem hval_eq (c : Dev nD) (t t' : Fin cfg0.N) (h : t.val / 6 = t'.val / 6) : hval m c t = hval m c t' := by
  unfold hval; rw [iblk0_eq m c t t' h, iblk1_eq m c t t']
theorem sval_eq (c : Dev nD) (t t' : Fin cfg0.N) (h : t.val / 6 = t'.val / 6) : sval m c t = sval m c t' := by
  unfold sval; rw [iblk0_eq m c t t' h, iblk1_eq m c t t', iblk3_eq m c t t']

abbrev scr : Memref sig .tc .vmem S1024x2048 .bf16 := Memref.whole cc0_scratch0

theorem launch_inv (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; rfl

set_option maxHeartbeats 1000000 in
/-- The body at a first column. -/
theorem run_first (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x2048x2048 .bf16) (harg4 : arg4.IsWhole) (arg5 : Memref sig .tc .vmem S1x128x2048 .bf16) (harg5 : arg5.IsWhole)
    (arg6 : Memref sig .tc .vmem S1024x2048 .bf16) (harg6 : arg6.IsWhole) (arg7 : Memref sig .tc .vmem S1024x128 .f32) (harg7 : arg7.IsWhole)
    (arg8 : Memref sig .tc .vmem S1024x2048 .bf16) (harg8 : arg8.IsWhole) (hc0 : k0_cond1 i = 1#1)
    (x0 : Vec F S1024x2048 .f32) (x1 : Vec F S1x2048 .f32) (x2 : Vec F S1x2048x2048 .bf16) (x3 : Vec F S1x128x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 (k0_pay2 x0 x1) x2) ∗ owns (c : Thread nD τ) arg7 fullShare (k0_pay3 x0 x1 x3)
            ∗ owns (c : Thread nD τ) arg8 fullShare (k0_pay2 x0 x1)) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [stored _ _ zero2]
    sl_unfold_words
    rw [View.readCov_unit_zero _ zero2, loaded arg2 harg2 zero2, loaded arg3 harg3 zero2, loaded arg4 harg4 zero3]
  isplitl [H5]
  · iexists _; isplitr
    swap; · iexact H5
    ipureintro
    rw [stored _ _ zero2]
    sl_unfold_words
    rw [loaded arg2 harg2 zero2, loaded arg3 harg3 zero2, loaded arg5 harg5 zero3]
  iexists _; isplitr
  swap; · iexact H6
  ipureintro
  sl_unfold_words
  rw [stored _ _ zero2, loaded arg2 harg2 zero2, loaded arg3 harg3 zero2]

set_option maxHeartbeats 1000000 in
/-- The body at a later column: the scratch and the narrow block stay. -/
theorem run_later (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x2048x2048 .bf16) (harg4 : arg4.IsWhole) (arg5 : Memref sig .tc .vmem S1x128x2048 .bf16) (harg5 : arg5.IsWhole)
    (arg6 : Memref sig .tc .vmem S1024x2048 .bf16) (harg6 : arg6.IsWhole) (arg7 : Memref sig .tc .vmem S1024x128 .f32) (harg7 : arg7.IsWhole)
    (arg8 : Memref sig .tc .vmem S1024x2048 .bf16) (harg8 : arg8.IsWhole) (hc0 : ¬k0_cond1 i = 1#1)
    (x2 : Vec F S1x2048x2048 .bf16) (h : Vec F S1024x2048 .bf16) (K : PUnit → sProp 𝕄) :
    iprop(owns (c : Thread nD τ) arg4 fullShare x2 ∗ (∃ d, owns (c : Thread nD τ) arg6 fullShare d) ∗ owns (c : Thread nD τ) arg8 fullShare h
        ∗ (iprop(owns (c : Thread nD τ) arg4 fullShare x2 ∗ owns (c : Thread nD τ) arg6 fullShare (k0_pay4 h x2)
            ∗ owns (c : Thread nD τ) arg8 fullShare h) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f2, %hf2, H2⟩, ⟨%d4, %f4, -, H4⟩, ⟨%f6, %hf6, H6⟩, Hk⟩
  obtain rfl := harg4.eq_unread hf2; obtain rfl := harg8.eq_unread hf6
  sl_exec (disch := first | sl_exact hc0)
  sl_step
  iapply Hk
  isplitl [H2]
  · iexists _; isplitr; · ipureintro; exact harg4.read_unread _
    iexact H2
  isplitl [H4]
  · iexists _; isplitr
    swap; · iexact H4
    ipureintro
    rw [stored _ _ zero2]
    sl_unfold_words
    rw [loaded arg8 harg8 zero2, loaded arg4 harg4 zero3]
  iexists _; isplitr
  swap; · iexact H6
  ipureintro; exact harg8.read_unread _

/-- What the scratch holds before position `n`: anything before the first point, the rows' normalisation afterwards. -/
def Inv (c : Dev nD) : (n : ℕ) → n ≤ cfg0.N → sProp 𝕄
  | 0, _ => Pipeline.ΦA spec0 c
  | n + 1, hn => iprop(owns (c : Thread nD τ) scr fullShare (hval m c ⟨n, hn⟩) ∗ (∃ r, prngReg c r))

theorem Inv_forget (c : Dev nD) : (n : ℕ) → (hn : n ≤ cfg0.N) → Inv m c n hn ⊢ iprop((∃ d, owns (c : Thread nD τ) scr fullShare d) ∗ (∃ r, prngReg c r))
  | 0, _ => by
    show Pipeline.ΦA spec0 c ⊢ _
    rw [launch_inv]
    try exact Idealize.SL.BI.Entails.refl _
  | n + 1, hn => by
    show iprop(owns (c : Thread nD τ) scr fullShare (hval m c ⟨n, hn⟩) ∗ (∃ r, prngReg c r)) ⊢ _
    iintro ⟨H, Hg⟩
    isplitl [H]
    · iexists _; iexact H
    iexact Hg

theorem Inv_later (c : Dev nD) (t : Fin cfg0.N) (h0 : t.val % 6 ≠ 0) :
    Inv m c t.val (Nat.le_of_lt t.isLt) = iprop(owns (c : Thread nD τ) scr fullShare (hval m c t) ∗ (∃ r, prngReg c r)) := by
  obtain ⟨n, hn⟩ := t
  cases n with
  | zero => exact absurd rfl h0
  | succ n =>
    have e : hval m c ⟨n + 1, hn⟩ = hval m c ⟨n, Nat.lt_of_succ_lt hn⟩ := hval_eq m c _ _ (by
      show (n + 1) / 6 = n / 6
      have : (n + 1) % 6 ≠ 0 := h0
      omega)
    rw [e]; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => zval m c t
    | ⟨5, _⟩ => sval m c t
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = zval m c t := by dsimp only [dats]
theorem after5 (c : Dev nD) (t : Fin cfg0.N) : (dats m 0 c).after 5 t = sval m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The narrow block's buffer holds nothing of the body's only where a row block begins. -/
theorem fresh5 (n : ℕ) (h : n ≤ cfg0.N) : cfg0.fresh 5 n = decide (n % 6 = 0) :=
  cfg0.fresh_tab 5 (fun n => decide (n % 6 = 0)) rfl
    (by decide +kernel : ∀ t : Fin grid0.N, decide ((t.val + 1) % 6 = 0) = ((cfg0.win 5).flush t || (cfg0.idle 5 (cfg0.grid.coords t) && decide (t.val % 6 = 0)))) n h

/-- It is written back at a row block's last column only: before that its buffer keeps what the first left. -/
theorem before5 (c : Dev nD) (t : Fin cfg0.N) (h0 : t.val % 6 ≠ 0) (d) : (dats m 0 c).before 5 t d = sval m c t := by
  rw [Pipeline.Dat.before_out_traj (dats m 0 c) 5 rfl (fun _ _ => rfl) (fun s hs hi hf => by
      rw [fresh5 _ (Nat.le_of_lt s.isLt)] at hf
      have h6 : s.val % 6 ≠ 0 := of_decide_eq_false hf
      rw [after5, after5]
      exact sval_eq m c _ _ (by show s.val / 6 = (s.val - 1) / 6; omega)) t.val t rfl d,
    fresh5 _ (Nat.le_of_lt t.isLt), decide_eq_false h0, if_neg Bool.false_ne_true, after5]
  exact sval_eq m c _ _ (by show (t.val - 1) / 6 = t.val / 6; omega)

/-- What the obligation asks of the narrow block's buffer after a point: where the body passes it by, what it held. -/
def post5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem idle5 : ∀ t : Fin cfg0.N, cfg0.idle 5 (cfg0.grid.coords t) = true → t.val % 6 ≠ 0 :=
  (by decide +kernel : ∀ t : Fin grid0.N, cfg0.idle 5 (cfg0.grid.coords t) = true → t.val % 6 ≠ 0)

theorem post5_of (c : Dev nD) (t : Fin cfg0.N) : owns (c : Thread nD τ) (st0_5 t) fullShare (sval m c t) ⊢ post5 m c t := by
  unfold post5
  cases hi : cfg0.idle 5 (cfg0.grid.coords t)
  · show _ ⊢ owns (c : Thread nD τ) (st0_5 t) fullShare ((dats m 0 c).after 5 t)
    rw [after5]
  · cases hf : (cfg0.win 5).flush t
    · show _ ⊢ iprop(∃ d, owns (c : Thread nD τ) (st0_5 t) fullShare ((dats m 0 c).before 5 t d))
      simp only [before5 m c t (idle5 t hi)]
      iintro H
      iexists (sval m c t); iexact H
    · show _ ⊢ owns (c : Thread nD τ) (st0_5 t) fullShare ((dats m 0 c).after 5 t)
      rw [after5]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem Inv_succ (c : Dev nD) (t : Fin cfg0.N) :
    (dats m 0 c).Φ t.succ = iprop(owns (c : Thread nD τ) scr fullShare (hval m c t) ∗ (∃ r, prngReg c r)) := rfl

/-- What the body is called with at a point, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ post5 m c t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Inv_succ, Inv_castSucc, after0, after1, after2, after3, after4]
  simp only [before0, before1, before2, before3]
  unfold Dat.owesAt Pipeline.owesWithin
  rw [show (dats m 0 c).owed t.castSucc = 0 from rfl, show (dats m 0 c).owed t.succ = 0 from rfl]
  by_cases h0 : t.val % 6 = 0
  · iintro ⟨HI, HW, ⟨%d0, H0⟩, ⟨%d1, H1⟩, ⟨%d2, H2⟩, ⟨%d3, H3⟩, ⟨%d4, H4⟩, ⟨%d5, H5⟩⟩
    icases (Inv_forget m c t.val (Nat.le_of_lt t.isLt)) $$ HI with ⟨HS, Hg⟩
    iapply (run_first c (grid0.coords t) _ _ _ _ _ _ _ _ _ _ _ _ _ _ ((first_iff t).mpr h0) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [HW]; · iexact HW
    isplitl [H0]; · iexact H0
    isplitl [H1]; · iexact H1
    isplitl [H2]; · iexact H2
    isplitl [H3]; · iexact H3
    isplitl [H4]; · iexact H4
    iapply (post5_of m c t); iexact H5
  · rw [Inv_later m c t h0]
    simp only [before5 m c t h0]
    iintro ⟨⟨HS, Hg⟩, HW, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => h0 ((first_iff t).mp h)) (iblk m c 2 t) (hval m c t) _)
    isplitl [H2]; · iexact H2
    isplitl [H4]; · iexists _; iexact H4
    isplitl [HS]; · iexact HS
    iintro ⟨H2, H4, HS⟩
    isplitl [HS Hg]
    · isplitl [HS]; · iexact HS
      iexact Hg
    isplitl [HW]; · iexact HW
    isplitl [H0]; · iexact H0
    isplitl [H1]; · iexact H1
    isplitl [H2]; · iexact H2
    isplitl [H3]; · iexact H3
    isplitl [H4]; · iexact H4
    iapply (post5_of m c t); iexact H5

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦA spec0 c ⊢ (dats m 0 c).Φ 0 := by
  rw [show (dats m 0 c).Φ 0 = Inv m c 0 (Nat.zero_le _) from rfl]
  exact Idealize.SL.BI.Entails.refl _

theorem leave (c : Dev nD) : (dats m 0 c).Φ (Fin.last cfg0.N) ⊢ Pipeline.ΦA spec0 c := by
  rw [show (dats m 0 c).Φ (Fin.last cfg0.N) = Inv m c cfg0.N (Nat.le_refl _) from rfl, launch_inv]
  exact Inv_forget m c _ _

set_option backward.isDefEq.respectTransparency.types false in
/-- The launch: the arrays end at what the blocks say, and the counters at zero. -/
theorem run_main_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; split <;> rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiet m ρ)

/-- The frame: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiet m ρ))

end Cert.InProjLastIdeal.Hand

end
-- ==== Proof.InProjLastClaim.lean ====
module
public import proofs.«01_k».proof.Defs
public import proofs.«01_k».proof.Proof.InProjLastIdealFrame
public import proofs.«01_k».proof.Proof.Gen.InProjLastReferenceIdeal.Run
public import proofs.«01_k».proof.Proof.Gen.InProjLastReferenceIdeal.Read
public import Idealize.ShloMosaic.Lib.Pointwise

/-! The input projection of the last layer: both results of the launch are the reference's. -/

@[expose] public section

set_option maxRecDepth 16384

noncomputable section

namespace Cert.InProjLastClaims

open Idealize.ShloMosaic Idealize.ShloMosaic.TcCoe Idealize.SL.Sem
open Cert.InProjLastReferenceIdeal.Read

/-- A row scaled to unit mean square, times the gain. -/
def unit (y gain : Fin 2048 → EReal) (l : Fin 2048) : EReal :=
  y l * Ideal.rsqrt (Ideal.div (∑ k, y k * y k) (Ideal.ofBits .f32 0x45000000#32) + Ideal.ofBits .f32 0x358637BD#32) * gain l

section
open Cert.InProjLastIdeal Cert.InProjLastIdeal.Gen

theorem rows_apply (x : Vec Ideal S1024x2048 .f32) (gain : Vec Ideal S1x2048 .f32) (r : Fin 1024) (l : Fin 2048) :
    k0_pay2 x gain (ix2 r l) = unit (fun k => x (ix2 r k)) (fun k => gain (ix2 0 k)) l := by
  pointwise [k0_pay2, k0_pay1]
  rfl

theorem wide_apply (h : Vec Ideal S1024x2048 .bf16) (w : Vec Ideal S1x2048x2048 .bf16) (r : Fin 1024) (l : Fin 2048) :
    k0_pay4 h w (ix2 r l) = ∑ k : Fin 2048, (h (ix2 r k) * w (ix3 0 l k) : EReal) := by
  pointwise [k0_pay4]

theorem narrow_apply (x : Vec Ideal S1024x2048 .f32) (gain : Vec Ideal S1x2048 .f32) (w : Vec Ideal S1x128x2048 .bf16) (r : Fin 1024) (l : Fin 128) :
    k0_pay3 x gain w (ix2 r l) = ∑ k : Fin 2048, (unit (fun k => x (ix2 r k)) (fun k => gain (ix2 0 k)) k * w (ix3 0 l k) : EReal) := by
  pointwise [k0_pay3, k0_pay1]
  rfl
end

theorem ref_wide (x0 : Vec Ideal InProjLastReferenceIdeal.S16384x2048 .f32) (x1 : Vec Ideal InProjLastReferenceIdeal.S2048 .f32)
    (x2 : Vec Ideal InProjLastReferenceIdeal.S2x12288x2048 .bf16) (r : Fin 16384) (l : Fin 12288) :
    val_main_v18 (F := Ideal) x0 x1 x2 (ix2 r l)
      = ∑ k : Fin 2048, (unit (fun k => x0 (ix2 r k)) (fun k => x1 (ix1 k)) k * x2 (ix3 1 l k) : EReal) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_narrow (x0 : Vec Ideal InProjLastReferenceIdeal.S16384x2048 .f32) (x1 : Vec Ideal InProjLastReferenceIdeal.S2048 .f32)
    (x3 : Vec Ideal InProjLastReferenceIdeal.S2x128x2048 .bf16) (r : Fin 16384) (l : Fin 128) :
    val_main_v23 (F := Ideal) x0 x1 x3 (ix2 r l)
      = ∑ k : Fin 2048, (unit (fun k => x0 (ix2 r k)) (fun k => x1 (ix1 k)) k * x3 (ix3 1 l k) : EReal) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

section Launch
open Cert.InProjLastIdeal Cert.InProjLastIdeal.Gen Cert.InProjLastIdeal.Hand

variable (m : (ℓ : Loc nD τ sig) → Buf (Elt Ideal) ℓ)

theorem V_v0 (c : Dev nD) (k : Fin 2048) : V m c main_v0 (ix2 0 k) = m ((c : Thread nD τ).loc main_arg1) (ix1 k) := by
  have h : V m c main_v0 = broadcastInDim S1x2048 ![1] bcast_S2048_S1x2048_1 (m ((c : Thread nD τ).loc main_arg1)) := by
    unfold_abbrev_sides
    after_results
  rw [h]
  pointwise

theorem e2 : ∀ t : Fin cfg0.N, win0_2.index t = ![1, t.val % 6, 0] := (by decide +kernel : ∀ t : Fin grid0.N, win0_2.index t = ![1, t.val % 6, 0])
theorem e4 : ∀ t : Fin cfg0.N, win0_4.index t = ![t.val / 6, t.val % 6] := (by decide +kernel : ∀ t : Fin grid0.N, win0_4.index t = ![t.val / 6, t.val % 6])
theorem e5 : ∀ t : Fin cfg0.N, win0_5.index t = ![t.val / 6, 0] := (by decide +kernel : ∀ t : Fin grid0.N, win0_5.index t = ![t.val / 6, 0])

theorem x_eq (c : Dev nD) (t : Fin cfg0.N) (r : Fin 1024) (hr : t.val / 6 * 1024 + r.val < 16384) (k : Fin 2048) :
    iblk m c 0 t (ix2 r k) = m ((c : Thread nD τ).loc main_arg0) (ix2 (⟨t.val / 6 * 1024 + r.val, hr⟩ : Fin 16384) k) := by
  blk_simp [iblk]
  exact congrArg _ (by blk_ext [e0])

theorem gain_eq (c : Dev nD) (t : Fin cfg0.N) (k : Fin 2048) : iblk m c 1 t (ix2 0 k) = m ((c : Thread nD τ).loc main_arg1) (ix1 k) := by
  rw [← V_v0 m c]
  blk_simp [iblk]
  exact congrArg (V m c main_v0) (by blk_ext [e1])

/-- The wide projection, -/
theorem final_wide (c : Dev nD) :
    (dats m 0 c).arrAt 4 cfg0.N
      = val_main_v18 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after4]
  have hy : ∃ (r : Fin 1024) (l : Fin 2048), y = ix2 r l := ⟨y 0, y 1, funext fun a => by fin_cases a <;> rfl⟩
  obtain ⟨r, l, rfl⟩ := hy
  have ht : t.val < 96 := t.isLt
  have hr : t.val / 6 * 1024 + r.val < 16384 := by omega
  have he : (win0_4.blk t).view.emb (ix2 r l) = ix2 (⟨t.val / 6 * 1024 + r.val, hr⟩ : Fin 16384) (⟨t.val % 6 * 2048 + l.val, by omega⟩ : Fin 12288) := by blk_ext [e4]
  rw [he, ref_wide]
  unfold zval
  refine (wide_apply _ _ r l).trans (Finset.sum_congr rfl fun k _ => ?_)
  have hw : iblk m c 2 t (ix3 0 l k) = m ((c : Thread nD τ).loc main_arg2) (ix3 (1 : Fin 2) (⟨t.val % 6 * 2048 + l.val, by omega⟩ : Fin 12288) k) := by
    blk_simp [iblk]
    exact congrArg _ (by blk_ext [e2])
  unfold hval
  rw [hw, rows_apply, funext (x_eq m c t r hr), funext (gain_eq m c t)]

/-- and the narrow one. -/
theorem final_narrow (c : Dev nD) :
    (dats m 0 c).arrAt 5 cfg0.N
      = val_main_v23 (F := Ideal) (m ((c : Thread nD τ).loc main_arg0)) (m ((c : Thread nD τ).loc main_arg1)) (m ((c : Thread nD τ).loc main_arg3)) := by
  refine (dats m 0 c).arrAt_eq_of_covers 5 _ (by decide +kernel) fun t hf y => ?_
  blk_simp
  rw [after5]
  have hy : ∃ (r : Fin 1024) (l : Fin 128), y = ix2 r l := ⟨y 0, y 1, funext fun a => by fin_cases a <;> rfl⟩
  obtain ⟨r, l, rfl⟩ := hy
  have ht : t.val < 96 := t.isLt
  have hr : t.val / 6 * 1024 + r.val < 16384 := by omega
  have he : (win0_5.blk t).view.emb (ix2 r l) = ix2 (⟨t.val / 6 * 1024 + r.val, hr⟩ : Fin 16384) l := by blk_ext [e5]
  rw [he, ref_narrow]
  unfold sval
  refine (narrow_apply _ _ _ r l).trans (Finset.sum_congr rfl fun k _ => ?_)
  have hw : iblk m c 3 t (ix3 0 l k) = m ((c : Thread nD τ).loc main_arg3) (ix3 (1 : Fin 2) l k) := by
    blk_simp [iblk]
    exact congrArg _ (by blk_ext [e3])
  rw [hw, funext (x_eq m c t r hr), funext (gain_eq m c t)]

/-- The launch, with the arrays its blocks leave. -/
theorem run_blocks (ρ : Dev nD → PrngReg) :
    θ_run defs (onTc (τ := τ) (main (F := Ideal))) ⟨m, fun _ => 0, ρ⟩ (fun r => ∀ c : Dev nD,
      r.2.mem ((c.tc : Thread nD τ).loc main_v1_0) = (dats m 0 c).arrAt 4 cfg0.N
      ∧ r.2.mem ((c.tc : Thread nD τ).loc main_v1_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, h.2 c⟩)
    (θ_run_and (run_main m ρ) (frame_of m ρ (dats m) (A_eq m) (run_main m ρ)))

theorem algebraic : Cert.algebraic_InProjLastIdeal_InProjLastReferenceIdeal := by
  intro m ρ m' ρ' _ hagree
  refine ⟨fun c => (dats m 0 c).arrAt 4 cfg0.N, fun c => (dats m 0 c).arrAt 5 cfg0.N, run_blocks m ρ, ?_⟩
  refine (θ_run Cert.InProjLastReferenceIdeal.defs _ _).mono (fun _ h c => ⟨(h c).1.trans ?_, (h c).2.1.trans ?_, (h c).2.2⟩)
    (Cert.InProjLastReferenceIdeal.Value.run (F := Ideal) m' ρ')
  · obtain ⟨h0, h1, h2, h3⟩ := hagree c
    rw [val_main_v18_eq, h0, h1, h2]
    exact (final_wide m c).symm
  · obtain ⟨h0, h1, h2, h3⟩ := hagree c
    rw [val_main_v23_eq, h0, h1, h3]
    exact (final_narrow m c).symm

end Launch

end Cert.InProjLastClaims

end
-- ==== Proof.MergeFirstValue.lean ====
module
public import proofs.«01_k».proof.Proof.Gen.MergeFirstIdeal.Value
public import proofs.«01_k».proof.Proof.Softmax
public import Idealize.ShloMosaic.Lib.Pointwise
public import Idealize.ShloMosaic.Lib.ValueLayout
public import Idealize.ShloMosaic.Lib.Pipeline.ValueKit.Geometry

/-! The merge of the three branches in the first layer: what each block of the launch holds. -/

@[expose] public section

set_option maxRecDepth 16384

noncomputable section

namespace Cert.MergeFirstIdeal.Val

open Cert.MergeFirstIdeal Cert.MergeFirstIdeal.Gen Idealize.ShloMosaic Idealize.ShloMosaic.TcCoe Idealize.SL.Sem
open Cert.Softmax

/-- One block of the result, from the blocks of the arguments and the two weights. -/
def body (oa : Vec Ideal S256x1024 .bf16) (ob oc : Vec Ideal S256x512 .bf16) (ga gb gc : Vec Ideal S256x2048 .bf16)
    (x : Vec Ideal S256x2048 .f32) (wb wo : Vec Ideal S2048x2048 .bf16) : Vec Ideal S256x2048 .f32 :=
  k0_pay1 (k0_pay2 ga oa (View.ld wb (Rect.unit ![0, 0] S1024x2048.size inb_S2048x2048_S1024x2048_0_0)) gb ob
      (View.ld wb (Rect.unit ![1024, 0] S512x2048.size inb_S2048x2048_S512x2048_1024_0)))
    (k0_pay3 gc) k0_pay4 oc
    (View.ld wb (Rect.unit ![1536, 0] S512x2048.size inb_S2048x2048_S512x2048_1536_0)) x wo

/-- The first layer's weight. -/
def layer (w : Vec Ideal S2x2048x2048 .bf16) : Vec Ideal S2048x2048 .bf16 := fun i => w (ix3 0 (i 0) (i 1))

theorem canon_whole (w : Vec Ideal S2048x2048 .bf16) :
    View.canon (Val := Elt Ideal) (s := S2048x2048) (e := .bf16) [⟨Rect.whole S2048x2048, w⟩] = w := funext fun y => by
  have hy : (Rect.whole S2048x2048).emb y = y := funext fun a => Fin.ext (by rw [Rect.emb_apply]; show 0 + 1 * (y a).val = _; omega)
  have h := View.canon_cons_emb (Val := Elt Ideal) (e := .bf16) (Rect.whole S2048x2048) w [] y
  rwa [hy] at h

theorem readCov_whole (v : View sig .tc .vmem S2048x2048 .bf16) (w : Vec Ideal S2048x2048 .bf16) (r : Rect S2048x2048) :
    v.readCov (Val := Elt Ideal) [⟨Rect.whole S2048x2048, w⟩] r.toLoadRect = View.ld w r := by
  rw [View.readCov_eq_canon_ld v _ r (fun y => ⟨_, List.mem_cons_self .., (Rect.set_whole (s := S2048x2048)) ▸ Finset.mem_univ _⟩), canon_whole]

theorem hz : (![0, 0] : Fin 2 → Nat) = fun _ => 0 := funext fun a => by fin_cases a <;> rfl

variable (m : (ℓ : Loc nD τ sig) → Buf (Elt Ideal) ℓ)

theorem outs_B (c : Dev nD) (t : Fin cfg0.N) (h0 : ¬t.val % 64 = 0) (wb wo : Vec Ideal S2048x2048 .bf16)
    (hb : (outsAt0 m c (t.val - 1) (Nat.lt_of_le_of_lt (Nat.sub_le _ _) t.isLt)).2.1 = wb)
    (ho : (outsAt0 m c (t.val - 1) (Nat.lt_of_le_of_lt (Nat.sub_le _ _) t.isLt)).2.2 = wo) :
    outsAt0 m c t.val t.isLt = (body (iblk m c 0 t) (iblk m c 1 t) (iblk m c 2 t) (iblk m c 3 t) (iblk m c 4 t) (iblk m c 5 t)
      (iblk m c 6 t) wb wo, wb, wo) := by
  rw [outsAt0_B m c t h0, hb, ho]
  unfold out0_B_8 sout0_B_0 sout0_B_1
  rw [View.read_writes_eq_canon _ _ _ (fun y => cover0_B_8 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  have eb : View.read (Elt Ideal) (View.whole cc0_scratch0) ((Memref.isWhole_whole cc0_scratch0).unread wb) = wb :=
    (Memref.isWhole_whole cc0_scratch0).read_unread wb
  have eo : View.read (Elt Ideal) (View.whole cc0_scratch1) ((Memref.isWhole_whole cc0_scratch1).unread wo) = wo :=
    (Memref.isWhole_whole cc0_scratch1).read_unread wo
  rw [eb, eo]
  simp only [View.ld_unit_zero (S := S256x2048) hz, View.ld_unit_zero (S := S256x1024) hz, View.ld_unit_zero (S := S256x512) hz,
    View.ld_unit_zero (S := S1x2048) hz, View.ld_unit_zero (S := S2048x2048) hz]
  rfl

theorem emb_slab (y : S2048x2048.Idx) (h : S2048x2048.numel = S1x2048x2048.numel) :
    (Rect.unit (s := S2x2048x2048) ![0, 0, 0] ![1, 2048, 2048] inb_S2x2048x2048_S1x2048x2048_0_0_0).emb (Shape.reshapeEquiv h y)
      = ix3 0 (y 0) (y 1) := by
  have hy : ∃ (a b : Fin 2048), y = ix2 a b := ⟨y 0, y 1, funext fun a => by fin_cases a <;> rfl⟩
  obtain ⟨a, b, rfl⟩ := hy
  have e : Shape.reshapeEquiv h (ix2 a b) = ix3 (⟨0, Nat.one_pos⟩ : Fin 1) a b := ValueIdx.reshapeEquiv_ix2_1ab h a b
  rw [e]
  funext i
  fin_cases i <;> exact Fin.ext (by rw [ValueKit.rect_emb_unit_val]; simp [ix3, ix2])

theorem outs_A (c : Dev nD) (t : Fin cfg0.N) (h0 : t.val % 64 = 0) :
    outsAt0 m c t.val t.isLt = (body (iblk m c 0 t) (iblk m c 1 t) (iblk m c 2 t) (iblk m c 3 t) (iblk m c 4 t) (iblk m c 5 t)
      (iblk m c 6 t) (layer (V m c main_v0)) (layer (V m c main_v1)),
      (layer (V m c main_v0)), (layer (V m c main_v1))) := by
  rw [outsAt0_A m c t h0]
  unfold out0_A_8 sout0_A_0 sout0_A_1
  rw [View.read_writes_eq_canon _ _ _ (fun y => cover0_A_8 (y := y) ..), View.read_writes_eq_canon _ _ _ (fun y => scover0_A_0 (y := y) ..), View.read_writes_eq_canon _ _ _ (fun y => scover0_A_1 (y := y) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  have eb : ∀ h, View.read (Elt Ideal) (((View.whole main_v0).slice (Rect.unit ![0, 0, 0] ![1, 2048, 2048]
      inb_S2x2048x2048_S1x2048x2048_0_0_0)).reshape S2048x2048 h) (V m c main_v0) = layer (V m c main_v0) := fun h => funext fun y => congrArg (V m c main_v0) (emb_slab y h)
  have eo : ∀ h, View.read (Elt Ideal) (((View.whole main_v1).slice (Rect.unit ![0, 0, 0] ![1, 2048, 2048]
      inb_S2x2048x2048_S1x2048x2048_0_0_0)).reshape S2048x2048 h) (V m c main_v1) = layer (V m c main_v1) := fun h => funext fun y => congrArg (V m c main_v1) (emb_slab y h)
  simp only [ReadAs.apply_same, eb, eo, canon_whole, readCov_whole]
  simp only [View.ld_unit_zero (S := S256x2048) hz, View.ld_unit_zero (S := S256x1024) hz, View.ld_unit_zero (S := S256x512) hz,
    View.ld_unit_zero (S := S1x2048) hz, View.ld_unit_zero (S := S2048x2048) hz]
  rfl

end Cert.MergeFirstIdeal.Val

end
-- ==== Proof.MergeFirstClaim.lean ====
module
public import proofs.«01_k».proof.Defs
public import proofs.«01_k».proof.Proof.MergeFirstValue
public import proofs.«01_k».proof.Proof.Gen.MergeFirstReferenceIdeal.Read

/-! The merge of the three branches in the first layer: the launch's result is the reference's. -/

@[expose] public section

set_option maxRecDepth 16384

noncomputable section

namespace Cert.MergeFirstClaims

open Idealize.ShloMosaic Idealize.ShloMosaic.TcCoe Idealize.SL.Sem
open Cert.Softmax Cert.MergeFirstIdeal.Val
open Cert.MergeFirstReferenceIdeal.Read

/-- A row of the residual stream after the layer. -/
def stream (oa : Fin 1024 → EReal) (ob oc : Fin 512 → EReal) (ga gb gc x : Fin 2048 → EReal) (wb wo : Fin 2048 → Fin 2048 → EReal)
    (l : Fin 2048) : EReal :=
  x l + ∑ k, (Ideal.logistic (ga k) * (∑ d : Fin 1024, oa d * wb ⟨d.val, by omega⟩ k)
    + Ideal.logistic (gb k) * (∑ d : Fin 512, ob d * wb ⟨1024 + d.val, by omega⟩ k)
    + Ideal.logistic (gc k) * (∑ d : Fin 512, oc d * wb ⟨1536 + d.val, by omega⟩ k)) * wo k l

section
open Cert.MergeFirstIdeal Cert.MergeFirstIdeal.Gen
theorem body_apply (oa : Vec Ideal S256x1024 .bf16) (ob oc : Vec Ideal S256x512 .bf16) (ga gb gc : Vec Ideal S256x2048 .bf16)
    (x : Vec Ideal S256x2048 .f32) (wb wo : Vec Ideal S2048x2048 .bf16) (r : Fin 256) (l : Fin 2048) :
    body oa ob oc ga gb gc x wb wo (ix2 r l)
      = stream (fun d => oa (ix2 r d)) (fun d => ob (ix2 r d)) (fun d => oc (ix2 r d)) (fun k => ga (ix2 r k)) (fun k => gb (ix2 r k))
          (fun k => gc (ix2 r k)) (fun k => x (ix2 r k)) (fun i j => wb (ix2 i j)) (fun i j => wo (ix2 i j)) l := by
  pointwise [body, k0_pay1, k0_pay2, k0_pay3, k0_pay4]
  simp only [half_eq, sigmoid_eq]
  rfl
end

theorem ref_apply (x0 : Vec Ideal MergeFirstReferenceIdeal.S16384x1024 .bf16) (x1 x2 : Vec Ideal MergeFirstReferenceIdeal.S16384x512 .bf16)
    (x3 : Vec Ideal MergeFirstReferenceIdeal.S16384x12288 .bf16) (x4 : Vec Ideal MergeFirstReferenceIdeal.S16384x2048 .f32)
    (x5 x6 : Vec Ideal MergeFirstReferenceIdeal.S2x2048x2048 .f32) (r : Fin 16384) (l : Fin 2048) :
    val_main_v30 (F := Ideal) x0 x1 x2 x3 x4 x5 x6 (ix2 r l)
      = stream (fun d => x0 (ix2 r d)) (fun d => x1 (ix2 r d)) (fun d => x2 (ix2 r d)) (fun k => x3 (ix2 r ⟨6144 + k.val, by omega⟩))
          (fun k => x3 (ix2 r ⟨8192 + k.val, by omega⟩)) (fun k => x3 (ix2 r ⟨10240 + k.val, by omega⟩)) (fun k => x4 (ix2 r k))
          (fun i j => x5 (ix3 0 i j)) (fun i j => x6 (ix3 0 i j)) l := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  have e1 : ∀ k : Fin 2048, (⟨6144 + (2048 + k.val), by omega⟩ : Fin 12288) = ⟨8192 + k.val, by omega⟩ := fun k => Fin.ext (by simp only; omega)
  have e2 : ∀ k : Fin 2048, (⟨6144 + (4096 + k.val), by omega⟩ : Fin 12288) = ⟨10240 + k.val, by omega⟩ := fun k => Fin.ext (by simp only; omega)
  simp only [e1, e2]
  rfl

section Launch
open Cert.MergeFirstIdeal Cert.MergeFirstIdeal.Gen

variable (m : (ℓ : Loc nD τ sig) → Buf (Elt Ideal) ℓ)

theorem V_v0 (c : Dev nD) : V m c main_v0 = m ((c : Thread nD τ).loc main_arg5) := by
  unfold_abbrev_sides
  after_results
  rfl

theorem V_v1 (c : Dev nD) : V m c main_v1 = m ((c : Thread nD τ).loc main_arg6) := by
  unfold_abbrev_sides
  after_results
  rfl

/-- After every point the scratch holds the two weights of the first layer, and the window the block's result. -/
theorem outs_eq (c : Dev nD) : ∀ (n : ℕ) (hn : n < cfg0.N), outsAt0 m c n hn
    = (body (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩)
      (iblk m c 6 ⟨n, hn⟩) (layer (V m c main_v0)) (layer (V m c main_v1)),
      layer (V m c main_v0), layer (V m c main_v1))
  | 0, hn => outs_A m c ⟨0, hn⟩ rfl
  | n + 1, hn => outs_B m c ⟨n + 1, hn⟩ (by have h : n + 1 < 64 := hn; show ¬(n + 1) % 64 = 0; omega) _ _
      (by have h := outs_eq c n (Nat.lt_of_succ_lt hn); exact congrArg (·.2.1) h)
      (by have h := outs_eq c n (Nat.lt_of_succ_lt hn); exact congrArg (·.2.2) h)

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 3] := (by decide +kernel : ∀ t : Fin grid0.N, win0_3.index t = ![t.val, 3])
theorem e4 : ∀ t : Fin cfg0.N, win0_4.index t = ![t.val, 4] := (by decide +kernel : ∀ t : Fin grid0.N, win0_4.index t = ![t.val, 4])
theorem e5 : ∀ t : Fin cfg0.N, win0_5.index t = ![t.val, 5] := (by decide +kernel : ∀ t : Fin grid0.N, win0_5.index t = ![t.val, 5])
theorem e6 : ∀ t : Fin cfg0.N, win0_6.index t = ![t.val, 0] := (by decide +kernel : ∀ t : Fin grid0.N, win0_6.index t = ![t.val, 0])
theorem e8 : ∀ t : Fin cfg0.N, win0_8.index t = ![t.val, 0] := (by decide +kernel : ∀ t : Fin grid0.N, win0_8.index t = ![t.val, 0])

theorem final (c : Dev nD) :
    (dats m 0 c).arrAt 8 cfg0.N
      = val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t hf y => ?_
  blk_simp
  rw [after0_8]
  have hy : ∃ (r : Fin 256) (l : Fin 2048), y = ix2 r l := ⟨y 0, y 1, funext fun a => by fin_cases a <;> rfl⟩
  obtain ⟨r, l, rfl⟩ := hy
  have ht : t.val < 64 := t.isLt
  have he : (win0_8.blk t).view.emb (ix2 r l) = ix2 (⟨t.val * 256 + r.val, by omega⟩ : Fin 16384) l := by blk_ext [e8]
  rw [he, outs_eq m c t.val t.isLt, ref_apply]
  refine (body_apply _ _ _ _ _ _ _ _ _ r l).trans ?_
  have ha : ∀ d : Fin 1024, iblk m c 0 t (ix2 r d) = m ((c : Thread nD τ).loc main_arg0) (ix2 (⟨t.val * 256 + r.val, by omega⟩ : Fin 16384) d) := fun d => by
    blk_simp [iblk]
    exact congrArg _ (by blk_ext [e0])
  have hb : ∀ d : Fin 512, iblk m c 1 t (ix2 r d) = m ((c : Thread nD τ).loc main_arg1) (ix2 (⟨t.val * 256 + r.val, by omega⟩ : Fin 16384) d) := fun d => by
    blk_simp [iblk]
    exact congrArg _ (by blk_ext [e1])
  have hc : ∀ d : Fin 512, iblk m c 2 t (ix2 r d) = m ((c : Thread nD τ).loc main_arg2) (ix2 (⟨t.val * 256 + r.val, by omega⟩ : Fin 16384) d) := fun d => by
    blk_simp [iblk]
    exact congrArg _ (by blk_ext [e2])
  have ga : ∀ k : Fin 2048, iblk m c 3 t (ix2 r k) = m ((c : Thread nD τ).loc main_arg3) (ix2 (⟨t.val * 256 + r.val, by omega⟩ : Fin 16384) ⟨6144 + k.val, by omega⟩) := fun k => by
    blk_simp [iblk]
    exact congrArg _ (by blk_ext [e3])
  have gb : ∀ k : Fin 2048, iblk m c 4 t (ix2 r k) = m ((c : Thread nD τ).loc main_arg3) (ix2 (⟨t.val * 256 + r.val, by omega⟩ : Fin 16384) ⟨8192 + k.val, by omega⟩) := fun k => by
    blk_simp [iblk]
    exact congrArg _ (by blk_ext [e4])
  have gc : ∀ k : Fin 2048, iblk m c 5 t (ix2 r k) = m ((c : Thread nD τ).loc main_arg3) (ix2 (⟨t.val * 256 + r.val, by omega⟩ : Fin 16384) ⟨10240 + k.val, by omega⟩) := fun k => by
    blk_simp [iblk]
    exact congrArg _ (by blk_ext [e5])
  have hx : ∀ k : Fin 2048, iblk m c 6 t (ix2 r k) = m ((c : Thread nD τ).loc main_arg4) (ix2 (⟨t.val * 256 + r.val, by omega⟩ : Fin 16384) k) := fun k => by
    blk_simp [iblk]
    exact congrArg _ (by blk_ext [e6])
  have hw : ∀ i j : Fin 2048, layer (V m c main_v0) (ix2 i j) = m ((c : Thread nD τ).loc main_arg5) (ix3 0 i j) := fun i j => by
    rw [V_v0]; rfl
  have ho : ∀ i j : Fin 2048, layer (V m c main_v1) (ix2 i j) = m ((c : Thread nD τ).loc main_arg6) (ix3 0 i j) := fun i j => by
    rw [V_v1]; rfl
  rw [funext ha, funext hb, funext hc, funext ga, funext gb, funext gc, funext hx,
    funext fun i => funext (hw i), funext fun i => funext (ho i)]

theorem algebraic : Cert.algebraic_MergeFirstIdeal_MergeFirstReferenceIdeal := by
  intro m ρ m' ρ' _ hagree
  refine ⟨fun c => (dats m 0 c).arrAt 8 cfg0.N, Cert.MergeFirstIdeal.Value.run_blocks m ρ, ?_⟩
  refine (θ_run Cert.MergeFirstReferenceIdeal.defs _ _).mono (fun _ h c => ⟨(h c).1.trans ?_, (h c).2⟩)
    (Cert.MergeFirstReferenceIdeal.Value.run (F := Ideal) m' ρ')
  obtain ⟨h0, h1, h2, h3, h4, h5, h6, h7⟩ := hagree c
  rw [val_main_v30_eq, h0, h1, h2, h3, h4, h5, h6]
  exact (final m c).symm

end Launch

end Cert.MergeFirstClaims

end
-- ==== Proof.MergeValue.lean ====
module
public import proofs.«01_k».proof.Proof.Gen.MergeIdeal.Value
public import proofs.«01_k».proof.Proof.Softmax
public import Idealize.ShloMosaic.Lib.Pointwise
public import Idealize.ShloMosaic.Lib.ValueLayout
public import Idealize.ShloMosaic.Lib.Pipeline.ValueKit.Geometry

/-! The merge of the three branches: what each block of the launch holds. -/

@[expose] public section

set_option maxRecDepth 16384

noncomputable section

namespace Cert.MergeIdeal.Val

open Cert.MergeIdeal Cert.MergeIdeal.Gen Idealize.ShloMosaic Idealize.ShloMosaic.TcCoe Idealize.SL.Sem
open Cert.Softmax

/-- One block of the result, from the blocks of the arguments and the two weights. -/
def body (oa : Vec Ideal S256x1024 .bf16) (ob oc : Vec Ideal S256x512 .bf16) (ga gb gc : Vec Ideal S256x2048 .bf16)
    (x : Vec Ideal S256x2048 .f32) (gain : Vec Ideal S1x2048 .f32) (wb wo : Vec Ideal S2048x2048 .bf16) : Vec Ideal S256x2048 .f32 :=
  k0_pay1 (k0_pay2 ga oa (View.ld wb (Rect.unit ![0, 0] S1024x2048.size inb_S2048x2048_S1024x2048_0_0)) gb ob
      (View.ld wb (Rect.unit ![1024, 0] S512x2048.size inb_S2048x2048_S512x2048_1024_0)))
    (k0_pay3 gc) k0_pay4 oc
    (View.ld wb (Rect.unit ![1536, 0] S512x2048.size inb_S2048x2048_S512x2048_1536_0)) x wo gain

/-- The last layer's weight. -/
def layer (w : Vec Ideal S2x2048x2048 .bf16) : Vec Ideal S2048x2048 .bf16 := fun i => w (ix3 1 (i 0) (i 1))

theorem canon_whole (w : Vec Ideal S2048x2048 .bf16) :
    View.canon (Val := Elt Ideal) (s := S2048x2048) (e := .bf16) [⟨Rect.whole S2048x2048, w⟩] = w := funext fun y => by
  have hy : (Rect.whole S2048x2048).emb y = y := funext fun a => Fin.ext (by rw [Rect.emb_apply]; show 0 + 1 * (y a).val = _; omega)
  have h := View.canon_cons_emb (Val := Elt Ideal) (e := .bf16) (Rect.whole S2048x2048) w [] y
  rwa [hy] at h

theorem readCov_whole (v : View sig .tc .vmem S2048x2048 .bf16) (w : Vec Ideal S2048x2048 .bf16) (r : Rect S2048x2048) :
    v.readCov (Val := Elt Ideal) [⟨Rect.whole S2048x2048, w⟩] r.toLoadRect = View.ld w r := by
  rw [View.readCov_eq_canon_ld v _ r (fun y => ⟨_, List.mem_cons_self .., (Rect.set_whole (s := S2048x2048)) ▸ Finset.mem_univ _⟩), canon_whole]

theorem hz : (![0, 0] : Fin 2 → Nat) = fun _ => 0 := funext fun a => by fin_cases a <;> rfl

variable (m : (ℓ : Loc nD τ sig) → Buf (Elt Ideal) ℓ)

theorem outs_B (c : Dev nD) (t : Fin cfg0.N) (h0 : ¬t.val % 64 = 0) (wb wo : Vec Ideal S2048x2048 .bf16)
    (hb : (outsAt0 m c (t.val - 1) (Nat.lt_of_le_of_lt (Nat.sub_le _ _) t.isLt)).2.1 = wb)
    (ho : (outsAt0 m c (t.val - 1) (Nat.lt_of_le_of_lt (Nat.sub_le _ _) t.isLt)).2.2 = wo) :
    outsAt0 m c t.val t.isLt = (body (iblk m c 0 t) (iblk m c 1 t) (iblk m c 2 t) (iblk m c 3 t) (iblk m c 4 t) (iblk m c 5 t)
      (iblk m c 6 t) (iblk m c 7 t) wb wo, wb, wo) := by
  rw [outsAt0_B m c t h0, hb, ho]
  unfold out0_B_8 sout0_B_0 sout0_B_1
  rw [View.read_writes_eq_canon _ _ _ (fun y => cover0_B_8 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  have eb : View.read (Elt Ideal) (View.whole cc0_scratch0) ((Memref.isWhole_whole cc0_scratch0).unread wb) = wb :=
    (Memref.isWhole_whole cc0_scratch0).read_unread wb
  have eo : View.read (Elt Ideal) (View.whole cc0_scratch1) ((Memref.isWhole_whole cc0_scratch1).unread wo) = wo :=
    (Memref.isWhole_whole cc0_scratch1).read_unread wo
  rw [eb, eo]
  simp only [View.ld_unit_zero (S := S256x2048) hz, View.ld_unit_zero (S := S256x1024) hz, View.ld_unit_zero (S := S256x512) hz,
    View.ld_unit_zero (S := S1x2048) hz, View.ld_unit_zero (S := S2048x2048) hz]
  rfl

theorem emb_slab (y : S2048x2048.Idx) (h : S2048x2048.numel = S1x2048x2048.numel) :
    (Rect.unit (s := S2x2048x2048) ![1, 0, 0] ![1, 2048, 2048] inb_S2x2048x2048_S1x2048x2048_1_0_0).emb (Shape.reshapeEquiv h y)
      = ix3 1 (y 0) (y 1) := by
  have hy : ∃ (a b : Fin 2048), y = ix2 a b := ⟨y 0, y 1, funext fun a => by fin_cases a <;> rfl⟩
  obtain ⟨a, b, rfl⟩ := hy
  have e : Shape.reshapeEquiv h (ix2 a b) = ix3 (⟨0, Nat.one_pos⟩ : Fin 1) a b := ValueIdx.reshapeEquiv_ix2_1ab h a b
  rw [e]
  funext i
  fin_cases i <;> exact Fin.ext (by rw [ValueKit.rect_emb_unit_val]; simp [ix3, ix2])

theorem outs_A (c : Dev nD) (t : Fin cfg0.N) (h0 : t.val % 64 = 0) :
    outsAt0 m c t.val t.isLt = (body (iblk m c 0 t) (iblk m c 1 t) (iblk m c 2 t) (iblk m c 3 t) (iblk m c 4 t) (iblk m c 5 t)
      (iblk m c 6 t) (iblk m c 7 t) (layer (V m c main_v0)) (layer (V m c main_v1)),
      (layer (V m c main_v0)), (layer (V m c main_v1))) := by
  rw [outsAt0_A m c t h0]
  unfold out0_A_8 sout0_A_0 sout0_A_1
  rw [View.read_writes_eq_canon _ _ _ (fun y => cover0_A_8 (y := y) ..), View.read_writes_eq_canon _ _ _ (fun y => scover0_A_0 (y := y) ..), View.read_writes_eq_canon _ _ _ (fun y => scover0_A_1 (y := y) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  have eb : ∀ h, View.read (Elt Ideal) (((View.whole main_v0).slice (Rect.unit ![1, 0, 0] ![1, 2048, 2048]
      inb_S2x2048x2048_S1x2048x2048_1_0_0)).reshape S2048x2048 h) (V m c main_v0) = layer (V m c main_v0) := fun h => funext fun y => congrArg (V m c main_v0) (emb_slab y h)
  have eo : ∀ h, View.read (Elt Ideal) (((View.whole main_v1).slice (Rect.unit ![1, 0, 0] ![1, 2048, 2048]
      inb_S2x2048x2048_S1x2048x2048_1_0_0)).reshape S2048x2048 h) (V m c main_v1) = layer (V m c main_v1) := fun h => funext fun y => congrArg (V m c main_v1) (emb_slab y h)
  simp only [ReadAs.apply_same, eb, eo, canon_whole, readCov_whole]
  simp only [View.ld_unit_zero (S := S256x2048) hz, View.ld_unit_zero (S := S256x1024) hz, View.ld_unit_zero (S := S256x512) hz,
    View.ld_unit_zero (S := S1x2048) hz, View.ld_unit_zero (S := S2048x2048) hz]
  rfl

end Cert.MergeIdeal.Val

end
-- ==== Proof.MergeClaim.lean ====
module
public import proofs.«01_k».proof.Defs
public import proofs.«01_k».proof.Proof.MergeValue
public import proofs.«01_k».proof.Proof.Gen.MergeReferenceIdeal.Read

/-! The merge of the three branches: the launch's result is the reference's. -/

@[expose] public section

set_option maxRecDepth 16384

noncomputable section

namespace Cert.MergeClaims

open Idealize.ShloMosaic Idealize.ShloMosaic.TcCoe Idealize.SL.Sem
open Cert.Softmax Cert.MergeIdeal.Val
open Cert.MergeReferenceIdeal.Read

/-- A row of the residual stream after the layer, before the last normalisation. -/
def stream (oa : Fin 1024 → EReal) (ob oc : Fin 512 → EReal) (ga gb gc x : Fin 2048 → EReal) (wb wo : Fin 2048 → Fin 2048 → EReal)
    (l : Fin 2048) : EReal :=
  x l + ∑ k, (Ideal.logistic (ga k) * (∑ d : Fin 1024, oa d * wb ⟨d.val, by omega⟩ k)
    + Ideal.logistic (gb k) * (∑ d : Fin 512, ob d * wb ⟨1024 + d.val, by omega⟩ k)
    + Ideal.logistic (gc k) * (∑ d : Fin 512, oc d * wb ⟨1536 + d.val, by omega⟩ k)) * wo k l

/-- A row scaled to unit mean square, times the gain. -/
def norm (y gain : Fin 2048 → EReal) (l : Fin 2048) : EReal :=
  y l * Ideal.rsqrt (Ideal.div (∑ k, y k * y k) (Ideal.ofBits .f32 0x45000000#32) + Ideal.ofBits .f32 0x358637BD#32) * gain l

section
open Cert.MergeIdeal Cert.MergeIdeal.Gen
theorem body_apply (oa : Vec Ideal S256x1024 .bf16) (ob oc : Vec Ideal S256x512 .bf16) (ga gb gc : Vec Ideal S256x2048 .bf16)
    (x : Vec Ideal S256x2048 .f32) (gain : Vec Ideal S1x2048 .f32) (wb wo : Vec Ideal S2048x2048 .bf16) (r : Fin 256) (l : Fin 2048) :
    body oa ob oc ga gb gc x gain wb wo (ix2 r l)
      = norm (stream (fun d => oa (ix2 r d)) (fun d => ob (ix2 r d)) (fun d => oc (ix2 r d)) (fun k => ga (ix2 r k)) (fun k => gb (ix2 r k))
          (fun k => gc (ix2 r k)) (fun k => x (ix2 r k)) (fun i j => wb (ix2 i j)) (fun i j => wo (ix2 i j))) (fun k => gain (ix2 0 k)) l := by
  pointwise [body, k0_pay1, k0_pay2, k0_pay3, k0_pay4]
  simp only [half_eq, sigmoid_eq]
  rfl
end

theorem ref_apply (x0 : Vec Ideal MergeReferenceIdeal.S16384x1024 .bf16) (x1 x2 : Vec Ideal MergeReferenceIdeal.S16384x512 .bf16)
    (x3 : Vec Ideal MergeReferenceIdeal.S16384x12288 .bf16) (x4 : Vec Ideal MergeReferenceIdeal.S16384x2048 .f32)
    (x5 x6 : Vec Ideal MergeReferenceIdeal.S2x2048x2048 .f32) (x7 : Vec Ideal MergeReferenceIdeal.S2048 .f32) (r : Fin 16384) (l : Fin 2048) :
    val_main_v43 (F := Ideal) x0 x1 x2 x3 x4 x5 x6 x7 (ix2 r l)
      = norm (stream (fun d => x0 (ix2 r d)) (fun d => x1 (ix2 r d)) (fun d => x2 (ix2 r d)) (fun k => x3 (ix2 r ⟨6144 + k.val, by omega⟩))
          (fun k => x3 (ix2 r ⟨8192 + k.val, by omega⟩)) (fun k => x3 (ix2 r ⟨10240 + k.val, by omega⟩)) (fun k => x4 (ix2 r k))
          (fun i j => x5 (ix3 1 i j)) (fun i j => x6 (ix3 1 i j))) (fun k => x7 (ix1 k)) l := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  have e1 : ∀ k : Fin 2048, (⟨6144 + (2048 + k.val), by omega⟩ : Fin 12288) = ⟨8192 + k.val, by omega⟩ := fun k => Fin.ext (by simp only; omega)
  have e2 : ∀ k : Fin 2048, (⟨6144 + (4096 + k.val), by omega⟩ : Fin 12288) = ⟨10240 + k.val, by omega⟩ := fun k => Fin.ext (by simp only; omega)
  simp only [e1, e2]
  rfl

section Launch
open Cert.MergeIdeal Cert.MergeIdeal.Gen

variable (m : (ℓ : Loc nD τ sig) → Buf (Elt Ideal) ℓ)

theorem V_v0 (c : Dev nD) : V m c main_v0 = m ((c : Thread nD τ).loc main_arg5) := by
  unfold_abbrev_sides
  after_results
  rfl

theorem V_v1 (c : Dev nD) : V m c main_v1 = m ((c : Thread nD τ).loc main_arg6) := by
  unfold_abbrev_sides
  after_results
  rfl

theorem V_v2 (c : Dev nD) (k : Fin 2048) : V m c main_v2 (ix2 0 k) = m ((c : Thread nD τ).loc main_arg7) (ix1 k) := by
  have h : V m c main_v2 = broadcastInDim S1x2048 ![1] bcast_S2048_S1x2048_1 (m ((c : Thread nD τ).loc main_arg7)) := by
    unfold_abbrev_sides
    after_results
  rw [h]
  pointwise

/-- After every point the scratch holds the two weights of the last layer, and the window the block's result. -/
theorem outs_eq (c : Dev nD) : ∀ (n : ℕ) (hn : n < cfg0.N), outsAt0 m c n hn
    = (body (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩)
      (iblk m c 6 ⟨n, hn⟩) (iblk m c 7 ⟨n, hn⟩) (layer (V m c main_v0)) (layer (V m c main_v1)),
      layer (V m c main_v0), layer (V m c main_v1))
  | 0, hn => outs_A m c ⟨0, hn⟩ rfl
  | n + 1, hn => outs_B m c ⟨n + 1, hn⟩ (by have h : n + 1 < 64 := hn; show ¬(n + 1) % 64 = 0; omega) _ _
      (by have h := outs_eq c n (Nat.lt_of_succ_lt hn); exact congrArg (·.2.1) h)
      (by have h := outs_eq c n (Nat.lt_of_succ_lt hn); exact congrArg (·.2.2) h)

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 3] := (by decide +kernel : ∀ t : Fin grid0.N, win0_3.index t = ![t.val, 3])
theorem e4 : ∀ t : Fin cfg0.N, win0_4.index t = ![t.val, 4] := (by decide +kernel : ∀ t : Fin grid0.N, win0_4.index t = ![t.val, 4])
theorem e5 : ∀ t : Fin cfg0.N, win0_5.index t = ![t.val, 5] := (by decide +kernel : ∀ t : Fin grid0.N, win0_5.index t = ![t.val, 5])
theorem e6 : ∀ t : Fin cfg0.N, win0_6.index t = ![t.val, 0] := (by decide +kernel : ∀ t : Fin grid0.N, win0_6.index t = ![t.val, 0])
theorem e7 : ∀ t : Fin cfg0.N, win0_7.index t = ![0, 0] := (by decide +kernel : ∀ t : Fin grid0.N, win0_7.index t = ![0, 0])
theorem e8 : ∀ t : Fin cfg0.N, win0_8.index t = ![t.val, 0] := (by decide +kernel : ∀ t : Fin grid0.N, win0_8.index t = ![t.val, 0])

theorem final (c : Dev nD) :
    (dats m 0 c).arrAt 8 cfg0.N
      = val_main_v43 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  have hy : ∃ (r : Fin 256) (l : Fin 2048), y = ix2 r l := ⟨y 0, y 1, funext fun a => by fin_cases a <;> rfl⟩
  obtain ⟨r, l, rfl⟩ := hy
  have ht : t.val < 64 := t.isLt
  have he : (win0_8.blk t).view.emb (ix2 r l) = ix2 (⟨t.val * 256 + r.val, by omega⟩ : Fin 16384) l := by blk_ext [e8]
  rw [he, outs_eq m c t.val t.isLt, ref_apply]
  refine (body_apply _ _ _ _ _ _ _ _ _ _ r l).trans ?_
  have ha : ∀ d : Fin 1024, iblk m c 0 t (ix2 r d) = m ((c : Thread nD τ).loc main_arg0) (ix2 (⟨t.val * 256 + r.val, by omega⟩ : Fin 16384) d) := fun d => by
    blk_simp [iblk]
    exact congrArg _ (by blk_ext [e0])
  have hb : ∀ d : Fin 512, iblk m c 1 t (ix2 r d) = m ((c : Thread nD τ).loc main_arg1) (ix2 (⟨t.val * 256 + r.val, by omega⟩ : Fin 16384) d) := fun d => by
    blk_simp [iblk]
    exact congrArg _ (by blk_ext [e1])
  have hc : ∀ d : Fin 512, iblk m c 2 t (ix2 r d) = m ((c : Thread nD τ).loc main_arg2) (ix2 (⟨t.val * 256 + r.val, by omega⟩ : Fin 16384) d) := fun d => by
    blk_simp [iblk]
    exact congrArg _ (by blk_ext [e2])
  have ga : ∀ k : Fin 2048, iblk m c 3 t (ix2 r k) = m ((c : Thread nD τ).loc main_arg3) (ix2 (⟨t.val * 256 + r.val, by omega⟩ : Fin 16384) ⟨6144 + k.val, by omega⟩) := fun k => by
    blk_simp [iblk]
    exact congrArg _ (by blk_ext [e3])
  have gb : ∀ k : Fin 2048, iblk m c 4 t (ix2 r k) = m ((c : Thread nD τ).loc main_arg3) (ix2 (⟨t.val * 256 + r.val, by omega⟩ : Fin 16384) ⟨8192 + k.val, by omega⟩) := fun k => by
    blk_simp [iblk]
    exact congrArg _ (by blk_ext [e4])
  have gc : ∀ k : Fin 2048, iblk m c 5 t (ix2 r k) = m ((c : Thread nD τ).loc main_arg3) (ix2 (⟨t.val * 256 + r.val, by omega⟩ : Fin 16384) ⟨10240 + k.val, by omega⟩) := fun k => by
    blk_simp [iblk]
    exact congrArg _ (by blk_ext [e5])
  have hx : ∀ k : Fin 2048, iblk m c 6 t (ix2 r k) = m ((c : Thread nD τ).loc main_arg4) (ix2 (⟨t.val * 256 + r.val, by omega⟩ : Fin 16384) k) := fun k => by
    blk_simp [iblk]
    exact congrArg _ (by blk_ext [e6])
  have hg : ∀ k : Fin 2048, iblk m c 7 t (ix2 0 k) = m ((c : Thread nD τ).loc main_arg7) (ix1 k) := fun k => by
    rw [← V_v2 m c]
    blk_simp [iblk]
    exact congrArg (V m c main_v2) (by blk_ext [e7])
  have hw : ∀ i j : Fin 2048, layer (V m c main_v0) (ix2 i j) = m ((c : Thread nD τ).loc main_arg5) (ix3 1 i j) := fun i j => by
    rw [V_v0]; rfl
  have ho : ∀ i j : Fin 2048, layer (V m c main_v1) (ix2 i j) = m ((c : Thread nD τ).loc main_arg6) (ix3 1 i j) := fun i j => by
    rw [V_v1]; rfl
  rw [funext ha, funext hb, funext hc, funext ga, funext gb, funext gc, funext hx, funext hg,
    funext fun i => funext (hw i), funext fun i => funext (ho i)]

theorem algebraic : Cert.algebraic_MergeIdeal_MergeReferenceIdeal := by
  intro m ρ m' ρ' _ hagree
  refine ⟨fun c => (dats m 0 c).arrAt 8 cfg0.N, Cert.MergeIdeal.Value.run_blocks m ρ, ?_⟩
  refine (θ_run Cert.MergeReferenceIdeal.defs _ _).mono (fun _ h c => ⟨(h c).1.trans ?_, (h c).2⟩)
    (Cert.MergeReferenceIdeal.Value.run (F := Ideal) m' ρ')
  obtain ⟨h0, h1, h2, h3, h4, h5, h6, h7⟩ := hagree c
  rw [val_main_v43_eq, h0, h1, h2, h3, h4, h5, h6, h7]
  exact (final m c).symm

end Launch

end Cert.MergeClaims

end
-- ==== Proof.MemValue.lean ====
module
public import proofs.«01_k».proof.Proof.Gen.MemAttnIdeal.Value
public import proofs.«01_k».proof.Proof.Softmax
public import Idealize.ShloMosaic.Lib.Pointwise

/-! The memory attention's body at an index: one row of attention per head, times the gate. -/

@[expose] public section

set_option maxRecDepth 16384

noncomputable section

namespace Cert.MemAttnIdeal.Val

open Cert.MemAttnIdeal Cert.MemAttnIdeal.Gen Idealize.ShloMosaic Idealize.ShloMosaic.TcCoe Idealize.SL.Sem
open Cert.Softmax

/-- A logit in units of log 2, from a query and a key. -/
def logit (q k : Fin 128 → ℝ) : ℝ := (∑ d, q d * k d) * ((Real.sqrt 128)⁻¹ * (Real.log 2)⁻¹)

/-- One row of attention over the 256 keys. -/
def attn (q : Fin 128 → ℝ) (k : Fin 256 → Fin 128 → ℝ) (v : Fin 256 → ℝ) : ℝ :=
  (∑ x, v x * weight (logit q (k x) : EReal)) / ∑ x, weight (logit q (k x) : EReal)

theorem scale_eq : Named.named (F := Ideal) (φ := .f32) κ "scale" 0x3E0293EE#32 = (((Real.sqrt 128)⁻¹ * (Real.log 2)⁻¹ : ℝ) : EReal) :=
  IdealRules.named_const.ideal_named_scalar (φ := .f32) κ "scale" 0x3E0293EE#32 _ (by simp [κ])

theorem logit_eq {q k : Fin 128 → EReal} {q' k' : Fin 128 → ℝ} (hq : ∀ d, q d = q' d) (hk : ∀ d, k d = k' d) :
    (∑ d, q d * k d) * (((Real.sqrt 128)⁻¹ * (Real.log 2)⁻¹ : ℝ) : EReal) = (logit q' k' : EReal) := by
  unfold logit
  generalize (Real.sqrt 128)⁻¹ * (Real.log 2)⁻¹ = s
  rw [EReal.coe_mul, coe_sum]
  congr 1
  exact Finset.sum_congr rfl fun d _ => by rw [hq, hk, EReal.coe_mul]

/-- One head of the body. -/
theorem head {q : Vec Ideal S2048x128 .bf16} {k v : Vec Ideal S256x128 .bf16} {q' : Fin 128 → ℝ} {k' : Fin 256 → Fin 128 → ℝ}
    {v' : Fin 256 → ℝ} (r : Fin 2048) (d : Fin 128) (hq : ∀ d, q (ix2 r d) = (q' d : EReal))
    (hk : ∀ x d, k (ix2 x d) = (k' x d : EReal)) (hv : ∀ x, v (ix2 x d) = (v' x : EReal)) :
    k0_pay2 q k v (ix2 r d) = (attn q' k' v' : EReal) := by
  pointwise [k0_pay2]
  rw [scale_eq, neg_inf_eq]
  simp only [fun x => logit_eq hq (hk x), hv]
  exact block_row (fun x => (logit q' (k' x) : EReal)) v' (fun _ => EReal.coe_ne_top _) ⟨0, EReal.coe_ne_bot _⟩ rfl

/-- The column of head `h`'s lane `d`. -/
abbrev lane (l : Fin 512) (d : Fin 128) : Fin 512 := ⟨l.val / 128 * 128 + d.val, by omega⟩

/-- The body's result at an index. -/
theorem out_apply {q g : Vec Ideal S2048x512 .bf16} {k v : Vec Ideal S256x512 .bf16} {q' : Fin 512 → ℝ}
    {k' v' : Fin 256 → Fin 512 → ℝ} (r : Fin 2048) (l : Fin 512) (hq : ∀ d, q (ix2 r d) = (q' d : EReal))
    (hk : ∀ x d, k (ix2 x d) = (k' x d : EReal)) (hv : ∀ x d, v (ix2 x d) = (v' x d : EReal)) :
    out0_4 q g k v (ix2 r l)
      = (attn (fun d => q' (lane l d)) (fun x d => k' x (lane l d)) (fun x => v' x l) : EReal)
        * (g (ix2 r l) * Ideal.logistic (g (ix2 r l))) := by
  have hz : (![0, 0] : Fin 2 → Nat) = fun _ => 0 := funext fun a => by fin_cases a <;> rfl
  unfold out0_4
  rw [View.canon_unit_zero hz]
  have h3 : @k0_pay3 Ideal _ _ = @k0_pay2 Ideal _ _ := rfl
  have h4 : ∀ a b q2 k2 v2 q3 k3 v3, k0_pay4 (F := Ideal) a b q2 k2 v2 q3 k3 v3
      = concatenate S2048x512 1 [⟨S2048x128, a⟩, ⟨S2048x128, b⟩, ⟨S2048x128, k0_pay2 q2 k2 v2⟩, ⟨S2048x128, k0_pay2 q3 k3 v3⟩]
        concatenates_S2048x128_S2048x128_S2048x128_S2048x128_S2048x512_d1 := fun _ _ _ _ _ _ _ _ => rfl
  rw [h3, h4]
  have key : ∀ (h : Nat) (hh : h < 4) (hl : l.val / 128 = h) (Q : Vec Ideal S2048x128 .bf16) (K V : Vec Ideal S256x128 .bf16)
      (d : Fin 128), d.val + h * 128 = l.val →
      (∀ d, Q (ix2 r d) = q (ix2 r ⟨h * 128 + d.val, by omega⟩)) → (∀ x d, K (ix2 x d) = k (ix2 x ⟨h * 128 + d.val, by omega⟩)) →
      (∀ x d, V (ix2 x d) = v (ix2 x ⟨h * 128 + d.val, by omega⟩)) →
      k0_pay2 Q K V (ix2 r d) = (attn (fun d => q' (lane l d)) (fun x d => k' x (lane l d)) (fun x => v' x l) : EReal) := by
    intro h hh hl Q K V d hd hQ hK hV
    subst hl
    refine head r d (fun d => (hQ d).trans (hq _)) (fun x d => (hK x d).trans (hk _ _)) (fun x => ?_)
    rw [hV, hv]
    congr 2
    exact Fin.ext (by show l.val / 128 * 128 + d.val = l.val; omega)
  pointwise [k0_pay1, k0_pay5]
  rw [half_eq]
  rw [sigmoid_eq]
  congr 1
  have hl := l.isLt
  split
  · exact key 0 (by omega) (by omega) _ _ _ ⟨l.val, by omega⟩ (by simp) (fun d => by pointwise) (fun x d => by pointwise) (fun x d => by pointwise)
  · split
    · exact key 1 (by omega) (by omega) _ _ _ ⟨l.val - 128, by omega⟩ (by simp; omega) (fun d => by pointwise) (fun x d => by pointwise) (fun x d => by pointwise)
    · split
      · exact key 2 (by omega) (by omega) _ _ _ ⟨l.val - 128 - 128, by omega⟩ (by simp; omega) (fun d => by pointwise) (fun x d => by pointwise) (fun x d => by pointwise)
      · exact key 3 (by omega) (by omega) _ _ _ ⟨l.val - 128 - 128 - 128, by omega⟩ (by simp; omega) (fun d => by pointwise) (fun x d => by pointwise) (fun x d => by pointwise)

end Cert.MemAttnIdeal.Val

end
-- ==== Proof.MemClaim.lean ====
module
public import proofs.«01_k».proof.Defs
public import proofs.«01_k».proof.Proof.MemValue
public import proofs.«01_k».proof.Proof.Gen.MemAttnReferenceIdeal.Read
public import proofs.«01_k».proof.Proof.Gen.MemAttnIdeal.Value
public import proofs.«01_k».proof.Proof.Gen.Pre_mem_inputs
public import Idealize.ShloMosaic.Lib.Pipeline.ValueKit.Geometry
public import Idealize.ShloMosaic.Lib.ReduceAll

/-! The memory attention: the launch's result is the reference's. -/

@[expose] public section

set_option maxRecDepth 16384

noncomputable section

namespace Cert.MemAttnClaims

open Idealize.ShloMosaic Idealize.ShloMosaic.TcCoe Idealize.SL.Sem
open Cert.Softmax Cert.MemAttnIdeal.Val
open Cert.MemAttnReferenceIdeal.Read

theorem log_two_ne : Real.log 2 ≠ 0 := (Real.log_pos (by norm_num)).ne'

theorem sqrt_ne : Real.sqrt 128 ≠ 0 := (Real.sqrt_pos.2 (by norm_num)).ne'

theorem sqrt128 : Ideal.sqrt (Ideal.ofBits .f32 0x43000000#32) = (Real.sqrt 128 : EReal) := by
  have h : Ideal.ofBits .f32 0x43000000#32 = ((128 : ℝ) : EReal) := by
    simp [Ideal.ofBits, Ideal.ieee, -EReal.coe_mul]
    norm_num
  rw [h]
  show (if (128 : ℝ) < 0 then ⊥ else (Real.sqrt 128 : EReal)) = _
  rw [if_neg (by norm_num)]

/-- The reference's result at an index. -/
theorem ref_apply {x0 : Vec Ideal MemAttnReferenceIdeal.S16384x12288 .bf16} {x1 : Vec Ideal MemAttnReferenceIdeal.S1024x1024 .bf16}
    {q' : Fin 512 → ℝ} {k' v' : Fin 256 → Fin 512 → ℝ} (R : Fin 16384) (l : Fin 512)
    (hq : ∀ d : Fin 512, x0 (ix2 R ⟨5120 + d.val, by omega⟩) = (q' d : EReal))
    (hk : ∀ (x : Fin 256) (d : Fin 512), x1 (ix2 ⟨R.val / 4096 * 256 + x.val, by omega⟩ ⟨d.val, by omega⟩) = (k' x d : EReal))
    (hv : ∀ (x : Fin 256) (d : Fin 512), x1 (ix2 ⟨R.val / 4096 * 256 + x.val, by omega⟩ ⟨512 + d.val, by omega⟩) = (v' x d : EReal)) :
    val_main_v35 (F := Ideal) x0 x1 (ix2 R l)
      = (attn (fun d => q' (lane l d)) (fun x d => k' x (lane l d)) (fun x => v' x l) : EReal)
        * (x0 (ix2 R ⟨5632 + l.val, by omega⟩) * Ideal.logistic (x0 (ix2 R ⟨5632 + l.val, by omega⟩))) := by
  pointwise [val_main_v35, val_main_v34, val_main_v33, val_main_v32, val_main_v31, val_main_v30, val_main_v29, val_main_v28,
    val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3]
  have hR : (⟨R.val / 4096 * 4096 + R.val % 4096, by omega⟩ : Fin 16384) = R := Fin.ext (by show R.val / 4096 * 4096 + R.val % 4096 = R.val; omega)
  have hs : ∀ x : Fin 256, Ideal.div (∑ d : Fin 128, x0 (ix2 R ⟨5120 + (l.val / 128 * 128 + d.val), by omega⟩)
      * x1 (ix2 ⟨R.val / 4096 * 256 + x.val, by omega⟩ ⟨l.val / 128 * 128 + d.val, by omega⟩)) (Ideal.sqrt (Ideal.ofBits .f32 0x43000000#32))
      = ((Real.log 2 : ℝ) : EReal) * (logit (fun d => q' (lane l d)) (fun d => k' x (lane l d)) : EReal) := fun x => by
    rw [Finset.sum_congr rfl fun d _ => congrArg₂ (· * ·) (hq (lane l d)) (hk x (lane l d)), sqrt128, Ideal.div_coe sqrt_ne]
    simp only [← EReal.coe_mul]
    rw [← coe_sum, ← EReal.coe_mul]
    congr 1
    unfold logit
    have := log_two_ne
    field_simp
  simp only [hR, hs, neg_inf_eq]
  have hlog : ∀ y : EReal, Ideal.div 1 (1 + Ideal.exp (-y)) = Ideal.logistic y := fun _ => rfl
  rw [hlog]
  congr 1
  refine Eq.trans ?_ (softmax_row (fun x => (logit (fun d => q' (lane l d)) (fun d => k' x (lane l d)) : EReal)) (fun x => v' x l)
    (fun _ => EReal.coe_ne_top _) ⟨0, EReal.coe_ne_bot _⟩ _ (fun _ => rfl) rfl rfl)
  refine Finset.sum_congr rfl fun x _ => ?_
  rw [hv]
  exact mul_comm _ _

section Launch

open Cert.MemAttnIdeal Cert.MemAttnIdeal.Gen

variable (m : (ℓ : Loc nD τ sig) → Buf (Elt Ideal) ℓ)

theorem e0 : ∀ t : Fin cfg0.N, win0_0.index t = ![t.val, 10] := (by decide +kernel : ∀ t : Fin grid0.N, _)
theorem e1 : ∀ t : Fin cfg0.N, win0_1.index t = ![t.val, 11] := (by decide +kernel : ∀ t : Fin grid0.N, _)
theorem e2 : ∀ t : Fin cfg0.N, win0_2.index t = ![t.val / 2, 0] := (by decide +kernel : ∀ t : Fin grid0.N, _)
theorem e3 : ∀ t : Fin cfg0.N, win0_3.index t = ![t.val / 2, 1] := (by decide +kernel : ∀ t : Fin grid0.N, _)
theorem e4 : ∀ t : Fin cfg0.N, win0_4.index t = ![t.val, 0] := (by decide +kernel : ∀ t : Fin grid0.N, _)

/-- Where the queries and the second argument hold real numbers, the launch's result is the reference's. -/
theorem final (c : Dev nD) {z : Fin 16384 → Fin 512 → ℝ} {w : Fin 1024 → Fin 1024 → ℝ}
    (hz : ∀ i d, m ((c : Thread nD τ).loc main_arg0) (ix2 i ⟨5120 + d.val, by omega⟩) = (z i d : EReal))
    (hw : ∀ i d, m ((c : Thread nD τ).loc main_arg1) (ix2 i d) = (w i d : EReal)) :
    (dats m 0 c).arrAt 4 cfg0.N
      = val_main_v35 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  have hy : ∃ (r : Fin 2048) (l : Fin 512), y = ix2 r l := ⟨y 0, y 1, funext fun a => by fin_cases a <;> rfl⟩
  obtain ⟨r, l, rfl⟩ := hy
  have ht : t.val < 8 := t.isLt
  have he : (win0_4.blk t).view.emb (ix2 r l) = ix2 (⟨t.val * 2048 + r.val, by omega⟩ : Fin 16384) l := by blk_ext [e4]
  rw [he]
  rw [out_apply (q' := fun d => z ⟨t.val * 2048 + r.val, by omega⟩ d)
      (k' := fun x d => w ⟨t.val / 2 * 256 + x.val, by omega⟩ ⟨d.val, by omega⟩)
      (v' := fun x d => w ⟨t.val / 2 * 256 + x.val, by omega⟩ ⟨512 + d.val, by omega⟩) r l ?_ ?_ ?_,
    ref_apply (q' := fun d => z ⟨t.val * 2048 + r.val, by omega⟩ d)
      (k' := fun x d => w ⟨t.val / 2 * 256 + x.val, by omega⟩ ⟨d.val, by omega⟩)
      (v' := fun x d => w ⟨t.val / 2 * 256 + x.val, by omega⟩ ⟨512 + d.val, by omega⟩)
      ⟨t.val * 2048 + r.val, by omega⟩ l ?_ ?_ ?_]
  · have hg : iblk m c 1 t (ix2 r l) = m ((c : Thread nD τ).loc main_arg0) (ix2 (⟨t.val * 2048 + r.val, by omega⟩ : Fin 16384) ⟨5632 + l.val, by omega⟩) := by
      blk_simp [iblk]
      exact congrArg _ (by blk_ext [e1])
    rw [hg]
  · intro d; exact hz _ d
  · intro x d
    rw [← hw]
    exact congrArg _ (by blk_ext [])
  · intro x d
    rw [← hw]
    exact congrArg _ (by blk_ext [])
  · intro d
    rw [← hz]
    blk_simp [iblk]
    exact congrArg _ (by blk_ext [e0])
  · intro x d
    rw [← hw]
    blk_simp [iblk]
    exact congrArg _ (by blk_ext [e2])
  · intro x d
    rw [← hw]
    blk_simp [iblk]
    exact congrArg _ (by blk_ext [e3])

instance : Subsingleton Pre_mem_inputs.S_.Idx := ⟨fun _ _ => funext fun a => a.elim0⟩

theorem lt_top_of_cmp {x : EReal} (h : Ideal.cmp .olt (max x (-x)) (Ideal.ofBits .f32 0x7F800000#32) = 1#1) : max x (-x) < ⊤ := by
  rw [pos_inf_eq] at h
  by_contra hn
  simp [Ideal.cmp, hn] at h

/-- What the precondition says: the queries and the second argument hold no infinite number. -/
theorem inputs_real {x0 : Vec Ideal Pre_mem_inputs.S16384x12288 .bf16} {x1 : Vec Ideal Pre_mem_inputs.S1024x1024 .bf16}
    (h : Pre_mem_inputs.fn (F := Ideal) x0 x1 = fun _ => 1#1) :
    (∀ (i : Fin 16384) (d : Fin 512), x0 (ix2 i ⟨5120 + d.val, by omega⟩) = ((x0 (ix2 i ⟨5120 + d.val, by omega⟩)).toReal : EReal))
      ∧ ∀ i d : Fin 1024, x1 (ix2 i d) = ((x1 (ix2 i d)).toReal : EReal) := by
  have h' := congrFun h (fun a => a.elim0)
  unfold Pre_mem_inputs.fn at h'
  dsimp only at h'
  obtain ⟨ha, hb⟩ := IntOp.andi_eq_one.1 h'
  refine ⟨fun i d => ?_, fun i d => ?_⟩
  · have e := Host.reduce_andi_all _ _ _ _ _ ha (ix2 i d)
    pointwise at e
    exact coe_toReal_of_abs (lt_top_of_cmp e)
  · have e := Host.reduce_andi_all _ _ _ _ _ hb (ix2 i d)
    exact coe_toReal_of_abs (lt_top_of_cmp e)

theorem algebraic : Cert.algebraic_MemAttnIdeal_MemAttnReferenceIdeal_pre_mem_inputs := by
  intro m ρ m' ρ' hpre hagree
  refine ⟨fun c => (dats m 0 c).arrAt 4 cfg0.N, Cert.MemAttnIdeal.Value.run_blocks m ρ, ?_⟩
  refine (θ_run Cert.MemAttnReferenceIdeal.defs _ _).mono (fun _ h c => ⟨(h c).1.trans ?_, (h c).2⟩)
    (Cert.MemAttnReferenceIdeal.Value.run (F := Ideal) m' ρ')
  rw [val_main_v35_eq, (hagree c).1, (hagree c).2]
  exact (final m c (inputs_real (hpre c)).1 (inputs_real (hpre c)).2).symm

end Launch

end Cert.MemAttnClaims

end
-- ==== Proof.lean ====
module

public import proofs.«01_k».proof.Defs
public import proofs.«01_k».proof.Proof.Gen.Fox.Frame
public import proofs.«01_k».proof.Proof.Gen.FoxReferenceIdeal.Run
public import proofs.«01_k».proof.Proof.FoxClaim
public import proofs.«01_k».proof.Proof.Gen.Pre_fox_inputs
public import proofs.«01_k».proof.Proof.Gen.InProjReferenceIdeal.Run
public import proofs.«01_k».proof.Proof.InProjClaim
public import proofs.«01_k».proof.Proof.InProjFrame
public import proofs.«01_k».proof.Proof.Gen.InProjLastReferenceIdeal.Run
public import proofs.«01_k».proof.Proof.InProjLastClaim
public import proofs.«01_k».proof.Proof.InProjLastFrame
public import proofs.«01_k».proof.Proof.Gen.MergeFirst.Frame
public import proofs.«01_k».proof.Proof.Gen.MergeFirstReferenceIdeal.Run
public import proofs.«01_k».proof.Proof.MergeFirstClaim
public import proofs.«01_k».proof.Proof.Gen.Merge.Frame
public import proofs.«01_k».proof.Proof.Gen.MergeReferenceIdeal.Run
public import proofs.«01_k».proof.Proof.MergeClaim
public import proofs.«01_k».proof.Proof.Gen.MemAttn.Frame
public import proofs.«01_k».proof.Proof.Gen.MemAttnReferenceIdeal.Run
public import proofs.«01_k».proof.Proof.MemClaim
public import proofs.«01_k».proof.Proof.Gen.Pre_mem_inputs

@[expose] public section

noncomputable section

namespace Cert.Proof

open Idealize.ShloMosaic Idealize.SL.Sem

theorem claim : Cert.Claim :=
  ⟨Cert.Fox.Gen.facts, Cert.FoxIdeal.Gen.facts, Cert.FoxReferenceIdeal.Gen.facts, Cert.InProj.Gen.facts, Cert.InProjIdeal.Gen.facts, Cert.InProjReferenceIdeal.Gen.facts, Cert.InProjLast.Gen.facts, Cert.InProjLastIdeal.Gen.facts, Cert.InProjLastReferenceIdeal.Gen.facts, Cert.MergeFirst.Gen.facts, Cert.MergeFirstIdeal.Gen.facts, Cert.MergeFirstReferenceIdeal.Gen.facts, Cert.Merge.Gen.facts, Cert.MergeIdeal.Gen.facts, Cert.MergeReferenceIdeal.Gen.facts, Cert.MemAttn.Gen.facts, Cert.MemAttnIdeal.Gen.facts, Cert.MemAttnReferenceIdeal.Gen.facts, Cert.Pre_fox_inputs.Gen.facts, Cert.Pre_mem_inputs.Gen.facts,
    fun m g _ => Cert.Fox.Gen.frame m g,
    fun m g _ => Cert.FoxIdeal.Gen.frame m g,
    fun m g _ => Cert.FoxIdeal.Gen.frame m g,
    fun m g _ => (θ_run Cert.FoxReferenceIdeal.defs _ _).mono (fun r h => ⟨fun c => (h c).2, sem_eq_zero_of_no_sems (by decide) r.2⟩)
      (Cert.FoxReferenceIdeal.Value.run (F := Ideal) m g),
    fun m g _ => (θ_run Cert.FoxReferenceIdeal.defs _ _).mono (fun r h => ⟨fun c => (h c).2, sem_eq_zero_of_no_sems (by decide) r.2⟩)
      (Cert.FoxReferenceIdeal.Value.run (F := Ideal) m g),
    fun m g _ => Cert.InProj.Hand.frame m g,
    fun m g _ => Cert.InProjIdeal.Hand.frame m g,
    fun m g _ => (θ_run Cert.InProjReferenceIdeal.defs _ _).mono (fun r h => ⟨fun c => (h c).2.2, sem_eq_zero_of_no_sems (by decide) r.2⟩)
      (Cert.InProjReferenceIdeal.Value.run (F := Ideal) m g),
    fun m g _ => Cert.InProjLast.Hand.frame m g,
    fun m g _ => Cert.InProjLastIdeal.Hand.frame m g,
    fun m g _ => (θ_run Cert.InProjLastReferenceIdeal.defs _ _).mono (fun r h => ⟨fun c => (h c).2.2, sem_eq_zero_of_no_sems (by decide) r.2⟩)
      (Cert.InProjLastReferenceIdeal.Value.run (F := Ideal) m g),
    fun m g _ => Cert.MergeFirst.Gen.frame m g,
    fun m g _ => Cert.MergeFirstIdeal.Gen.frame m g,
    fun m g _ => (θ_run Cert.MergeFirstReferenceIdeal.defs _ _).mono (fun r h => ⟨fun c => (h c).2, sem_eq_zero_of_no_sems (by decide) r.2⟩)
      (Cert.MergeFirstReferenceIdeal.Value.run (F := Ideal) m g),
    fun m g _ => Cert.Merge.Gen.frame m g,
    fun m g _ => Cert.MergeIdeal.Gen.frame m g,
    fun m g _ => (θ_run Cert.MergeReferenceIdeal.defs _ _).mono (fun r h => ⟨fun c => (h c).2, sem_eq_zero_of_no_sems (by decide) r.2⟩)
      (Cert.MergeReferenceIdeal.Value.run (F := Ideal) m g),
    fun m g _ => Cert.MemAttn.Gen.frame m g,
    fun m g _ => Cert.MemAttnIdeal.Gen.frame m g,
    fun m g _ => Cert.MemAttnIdeal.Gen.frame m g,
    fun m g _ => (θ_run Cert.MemAttnReferenceIdeal.defs _ _).mono (fun r h => ⟨fun c => (h c).2, sem_eq_zero_of_no_sems (by decide) r.2⟩)
      (Cert.MemAttnReferenceIdeal.Value.run (F := Ideal) m g),
    fun m g _ => (θ_run Cert.MemAttnReferenceIdeal.defs _ _).mono (fun r h => ⟨fun c => (h c).2, sem_eq_zero_of_no_sems (by decide) r.2⟩)
      (Cert.MemAttnReferenceIdeal.Value.run (F := Ideal) m g),
    IdealRules.named_const.statement Cert.FoxIdeal.κ "scale" .f32 0x3E38AA3B#32 _ (by simp [Cert.FoxIdeal.κ]),
    Cert.FoxClaims.algebraic,
    trivial,
    Cert.InProjClaims.algebraic,
    trivial,
    Cert.InProjLastClaims.algebraic,
    trivial,
    Cert.MergeFirstClaims.algebraic,
    trivial,
    Cert.MergeClaims.algebraic,
    IdealRules.named_const.statement Cert.MemAttnIdeal.κ "scale" .f32 0x3E0293EE#32 _ (by simp [Cert.MemAttnIdeal.κ]),
    Cert.MemAttnClaims.algebraic⟩

end Cert.Proof

end
